-- ==== Defs.lean ====
def Pre_Kernel [hPre_tables : Cert.Pre_tables.Facts] (m : (ℓ : Loc Cert.Kernel.nD Cert.Kernel.τ Cert.Kernel.sig) → Buf (Elt Bits) ℓ) : Prop :=
  ∀ c : Dev Cert.Kernel.nD,
    (Cert.Pre_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_tables : Cert.Pre_tables.Facts] (m : (ℓ : Loc Cert.KernelIdeal.nD Cert.KernelIdeal.τ Cert.KernelIdeal.sig) → Buf (Elt Ideal) ℓ) : Prop :=
  ∀ c : Dev Cert.KernelIdeal.nD,
    (Cert.Pre_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables [hPre_tables : Cert.Pre_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_tables : Cert.Pre_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_tables [hReferenceIdeal : Cert.ReferenceIdeal.Facts] [hPre_tables : Cert.Pre_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables : Cert.Pre_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)) (v6 : (c : Dev Cert.Kernel2Ideal.nD) → Buf (Elt Ideal) ((c.tc : Thread Cert.Kernel2Ideal.nD Cert.Kernel2Ideal.τ).loc Cert.Kernel2Ideal.main_v24_6)) (v7 : (c : Dev Cert.Kernel2Ideal.nD) → Buf (Elt Ideal) ((c.tc : Thread Cert.Kernel2Ideal.nD Cert.Kernel2Ideal.τ).loc Cert.Kernel2Ideal.main_v24_7)) (v8 : (c : Dev Cert.Kernel2Ideal.nD) → Buf (Elt Ideal) ((c.tc : Thread Cert.Kernel2Ideal.nD Cert.Kernel2Ideal.τ).loc Cert.Kernel2Ideal.main_v24_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_v24_6) = v6 c
          ∧ r.2.mem ((c.tc : Thread Cert.Kernel2Ideal.nD Cert.Kernel2Ideal.τ).loc Cert.Kernel2Ideal.main_v24_7) = v7 c
          ∧ r.2.mem ((c.tc : Thread Cert.Kernel2Ideal.nD Cert.Kernel2Ideal.τ).loc Cert.Kernel2Ideal.main_v24_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v70) = v0 c
          ∧ r.2.mem ((c.tc : Thread Cert.Reference2Ideal.nD Cert.Reference2Ideal.τ).loc Cert.Reference2Ideal.main_v89) = v1 c
          ∧ r.2.mem ((c.tc : Thread Cert.Reference2Ideal.nD Cert.Reference2Ideal.τ).loc Cert.Reference2Ideal.main_v90) = v2 c
          ∧ r.2.mem ((c.tc : Thread Cert.Reference2Ideal.nD Cert.Reference2Ideal.τ).loc Cert.Reference2Ideal.main_v111) = v3 c
          ∧ r.2.mem ((c.tc : Thread Cert.Reference2Ideal.nD Cert.Reference2Ideal.τ).loc Cert.Reference2Ideal.main_v113) = v4 c
          ∧ r.2.mem ((c.tc : Thread Cert.Reference2Ideal.nD Cert.Reference2Ideal.τ).loc Cert.Reference2Ideal.main_v115) = v5 c
          ∧ r.2.mem ((c.tc : Thread Cert.Reference2Ideal.nD Cert.Reference2Ideal.τ).loc Cert.Reference2Ideal.main_v49) = v6 c
          ∧ r.2.mem ((c.tc : Thread Cert.Reference2Ideal.nD Cert.Reference2Ideal.τ).loc Cert.Reference2Ideal.main_v20) = v7 c
          ∧ r.2.mem ((c.tc : Thread Cert.Reference2Ideal.nD Cert.Reference2Ideal.τ).loc Cert.Reference2Ideal.main_v118) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_tables : Cert.Pre_tables.Facts),
    quiescent_Kernel (hKernel := hKernel) (hPre_tables := hPre_tables)
    ∧ quiescent_KernelIdeal (hKernelIdeal := hKernelIdeal) (hPre_tables := hPre_tables)
    ∧ quiescent_ReferenceIdeal (hReferenceIdeal := hReferenceIdeal)
    ∧ quiescent_ReferenceIdeal_pre_tables (hReferenceIdeal := hReferenceIdeal) (hPre_tables := hPre_tables)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_tables := hPre_tables)
    ∧ preserves_Kernel2_Kernel2Ideal
    ∧ algebraic_Kernel2Ideal_Reference2Ideal (hKernel2Ideal := hKernel2Ideal) (hReference2Ideal := hReference2Ideal)
-- ==== Pre_tables.lean ====
abbrev S288 : Shape := ⟨1, ![288]⟩
abbrev S1 : Shape := ⟨1, ![1]⟩
abbrev S589824x128 : Shape := ⟨2, ![589824, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S287 : Shape := ⟨1, ![287]⟩
abbrev S_ : Shape := ⟨0, ![]⟩

class Facts : Prop where
  slices_S288_S287_1 : S288.Slices ![1] S287
  slices_S288_S287_0 : S288.Slices ![0] S287
  bcast_S_S288 : S_.BroadcastsInDim S288 (![] : Fin 0 → Fin S288.rank)
  reducesTo_S288_S_d0 : S288.ReducesTo [0] S_
  h_S_ : 0 < S_.numel
  slices_S288_S1_0 : S288.Slices ![0] S1
  shapeCasts_S1_S_ : S1.ShapeCasts S_
  bcast_S_S287 : S_.BroadcastsInDim S287 (![] : Fin 0 → Fin S287.rank)
  reducesTo_S287_S_d0 : S287.ReducesTo [0] S_
  slices_S288_S1_287 : S288.Slices ![287] S1

variable [Facts]

def fn_where {F : FTy → Type} [FloatOps F] (arg0 : IVec S287 1) (arg1 : IVec S287 1) (arg2 : IVec S287 1) : IVec S287 1 :=
  let v0 : IVec S287 1 := select arg0 arg1 arg2
  v0

def fn_part2 {F : FTy → Type} [FloatOps F] (main_arg0 : IVec S288 32) (main_arg2 : IVec S288 32) (main_arg3 : IVec S288 32) (main_v2 : IVec S287 1) (main_v31 : IVec S_ 1) (main_v34 : IVec S287 1) (main_v35 : IVec S287 32) (main_v36 : IVec S287 32) : IVec S_ 1 :=
  let main_v37 : IVec S287 1 := cmpi .eq main_v35 main_v36
  let main_v38 : IVec S287 1 := andi main_v34 main_v37
  let main_v39 : IVec S287 32 := (extractStridedSlice S287 ![1] · slices_S288_S287_1) main_arg2
  let main_v40 : IVec S287 32 := (extractStridedSlice S287 ![0] · slices_S288_S287_0) main_arg2
  let main_v41 : IVec S287 32 := addi main_v39 main_v40
  let main_c_10 : IVec S_ 32 := constantI S_ 32 1#32
  let main_v42 : IVec S287 32 := broadcastInDim S287 ![] bcast_S_S287 main_c_10
  let main_v43 : IVec S287 1 := cmpi .eq main_v41 main_v42
  let main_v44 : IVec S287 32 := (extractStridedSlice S287 ![0] · slices_S288_S287_0) main_arg3
  let main_v45 : IVec S287 32 := (extractStridedSlice S287 ![1] · slices_S288_S287_1) main_arg0
  let main_v46 : IVec S287 1 := cmpi .eq main_v44 main_v45
  let main_v47 : IVec S287 1 := andi main_v43 main_v46
  let main_v48 : IVec S287 1 := fn_where (F := F) main_v2 main_v38 main_v47
  let main_c_11 : IVec S_ 1 := constantI S_ 1 1#1
  let main_v49 : IVec S_ 1 := (fun x v => Host.reduce IntOp.andi x v reducesTo_S287_S_d0 h_S_) main_v48 main_c_11
  let main_v50 : IVec S_ 1 := andi main_v31 main_v49
  let main_v51 : IVec S1 32 := (extractStridedSlice S1 ![287] · slices_S288_S1_287) main_arg3
  let main_v52 : IVec S_ 32 := shapeCast S_ main_v51 shapeCasts_S1_S_
  let main_c_12 : IVec S_ 32 := constantI S_ 32 4294967295#32
  let main_v53 : IVec S_ 1 := cmpi .eq main_v52 main_c_12
  let main_v54 : IVec S_ 1 := andi main_v50 main_v53
  main_v54

def fn_part1 {F : FTy → Type} [FloatOps F] (main_arg0 : IVec S288 32) (main_arg1 : IVec S1 32) (main_arg2 : IVec S288 32) (main_arg3 : IVec S288 32) (main_v2 : IVec S287 1) (main_v14 : IVec S_ 1) (main_v16 : IVec S288 1) (main_c_5 : IVec S_ 32) : IVec S_ 1 :=
  let main_v17 : IVec S288 32 := broadcastInDim S288 ![] bcast_S_S288 main_c_5
  let main_v18 : IVec S288 1 := cmpi .eq main_arg2 main_v17
  let main_v19 : IVec S288 1 := ori main_v16 main_v18
  let main_c_6 : IVec S_ 1 := constantI S_ 1 1#1
  let main_v20 : IVec S_ 1 := (fun x v => Host.reduce IntOp.andi x v reducesTo_S288_S_d0 h_S_) main_v19 main_c_6
  let main_v21 : IVec S_ 1 := andi main_v14 main_v20
  let main_v22 : IVec S1 32 := (extractStridedSlice S1 ![0] · slices_S288_S1_0) main_arg2
  let main_v23 : IVec S_ 32 := shapeCast S_ main_v22 shapeCasts_S1_S_
  let main_c_7 : IVec S_ 32 := constantI S_ 32 0#32
  let main_v24 : IVec S_ 1 := cmpi .eq main_v23 main_c_7
  let main_v25 : IVec S_ 1 := andi main_v21 main_v24
  let main_v26 : IVec S_ 32 := shapeCast S_ main_arg1 shapeCasts_S1_S_
  let main_c_8 : IVec S_ 32 := constantI S_ 32 1#32
  let main_v27 : IVec S_ 1 := cmpi .sge main_v26 main_c_8
  let main_v28 : IVec S_ 32 := shapeCast S_ main_arg1 shapeCasts_S1_S_
  let main_c_9 : IVec S_ 32 := constantI S_ 32 288#32
  let main_v29 : IVec S_ 1 := cmpi .sle main_v28 main_c_9
  let main_v30 : IVec S_ 1 := andi main_v27 main_v29
  let main_v31 : IVec S_ 1 := andi main_v25 main_v30
  let main_v32 : IVec S287 32 := (extractStridedSlice S287 ![1] · slices_S288_S287_1) main_arg2
  let main_v33 : IVec S287 32 := (extractStridedSlice S287 ![0] · slices_S288_S287_0) main_arg2
  let main_v34 : IVec S287 1 := cmpi .eq main_v32 main_v33
  let main_v35 : IVec S287 32 := (extractStridedSlice S287 ![1] · slices_S288_S287_1) main_arg3
  let main_v36 : IVec S287 32 := (extractStridedSlice S287 ![0] · slices_S288_S287_0) main_arg3
  fn_part2 (F := F) main_arg0 main_arg2 main_arg3 main_v2 main_v31 main_v34 main_v35 main_v36

def fn {F : FTy → Type} [FloatOps F] (main_arg0 : IVec S288 32) (main_arg1 : IVec S1 32) (main_arg2 : IVec S288 32) (main_arg3 : IVec S288 32) (main_arg4 : FVec F S589824x128 .f32) (main_arg5 : FVec F S32x1024x2048 .f32) (main_arg6 : FVec F S32x1x2048 .f32) (main_arg7 : FVec F S32x1024x1024 .f32) (main_arg8 : FVec F S32x1x1024 .f32) : IVec S_ 1 :=
  let main_v0 : IVec S287 32 := (extractStridedSlice S287 ![1] · slices_S288_S287_1) main_arg0
  let main_v1 : IVec S287 32 := (extractStridedSlice S287 ![0] · slices_S288_S287_0) main_arg0
  let main_v2 : IVec S287 1 := cmpi .eq main_v0 main_v1
  let main_c : IVec S_ 32 := constantI S_ 32 0#32
  let main_v3 : IVec S288 32 := broadcastInDim S288 ![] bcast_S_S288 main_c
  let main_v4 : IVec S288 1 := cmpi .sge main_arg0 main_v3
  let main_c_0 : IVec S_ 32 := constantI S_ 32 32#32
  let main_v5 : IVec S288 32 := broadcastInDim S288 ![] bcast_S_S288 main_c_0
  let main_v6 : IVec S288 1 := cmpi .slt main_arg0 main_v5
  let main_v7 : IVec S288 1 := andi main_v4 main_v6
  let main_c_1 : IVec S_ 32 := constantI S_ 32 4294967295#32
  let main_v8 : IVec S288 32 := broadcastInDim S288 ![] bcast_S_S288 main_c_1
  let main_v9 : IVec S288 1 := cmpi .sge main_arg3 main_v8
  let main_v10 : IVec S288 1 := andi main_v7 main_v9
  let main_c_2 : IVec S_ 32 := constantI S_ 32 32#32
  let main_v11 : IVec S288 32 := broadcastInDim S288 ![] bcast_S_S288 main_c_2
  let main_v12 : IVec S288 1 := cmpi .slt main_arg3 main_v11
  let main_v13 : IVec S288 1 := andi main_v10 main_v12
  let main_c_3 : IVec S_ 1 := constantI S_ 1 1#1
  let main_v14 : IVec S_ 1 := (fun x v => Host.reduce IntOp.andi x v reducesTo_S288_S_d0 h_S_) main_v13 main_c_3
  let main_c_4 : IVec S_ 32 := constantI S_ 32 0#32
  let main_v15 : IVec S288 32 := broadcastInDim S288 ![] bcast_S_S288 main_c_4
  let main_v16 : IVec S288 1 := cmpi .eq main_arg2 main_v15
  let main_c_5 : IVec S_ 32 := constantI S_ 32 1#32
  fn_part1 (F := F) main_arg0 main_arg1 main_arg2 main_arg3 main_v2 main_v14 main_v16 main_c_5
-- ==== Kernel.lean ====
abbrev S288 : Shape := ⟨1, ![288]⟩
abbrev S1 : Shape := ⟨1, ![1]⟩
abbrev S589824x128 : Shape := ⟨2, ![589824, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S2048x128 : Shape := ⟨2, ![2048, 128]⟩
abbrev S1x1x2048 : Shape := ⟨3, ![1, 1, 2048]⟩
abbrev S1x1x1024 : Shape := ⟨3, ![1, 1, 1024]⟩
abbrev S2x1024x2048 : Shape := ⟨3, ![2, 1024, 2048]⟩
abbrev S2x1024x1024 : Shape := ⟨3, ![2, 1024, 1024]⟩
abbrev S1024x2048 : Shape := ⟨2, ![1024, 2048]⟩
abbrev S1024x1024 : Shape := ⟨2, ![1024, 1024]⟩
abbrev S2x2 : Shape := ⟨2, ![2, 2]⟩
abbrev S1x1 : Shape := ⟨2, ![1, 1]⟩
abbrev S_ : Shape := ⟨0, ![]⟩
abbrev S1x1024x2048 : Shape := ⟨3, ![1, 1024, 2048]⟩
abbrev S1x1024x1024 : Shape := ⟨3, ![1, 1024, 1024]⟩
abbrev S256x128 : Shape := ⟨2, ![256, 128]⟩
abbrev S256x1024 : Shape := ⟨2, ![256, 1024]⟩
abbrev S1024x256 : Shape := ⟨2, ![1024, 256]⟩
abbrev S256x256 : Shape := ⟨2, ![256, 256]⟩
abbrev S1x1x256 : Shape := ⟨3, ![1, 1, 256]⟩
abbrev S1x256 : Shape := ⟨2, ![1, 256]⟩
abbrev S1x1024 : Shape := ⟨2, ![1, 1024]⟩

abbrev nBuf : Space → Nat
  | .hbm => 6
  | .vmem => 12
  | .smem => 4
  | _ => 0

abbrev bufTy : (tb : Table) → Fin (tcTables nBuf tb) → BufTy
  | .hbm, ⟨0, _⟩ => ⟨S589824x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S589824x128, .f32⟩
  | .local _ .vmem, ⟨0, _⟩ => ⟨S2048x128, .f32⟩
  | .local _ .vmem, ⟨1, _⟩ => ⟨S2048x128, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S2048x128, .f32⟩
  | .local _ .vmem, ⟨7, _⟩ => ⟨S2048x128, .f32⟩
  | .local _ .vmem, ⟨8, _⟩ => ⟨S2x1024x2048, .f32⟩
  | .local _ .vmem, ⟨9, _⟩ => ⟨S2x1024x1024, .f32⟩
  | .local _ .vmem, ⟨10, _⟩ => ⟨S1024x2048, .bf16⟩
  | .local _ .vmem, ⟨11, _⟩ => ⟨S1024x1024, .bf16⟩
  | .local _ .smem, ⟨0, _⟩ => ⟨S288, .i32⟩
  | .local _ .smem, ⟨1, _⟩ => ⟨S1, .i32⟩
  | .local _ .smem, ⟨2, _⟩ => ⟨S288, .i32⟩
  | .local _ .smem, ⟨3, _⟩ => ⟨S288, .i32⟩
  | _, _ => ⟨S589824x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![288], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off2 (v24 : BitVec 32) : Fin 3 → Nat :=
  let c0_i32_13 : BitVec 32 := 0#32
  let c0_i32_14 : BitVec 32 := 0#32
  ![v24.toNat, 0, 0]

def k0_off3 (v24 : BitVec 32) : Fin 3 → Nat :=
  let c0_i32_20 : BitVec 32 := 0#32
  let c0_i32_21 : BitVec 32 := 0#32
  ![v24.toNat, 0, 0]

def k0_chk1 (i : grid0.Coords) (v24 : BitVec 32) : Prop :=
  (∀ (k0_h1 : k0_cond1 i = 1#1), ∀ a, (k0_off2 v24) a + S1x1024x2048.size a ≤ S32x1024x2048.size a) ∧
  (∀ (k0_h1 : k0_cond1 i = 1#1), ∀ a, (k0_off3 v24) a + S1x1024x1024.size a ≤ S32x1024x1024.size a)
theorem k0_off2_inb : ∀ (i : grid0.Coords) (v24 : BitVec 32) (k0_hw1 : k0_chk1 i v24), ∀ (k0_h1 : k0_cond1 i = 1#1), ∀ a, (k0_off2 v24) a + S1x1024x2048.size a ≤ S32x1024x2048.size a := fun i v24 k0_hw1 k0_h1 => k0_hw1.1 k0_h1
theorem k0_off3_inb : ∀ (i : grid0.Coords) (v24 : BitVec 32) (k0_hw1 : k0_chk1 i v24), ∀ (k0_h1 : k0_cond1 i = 1#1), ∀ a, (k0_off3 v24) a + S1x1024x1024.size a ≤ S32x1024x1024.size a := fun i v24 k0_hw1 k0_h1 => k0_hw1.2 k0_h1

def k0_off4 (i : grid0.Coords) : Fin 1 → Nat :=
  let arg0 : BitVec 32 := BitVec.ofNat 32 (i 0).val
  let c1_i32 : BitVec 32 := 1#32
  let v8 : BitVec 32 := Scalar.subi arg0 c1_i32
  let c0_i32_2 : BitVec 32 := 0#32
  let v9 : BitVec 32 := Scalar.maxsi v8 c0_i32_2
  let v10 : Index := Scalar.indexCast v9
  ![v10.toNat]
def k0_off5 (i : grid0.Coords) : Fin 1 → Nat :=
  let arg0 : BitVec 32 := BitVec.ofNat 32 (i 0).val
  let v24 : Index := Scalar.indexCast arg0
  ![v24.toNat]
def k0_off6 (v1 : BitVec 32) : Fin 2 → Nat :=
  let c0_i32_7 : BitVec 32 := 0#32
  ![0, v1.toNat]
def k0_cond2 (i : grid0.Coords) (v7 : BitVec 32) (v11 : BitVec 32) : BitVec 1 :=
  let arg0 : BitVec 32 := BitVec.ofNat 32 (i 0).val
  let c0_i32_1 : BitVec 32 := 0#32
  let v5 : BitVec 1 := Scalar.cmpi .eq arg0 c0_i32_1
  let v12 : BitVec 1 := Scalar.cmpi .ne v7 v11
  let v13 : BitVec 1 := Scalar.ori v5 v12
  let v14 : BitVec 32 := Scalar.extui v13
  let c0_i32_3 : BitVec 32 := 0#32
  let v15 : BitVec 1 := Scalar.cmpi .ne v14 c0_i32_3
  v15

def k0_off7 (v1 : BitVec 32) : Fin 3 → Nat :=
  let c0_i32_8 : BitVec 32 := 0#32
  let c0_i32_9 : BitVec 32 := 0#32
  ![v1.toNat, 0, 0]
def k0_off8 (v25 : BitVec 32) : Fin 3 → Nat :=
  let c0_i32_10 : BitVec 32 := 0#32
  let c0_i32_11 : BitVec 32 := 0#32
  ![v25.toNat, 0, 0]

def k0_off9 (v1 : BitVec 32) : Fin 2 → Nat :=
  let c1_i32_12 : BitVec 32 := 1#32
  ![1, v1.toNat]
def k0_off10 (v1 : BitVec 32) : Fin 3 → Nat :=
  let c0_i32_13 : BitVec 32 := 0#32
  let c0_i32_14 : BitVec 32 := 0#32
  ![v1.toNat, 0, 0]
def k0_off11 (v25 : BitVec 32) : Fin 3 → Nat :=
  let c0_i32_15 : BitVec 32 := 0#32
  let c0_i32_16 : BitVec 32 := 0#32
  ![v25.toNat, 0, 0]

def k0_chk3 (i : grid0.Coords) (v7 : BitVec 32) (v11 : BitVec 32) (v25 : BitVec 32) : Prop :=
  (∀ (k0_h2 : k0_cond2 i v7 v11 = 1#1), ∀ a, (k0_off8 v25) a + S1x1024x2048.size a ≤ S32x1024x2048.size a) ∧
  (∀ (k0_h2 : k0_cond2 i v7 v11 = 1#1), ∀ a, (k0_off11 v25) a + S1x1024x1024.size a ≤ S32x1024x1024.size a)
theorem k0_off8_inb : ∀ (i : grid0.Coords) (v7 : BitVec 32) (v11 : BitVec 32) (v25 : BitVec 32) (k0_hw3 : k0_chk3 i v7 v11 v25), ∀ (k0_h2 : k0_cond2 i v7 v11 = 1#1), ∀ a, (k0_off8 v25) a + S1x1024x2048.size a ≤ S32x1024x2048.size a := fun i v7 v11 v25 k0_hw3 k0_h2 => k0_hw3.1 k0_h2
theorem k0_off11_inb : ∀ (i : grid0.Coords) (v7 : BitVec 32) (v11 : BitVec 32) (v25 : BitVec 32) (k0_hw3 : k0_chk3 i v7 v11 v25), ∀ (k0_h2 : k0_cond2 i v7 v11 = 1#1), ∀ a, (k0_off11 v25) a + S1x1024x1024.size a ≤ S32x1024x1024.size a := fun i v7 v11 v25 k0_hw3 k0_h2 => k0_hw3.2 k0_h2

def k0_off12 (v1 : BitVec 32) : Fin 3 → Nat :=
  let v38 : Index := Scalar.indexCast v1
  let c0_17 : Index := 0#32
  let c0_18 : Index := 0#32
  ![v38.toNat, 0, 0]
def k0_off13 (v1 : BitVec 32) : Fin 3 → Nat :=
  let v45 : Index := Scalar.indexCast v1
  let c0_21 : Index := 0#32
  let c0_22 : Index := 0#32
  ![v45.toNat, 0, 0]

def k0_chk2 (i : grid0.Coords) (v1 : BitVec 32) (v7 : BitVec 32) (v11 : BitVec 32) : Prop :=
  (∀ (k0_h2 : k0_cond2 i v7 v11 = 1#1), ∀ a, (k0_off6 v1) a + S1x1.size a ≤ S2x2.size a) ∧
  (∀ (k0_h2 : k0_cond2 i v7 v11 = 1#1), ∀ a, (k0_off7 v1) a + S1x1024x2048.size a ≤ S2x1024x2048.size a) ∧
  (∀ (k0_h2 : k0_cond2 i v7 v11 = 1#1), ∀ a, (k0_off9 v1) a + S1x1.size a ≤ S2x2.size a) ∧
  (∀ (k0_h2 : k0_cond2 i v7 v11 = 1#1), ∀ a, (k0_off10 v1) a + S1x1024x1024.size a ≤ S2x1024x1024.size a) ∧
  (∀ (k0_h2 : k0_cond2 i v7 v11 = 1#1), ∀ a, (k0_off12 v1) a + S1x1024x2048.size a ≤ S2x1024x2048.size a) ∧
  (∀ (k0_h2 : k0_cond2 i v7 v11 = 1#1), ∀ a, (k0_off13 v1) a + S1x1024x1024.size a ≤ S2x1024x1024.size a)
theorem k0_off6_inb : ∀ (i : grid0.Coords) (v1 : BitVec 32) (v7 : BitVec 32) (v11 : BitVec 32) (k0_hw2 : k0_chk2 i v1 v7 v11), ∀ (k0_h2 : k0_cond2 i v7 v11 = 1#1), ∀ a, (k0_off6 v1) a + S1x1.size a ≤ S2x2.size a := fun i v1 v7 v11 k0_hw2 k0_h2 => k0_hw2.1 k0_h2
theorem k0_off7_inb : ∀ (i : grid0.Coords) (v1 : BitVec 32) (v7 : BitVec 32) (v11 : BitVec 32) (k0_hw2 : k0_chk2 i v1 v7 v11), ∀ (k0_h2 : k0_cond2 i v7 v11 = 1#1), ∀ a, (k0_off7 v1) a + S1x1024x2048.size a ≤ S2x1024x2048.size a := fun i v1 v7 v11 k0_hw2 k0_h2 => k0_hw2.2.1 k0_h2
theorem k0_off9_inb : ∀ (i : grid0.Coords) (v1 : BitVec 32) (v7 : BitVec 32) (v11 : BitVec 32) (k0_hw2 : k0_chk2 i v1 v7 v11), ∀ (k0_h2 : k0_cond2 i v7 v11 = 1#1), ∀ a, (k0_off9 v1) a + S1x1.size a ≤ S2x2.size a := fun i v1 v7 v11 k0_hw2 k0_h2 => k0_hw2.2.2.1 k0_h2
theorem k0_off10_inb : ∀ (i : grid0.Coords) (v1 : BitVec 32) (v7 : BitVec 32) (v11 : BitVec 32) (k0_hw2 : k0_chk2 i v1 v7 v11), ∀ (k0_h2 : k0_cond2 i v7 v11 = 1#1), ∀ a, (k0_off10 v1) a + S1x1024x1024.size a ≤ S2x1024x1024.size a := fun i v1 v7 v11 k0_hw2 k0_h2 => k0_hw2.2.2.2.1 k0_h2
theorem k0_off12_inb : ∀ (i : grid0.Coords) (v1 : BitVec 32) (v7 : BitVec 32) (v11 : BitVec 32) (k0_hw2 : k0_chk2 i v1 v7 v11), ∀ (k0_h2 : k0_cond2 i v7 v11 = 1#1), ∀ a, (k0_off12 v1) a + S1x1024x2048.size a ≤ S2x1024x2048.size a := fun i v1 v7 v11 k0_hw2 k0_h2 => k0_hw2.2.2.2.2.1 k0_h2
theorem k0_off13_inb : ∀ (i : grid0.Coords) (v1 : BitVec 32) (v7 : BitVec 32) (v11 : BitVec 32) (k0_hw2 : k0_chk2 i v1 v7 v11), ∀ (k0_h2 : k0_cond2 i v7 v11 = 1#1), ∀ a, (k0_off13 v1) a + S1x1024x1024.size a ≤ S2x1024x1024.size a := fun i v1 v7 v11 k0_hw2 k0_h2 => k0_hw2.2.2.2.2.2 k0_h2

def k0_off14 (i : grid0.Coords) : Fin 1 → Nat :=
  let arg0 : BitVec 32 := BitVec.ofNat 32 (i 0).val
  let v52 : Index := Scalar.indexCast arg0
  ![v52.toNat]
def k0_off15 (i : grid0.Coords) : Fin 1 → Nat :=
  let arg0 : BitVec 32 := BitVec.ofNat 32 (i 0).val
  let v57 : Index := Scalar.indexCast arg0
  ![v57.toNat]
def k0_off16 (v1 : BitVec 32) : Fin 2 → Nat :=
  let c0_i32_28 : BitVec 32 := 0#32
  let c1_i32_27 : BitVec 32 := 1#32
  let v59 : BitVec 32 := Scalar.subi c1_i32_27 v1
  ![0, v59.toNat]
def k0_cond3 (v53 : BitVec 32) : BitVec 1 :=
  let c0_i32_25 : BitVec 32 := 0#32
  let v54 : BitVec 1 := Scalar.cmpi .sge v53 c0_i32_25
  let v55 : BitVec 32 := Scalar.extui v54
  let c0_i32_26 : BitVec 32 := 0#32
  let v56 : BitVec 1 := Scalar.cmpi .ne v55 c0_i32_26
  v56

def k0_off17 (v1 : BitVec 32) : Fin 3 → Nat :=
  let c1_i32_27 : BitVec 32 := 1#32
  let v59 : BitVec 32 := Scalar.subi c1_i32_27 v1
  let c0_i32_29 : BitVec 32 := 0#32
  let c0_i32_30 : BitVec 32 := 0#32
  ![v59.toNat, 0, 0]
def k0_off18 (v58 : BitVec 32) : Fin 3 → Nat :=
  let c0_i32_31 : BitVec 32 := 0#32
  let c0_i32_32 : BitVec 32 := 0#32
  ![v58.toNat, 0, 0]

def k0_off19 (v1 : BitVec 32) : Fin 2 → Nat :=
  let c1_i32_33 : BitVec 32 := 1#32
  let c1_i32_27 : BitVec 32 := 1#32
  let v59 : BitVec 32 := Scalar.subi c1_i32_27 v1
  ![1, v59.toNat]
def k0_off20 (v1 : BitVec 32) : Fin 3 → Nat :=
  let c1_i32_27 : BitVec 32 := 1#32
  let v59 : BitVec 32 := Scalar.subi c1_i32_27 v1
  let c0_i32_34 : BitVec 32 := 0#32
  let c0_i32_35 : BitVec 32 := 0#32
  ![v59.toNat, 0, 0]

def k0_chk4 (i : grid0.Coords) (v1 : BitVec 32) (v7 : BitVec 32) (v11 : BitVec 32) (v53 : BitVec 32) : Prop :=
  (∀ (k0_h2 : k0_cond2 i v7 v11 = 1#1), ∀ (k0_h3 : k0_cond3 v53 = 1#1), ∀ a, (k0_off16 v1) a + S1x1.size a ≤ S2x2.size a) ∧
  (∀ (k0_h2 : k0_cond2 i v7 v11 = 1#1), ∀ (k0_h3 : k0_cond3 v53 = 1#1), ∀ a, (k0_off17 v1) a + S1x1024x2048.size a ≤ S2x1024x2048.size a) ∧
  (∀ (k0_h2 : k0_cond2 i v7 v11 = 1#1), ∀ (k0_h3 : k0_cond3 v53 = 1#1), ∀ a, (k0_off19 v1) a + S1x1.size a ≤ S2x2.size a) ∧
  (∀ (k0_h2 : k0_cond2 i v7 v11 = 1#1), ∀ (k0_h3 : k0_cond3 v53 = 1#1), ∀ a, (k0_off20 v1) a + S1x1024x1024.size a ≤ S2x1024x1024.size a)
theorem k0_off16_inb : ∀ (i : grid0.Coords) (v1 : BitVec 32) (v7 : BitVec 32) (v11 : BitVec 32) (v53 : BitVec 32) (k0_hw4 : k0_chk4 i v1 v7 v11 v53), ∀ (k0_h2 : k0_cond2 i v7 v11 = 1#1), ∀ (k0_h3 : k0_cond3 v53 = 1#1), ∀ a, (k0_off16 v1) a + S1x1.size a ≤ S2x2.size a := fun i v1 v7 v11 v53 k0_hw4 k0_h2 k0_h3 => k0_hw4.1 k0_h2 k0_h3
theorem k0_off17_inb : ∀ (i : grid0.Coords) (v1 : BitVec 32) (v7 : BitVec 32) (v11 : BitVec 32) (v53 : BitVec 32) (k0_hw4 : k0_chk4 i v1 v7 v11 v53), ∀ (k0_h2 : k0_cond2 i v7 v11 = 1#1), ∀ (k0_h3 : k0_cond3 v53 = 1#1), ∀ a, (k0_off17 v1) a + S1x1024x2048.size a ≤ S2x1024x2048.size a := fun i v1 v7 v11 v53 k0_hw4 k0_h2 k0_h3 => k0_hw4.2.1 k0_h2 k0_h3
theorem k0_off19_inb : ∀ (i : grid0.Coords) (v1 : BitVec 32) (v7 : BitVec 32) (v11 : BitVec 32) (v53 : BitVec 32) (k0_hw4 : k0_chk4 i v1 v7 v11 v53), ∀ (k0_h2 : k0_cond2 i v7 v11 = 1#1), ∀ (k0_h3 : k0_cond3 v53 = 1#1), ∀ a, (k0_off19 v1) a + S1x1.size a ≤ S2x2.size a := fun i v1 v7 v11 v53 k0_hw4 k0_h2 k0_h3 => k0_hw4.2.2.1 k0_h2 k0_h3
theorem k0_off20_inb : ∀ (i : grid0.Coords) (v1 : BitVec 32) (v7 : BitVec 32) (v11 : BitVec 32) (v53 : BitVec 32) (k0_hw4 : k0_chk4 i v1 v7 v11 v53), ∀ (k0_h2 : k0_cond2 i v7 v11 = 1#1), ∀ (k0_h3 : k0_cond3 v53 = 1#1), ∀ a, (k0_off20 v1) a + S1x1024x1024.size a ≤ S2x1024x1024.size a := fun i v1 v7 v11 v53 k0_hw4 k0_h2 k0_h3 => k0_hw4.2.2.2 k0_h2 k0_h3

def k0_off21 (v58 : BitVec 32) : Fin 3 → Nat :=
  let c0_i32_36 : BitVec 32 := 0#32
  let c0_i32_37 : BitVec 32 := 0#32
  ![v58.toNat, 0, 0]

def k0_chk5 (i : grid0.Coords) (v7 : BitVec 32) (v11 : BitVec 32) (v53 : BitVec 32) (v58 : BitVec 32) : Prop :=
  (∀ (k0_h2 : k0_cond2 i v7 v11 = 1#1), ∀ (k0_h3 : k0_cond3 v53 = 1#1), ∀ a, (k0_off18 v58) a + S1x1024x2048.size a ≤ S32x1024x2048.size a) ∧
  (∀ (k0_h2 : k0_cond2 i v7 v11 = 1#1), ∀ (k0_h3 : k0_cond3 v53 = 1#1), ∀ a, (k0_off21 v58) a + S1x1024x1024.size a ≤ S32x1024x1024.size a)
theorem k0_off18_inb : ∀ (i : grid0.Coords) (v7 : BitVec 32) (v11 : BitVec 32) (v53 : BitVec 32) (v58 : BitVec 32) (k0_hw5 : k0_chk5 i v7 v11 v53 v58), ∀ (k0_h2 : k0_cond2 i v7 v11 = 1#1), ∀ (k0_h3 : k0_cond3 v53 = 1#1), ∀ a, (k0_off18 v58) a + S1x1024x2048.size a ≤ S32x1024x2048.size a := fun i v7 v11 v53 v58 k0_hw5 k0_h2 k0_h3 => k0_hw5.1 k0_h2 k0_h3
theorem k0_off21_inb : ∀ (i : grid0.Coords) (v7 : BitVec 32) (v11 : BitVec 32) (v53 : BitVec 32) (v58 : BitVec 32) (k0_hw5 : k0_chk5 i v7 v11 v53 v58), ∀ (k0_h2 : k0_cond2 i v7 v11 = 1#1), ∀ (k0_h3 : k0_cond3 v53 = 1#1), ∀ a, (k0_off21 v58) a + S1x1024x1024.size a ≤ S32x1024x1024.size a := fun i v7 v11 v53 v58 k0_hw5 k0_h2 k0_h3 => k0_hw5.2 k0_h2 k0_h3

def k0_cond4 (i : grid0.Coords) (v16 : BitVec 32) : BitVec 1 :=
  let arg0 : BitVec 32 := BitVec.ofNat 32 (i 0).val
  let v17 : BitVec 1 := Scalar.cmpi .slt arg0 v16
  let v18 : BitVec 32 := Scalar.extui v17
  let c0_i32_4 : BitVec 32 := 0#32
  let v19 : BitVec 1 := Scalar.cmpi .ne v18 c0_i32_4
  v19

def k0_cond5 (i : grid0.Coords) (v20 : BitVec 32) : BitVec 1 :=
  let arg0 : BitVec 32 := BitVec.ofNat 32 (i 0).val
  let v21 : BitVec 1 := Scalar.cmpi .sge arg0 v20
  let v22 : BitVec 32 := Scalar.extui v21
  let c0_i32_6 : BitVec 32 := 0#32
  let v23 : BitVec 1 := Scalar.cmpi .ne v22 c0_i32_6
  v23

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S288 : Shape := ⟨1, ![288]⟩
abbrev S1 : Shape := ⟨1, ![1]⟩
abbrev S589824x128 : Shape := ⟨2, ![589824, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x1x2048 : Shape := ⟨3, ![288, 1, 2048]⟩
abbrev S288x1024x1024 : Shape := ⟨3, ![288, 1024, 1024]⟩
abbrev S288x1x1024 : Shape := ⟨3, ![288, 1, 1024]⟩
abbrev S288x1x1 : Shape := ⟨3, ![288, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S288, .i32⟩
  | .hbm, ⟨3, _⟩ => ⟨S288, .i32⟩
  | .hbm, ⟨4, _⟩ => ⟨S589824x128, .f32⟩
  | .hbm, ⟨5, _⟩ => ⟨S32x1024x2048, .f32⟩
  | .hbm, ⟨6, _⟩ => ⟨S32x1x2048, .f32⟩
  | .hbm, ⟨7, _⟩ => ⟨S32x1024x1024, .f32⟩
  | .hbm, ⟨8, _⟩ => ⟨S32x1x1024, .f32⟩
  | .hbm, ⟨9, _⟩ => ⟨S288x256x1024, .f32⟩
  | .hbm, ⟨10, _⟩ => ⟨S_, .i32⟩
  | .hbm, ⟨11, _⟩ => ⟨S288, .i32⟩
  | .hbm, ⟨12, _⟩ => ⟨S288, .i1⟩
  | .hbm, ⟨13, _⟩ => ⟨S_, .i32⟩
  | .hbm, ⟨14, _⟩ => ⟨S288, .i32⟩
  | .hbm, ⟨15, _⟩ => ⟨S288, .i32⟩
  | .hbm, ⟨16, _⟩ => ⟨S288, .i32⟩
  | .hbm, ⟨17, _⟩ => ⟨S288x1, .i32⟩
  | .hbm, ⟨18, _⟩ => ⟨S288x1024x2048, .f32⟩
  | .hbm, ⟨19, _⟩ => ⟨S288x256x2048, .f32⟩
  | .hbm, ⟨20, _⟩ => ⟨S_, .i32⟩
  | .hbm, ⟨21, _⟩ => ⟨S288, .i32⟩
  | .hbm, ⟨22, _⟩ => ⟨S288, .i1⟩
  | .hbm, ⟨23, _⟩ => ⟨S_, .i32⟩
  | .hbm, ⟨24, _⟩ => ⟨S288, .i32⟩
  | .hbm, ⟨25, _⟩ => ⟨S288, .i32⟩
  | .hbm, ⟨26, _⟩ => ⟨S288, .i32⟩
  | .hbm, ⟨27, _⟩ => ⟨S288x1, .i32⟩
  | .hbm, ⟨28, _⟩ => ⟨S288x1x2048, .f32⟩
  | .hbm, ⟨29, _⟩ => ⟨S288x256x2048, .f32⟩
  | .hbm, ⟨30, _⟩ => ⟨S288x256x2048, .f32⟩
  | .hbm, ⟨31, _⟩ => ⟨S288x256x1024, .f32⟩
  | .hbm, ⟨32, _⟩ => ⟨S_, .f32⟩
  | .hbm, ⟨33, _⟩ => ⟨S288x256x1024, .f32⟩
  | .hbm, ⟨34, _⟩ => ⟨S288x256x1024, .f32⟩
  | .hbm, ⟨35, _⟩ => ⟨S288x256x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S288x256x1024, .f32⟩
  | .hbm, ⟨40, _⟩ => ⟨S288x256x1024, .f32⟩
  | .hbm, ⟨41, _⟩ => ⟨S_, .f32⟩
  | .hbm, ⟨42, _⟩ => ⟨S288x256x1024, .f32⟩
  | .hbm, ⟨43, _⟩ => ⟨S288x256x1024, .f32⟩
  | .hbm, ⟨44, _⟩ => ⟨S_, .f32⟩
  | .hbm, ⟨45, _⟩ => ⟨S288x256x1024, .f32⟩
  | .hbm, ⟨46, _⟩ => ⟨S288x256x1024, .f32⟩
  | .hbm, ⟨47, _⟩ => ⟨S288x256x1024, .f32⟩
  | .hbm, ⟨48, _⟩ => ⟨S288x256x1024, .f32⟩
  | .hbm, ⟨49, _⟩ => ⟨S_, .f32⟩
  | .hbm, ⟨50, _⟩ => ⟨S288x256x1024, .f32⟩
  | .hbm, ⟨51, _⟩ => ⟨S288x256x1024, .f32⟩
  | .hbm, ⟨52, _⟩ => ⟨S_, .f32⟩
  | .hbm, ⟨53, _⟩ => ⟨S288x256x1024, .f32⟩
  | .hbm, ⟨54, _⟩ => ⟨S288x256x1024, .f32⟩
  | .hbm, ⟨55, _⟩ => ⟨S288x256x1024, .f32⟩
  | .hbm, ⟨56, _⟩ => ⟨S_, .f32⟩
  | .hbm, ⟨57, _⟩ => ⟨S288x256x1024, .f32⟩
  | .hbm, ⟨58, _⟩ => ⟨S288x256x1024, .f32⟩
  | .hbm, ⟨59, _⟩ => ⟨S288x256x1024, .f32⟩
  | .hbm, ⟨60, _⟩ => ⟨S_, .i32⟩
  | .hbm, ⟨61, _⟩ => ⟨S288, .i32⟩
  | .hbm, ⟨62, _⟩ => ⟨S288, .i1⟩
  | .hbm, ⟨63, _⟩ => ⟨S_, .i32⟩
  | .hbm, ⟨64, _⟩ => ⟨S288, .i32⟩
  | .hbm, ⟨65, _⟩ => ⟨S288, .i32⟩
  | .hbm, ⟨66, _⟩ => ⟨S288, .i32⟩
  | .hbm, ⟨67, _⟩ => ⟨S288x1, .i32⟩
  | .hbm, ⟨68, _⟩ => ⟨S288x1024x1024, .f32⟩
  | .hbm, ⟨69, _⟩ => ⟨S288x256x1024, .f32⟩
  | .hbm, ⟨70, _⟩ => ⟨S_, .i32⟩
  | .hbm, ⟨71, _⟩ => ⟨S288, .i32⟩
  | .hbm, ⟨72, _⟩ => ⟨S288, .i1⟩
  | .hbm, ⟨73, _⟩ => ⟨S_, .i32⟩
  | .hbm, ⟨74, _⟩ => ⟨S288, .i32⟩
  | .hbm, ⟨75, _⟩ => ⟨S288, .i32⟩
  | .hbm, ⟨76, _⟩ => ⟨S288, .i32⟩
  | .hbm, ⟨77, _⟩ => ⟨S288x1, .i32⟩
  | .hbm, ⟨78, _⟩ => ⟨S288x1x1024, .f32⟩
  | .hbm, ⟨79, _⟩ => ⟨S288x256x1024, .f32⟩
  | .hbm, ⟨80, _⟩ => ⟨S288x256x1024, .f32⟩
  | .hbm, ⟨81, _⟩ => ⟨S288, .i32⟩
  | .hbm, ⟨82, _⟩ => ⟨S_, .i32⟩
  | .hbm, ⟨83, _⟩ => ⟨S288, .i32⟩
  | .hbm, ⟨84, _⟩ => ⟨S288, .i1⟩
  | .hbm, ⟨85, _⟩ => ⟨S288x1x1, .i1⟩
  | .hbm, ⟨86, _⟩ => ⟨S_, .f32⟩
  | .hbm, ⟨87, _⟩ => ⟨S_, .f32⟩
  | .hbm, ⟨88, _⟩ => ⟨S288x256x1024, .i1⟩
  | .hbm, ⟨89, _⟩ => ⟨S288x256x1024, .f32⟩
  | .hbm, ⟨90, _⟩ => ⟨S288x256x1024, .f32⟩
  | .hbm, ⟨91, _⟩ => ⟨S589824x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v57 : Ref sig .tc := ⟨.hbm, 90, rfl⟩
abbrev main_v58 : Ref sig .tc := ⟨.hbm, 91, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2632 : Shape := ⟨2, ![1024, 2632]⟩
abbrev S4096x8 : Shape := ⟨2, ![4096, 8]⟩
abbrev S_ : Shape := ⟨0, ![]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1024x2048 : Shape := ⟨2, ![1024, 2048]⟩
abbrev S1024x72 : Shape := ⟨2, ![1024, 72]⟩
abbrev S1024x128 : Shape := ⟨2, ![1024, 128]⟩
abbrev S1024x512 : Shape := ⟨2, ![1024, 512]⟩
abbrev S1x1024 : Shape := ⟨2, ![1, 1024]⟩
abbrev S16384x512 : Shape := ⟨2, ![16384, 512]⟩
abbrev S4x576x4096 : Shape := ⟨3, ![4, 576, 4096]⟩
abbrev S16384x128 : Shape := ⟨2, ![16384, 128]⟩
abbrev S16384x256 : Shape := ⟨2, ![16384, 256]⟩
abbrev S512x1024 : Shape := ⟨2, ![512, 1024]⟩
abbrev S512x128 : Shape := ⟨2, ![512, 128]⟩
abbrev S512x512 : Shape := ⟨2, ![512, 512]⟩
abbrev S1x576x512 : Shape := ⟨3, ![1, 576, 512]⟩
abbrev S512x256 : Shape := ⟨2, ![512, 256]⟩
abbrev S512 : Shape := ⟨1, ![512]⟩
abbrev S512x1 : Shape := ⟨2, ![512, 1]⟩
abbrev S512x2048 : Shape := ⟨2, ![512, 2048]⟩
abbrev S128x512 : Shape := ⟨2, ![128, 512]⟩
abbrev S1x128x512 : Shape := ⟨3, ![1, 128, 512]⟩
abbrev S16x512 : Shape := ⟨2, ![16, 512]⟩
abbrev S1x16x512 : Shape := ⟨3, ![1, 16, 512]⟩

abbrev nBuf : Space → Nat
  | .hbm => 43
  | .vmem => 30
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2632, .f32⟩
  | .hbm, ⟨3, _⟩ => ⟨S4096x8, .f32⟩
  | .hbm, ⟨4, _⟩ => ⟨S4096x8, .f32⟩
  | .hbm, ⟨5, _⟩ => ⟨S_, .f32⟩
  | .hbm, ⟨6, _⟩ => ⟨S4096x48, .f32⟩
  | .hbm, ⟨7, _⟩ => ⟨S_, .f32⟩
  | .hbm, ⟨8, _⟩ => ⟨S4096x48, .f32⟩
  | .hbm, ⟨9, _⟩ => ⟨S_, .f32⟩
  | .hbm, ⟨10, _⟩ => ⟨S4096x8, .f32⟩
  | .hbm, ⟨11, _⟩ => ⟨S4096x64, .f32⟩
  | .hbm, ⟨12, _⟩ => ⟨S1x4096x1x64, .f32⟩
  | .hbm, ⟨13, _⟩ => ⟨S1x4096x2x64, .f32⟩
  | .hbm, ⟨14, _⟩ => ⟨S4096x128, .f32⟩
  | .hbm, ⟨15, _⟩ => ⟨S4096x8, .f32⟩
  | .hbm, ⟨16, _⟩ => ⟨S4096x64, .f32⟩
  | .hbm, ⟨17, _⟩ => ⟨S1x4096x1x64, .f32⟩
  | .hbm, ⟨18, _⟩ => ⟨S1x4096x2x64, .f32⟩
  | .hbm, ⟨19, _⟩ => ⟨S4096x128, .f32⟩
  | .hbm, ⟨20, _⟩ => ⟨S4096x64, .f32⟩
  | .hbm, ⟨21, _⟩ => ⟨S1x4096x1x64, .f32⟩
  | .hbm, ⟨22, _⟩ => ⟨S1x4096x2x64, .f32⟩
  | .hbm, ⟨23, _⟩ => ⟨S4096x128, .f32⟩
  | .hbm, ⟨24, _⟩ => ⟨S1024x2048, .f32⟩
  | .hbm, ⟨25, _⟩ => ⟨S1024x2048, .bf16⟩
  | .hbm, ⟨26, _⟩ => ⟨S1024x72, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x128, .bf16⟩
  | .hbm, ⟨31, _⟩ => ⟨S1024x512, .f32⟩
  | .hbm, ⟨32, _⟩ => ⟨S1024x512, .bf16⟩
  | .hbm, ⟨33, _⟩ => ⟨S1x1024, .f32⟩
  | .hbm, ⟨34, _⟩ => ⟨S16384x512, .bf16⟩
  | .hbm, ⟨35, _⟩ => ⟨S16384x512, .bf16⟩
  | .hbm, ⟨36, _⟩ => ⟨S4x576x4096, .bf16⟩
  | .hbm, ⟨37, _⟩ => ⟨S16384x512, .bf16⟩
  | .hbm, ⟨38, _⟩ => ⟨S16384x128, .bf16⟩
  | .hbm, ⟨39, _⟩ => ⟨S16384x128, .bf16⟩
  | .hbm, ⟨40, _⟩ => ⟨S16384x128, .f32⟩
  | .hbm, ⟨41, _⟩ => ⟨S16384x256, .f32⟩
  | .hbm, ⟨42, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x512, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1x576x512, .bf16⟩
  | .local _ .vmem, ⟨17, _⟩ => ⟨S1x576x512, .bf16⟩
  | .local _ .vmem, ⟨18, _⟩ => ⟨S512x512, .bf16⟩
  | .local _ .vmem, ⟨19, _⟩ => ⟨S512x512, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .f32⟩
  | .local _ .vmem, ⟨25, _⟩ => ⟨S512x128, .f32⟩
  | .local _ .vmem, ⟨26, _⟩ => ⟨S512x256, .f32⟩
  | .local _ .vmem, ⟨27, _⟩ => ⟨S512x256, .f32⟩
  | .local _ .vmem, ⟨28, _⟩ => ⟨S512x256, .bf16⟩
  | .local _ .vmem, ⟨29, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev main_v24_3 : Ref sig .tc := ⟨.hbm, 37, rfl⟩
abbrev main_v24_4 : Ref sig .tc := ⟨.hbm, 38, rfl⟩
abbrev main_v24_5 : Ref sig .tc := ⟨.hbm, 39, rfl⟩
abbrev main_v24_6 : Ref sig .tc := ⟨.hbm, 40, rfl⟩
abbrev main_v24_7 : Ref sig .tc := ⟨.hbm, 41, rfl⟩
abbrev main_v24_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x576x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16384x1024 : Shape := ⟨2, ![16384, 1024]⟩
abbrev S1024 : Shape := ⟨1, ![1024]⟩
abbrev S1024x2632 : Shape := ⟨2, ![1024, 2632]⟩
abbrev S4096x8 : Shape := ⟨2, ![4096, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2632 : Shape := ⟨2, ![16384, 2632]⟩
abbrev S16384x512 : Shape := ⟨2, ![16384, 512]⟩
abbrev S16384x64 : Shape := ⟨2, ![16384, 64]⟩
abbrev S16384x8 : Shape := ⟨2, ![16384, 8]⟩
abbrev S16384x256 : Shape := ⟨2, ![16384, 256]⟩
abbrev S4x4096x4x128 : Shape := ⟨4, ![4, 4096, 4, 128]⟩
abbrev S4x4x128x4096 : Shape := ⟨4, ![4, 4, 128, 4096]⟩
abbrev S4x4x16x4096 : Shape := ⟨4, ![4, 4, 16, 4096]⟩
abbrev S4x4x144x4096 : Shape := ⟨4, ![4, 4, 144, 4096]⟩
abbrev S4x576x4096 : Shape := ⟨3, ![4, 576, 4096]⟩
abbrev S4x4096x1x64 : Shape := ⟨4, ![4, 4096, 1, 64]⟩
abbrev S4x4096x1x8 : Shape := ⟨4, ![4, 4096, 1, 8]⟩
abbrev S1x4096x1x8 : Shape := ⟨4, ![1, 4096, 1, 8]⟩
abbrev S4x4096x1x48 : Shape := ⟨4, ![4, 4096, 1, 48]⟩
abbrev S16384x56 : Shape := ⟨2, ![16384, 56]⟩
abbrev S16384x128 : Shape := ⟨2, ![16384, 128]⟩
abbrev S4x4096x8x64 : Shape := ⟨4, ![4, 4096, 8, 64]⟩
abbrev S4x4096x8x8 : Shape := ⟨4, ![4, 4096, 8, 8]⟩
abbrev S4x4096x8x48 : Shape := ⟨4, ![4, 4096, 8, 48]⟩

abbrev nBuf : Space → Nat
  | .hbm => 134
  | .vmem => 0
  | .smem => 0
  | _ => 0

abbrev hbmTy0_0 (i : Nat) : BufTy := match i % 128 with
  | 0 => ⟨S16384x1024, .f32⟩
  | 1 => ⟨S1024, .f32⟩
  | 2 => ⟨S1024x2632, .f32⟩
  | 3 => ⟨S4096x8, .f32⟩
  | 4 => ⟨S4096x8, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x1024, .f32⟩
  | 17 => ⟨S16384x1024, .f32⟩
  | 18 => ⟨S1x1024, .f32⟩
  | 19 => ⟨S16384x1024, .f32⟩
  | 20 => ⟨S16384x1024, .f32⟩
  | 21 => ⟨S16384x2632, .f32⟩
  | 22 => ⟨S16384x512, .f32⟩
  | 23 => ⟨S16384x512, .f32⟩
  | 24 => ⟨S16384x512, .f32⟩
  | 25 => ⟨S16384x512, .f32⟩
  | 26 => ⟨S16384x64, .f32⟩
  | 27 => ⟨S16384x8, .f32⟩
  | 28 => ⟨S16384x256, .f32⟩
  | 29 => ⟨S16384x256, .f32⟩
  | 30 => ⟨S4x4096x4x128, .f32⟩
  | 31 => ⟨S4x4x128x4096, .f32⟩
  | 32 => ⟨S_, .f32⟩
  | 33 => ⟨S4x4x16x4096, .f32⟩
  | 34 => ⟨S4x4x144x4096, .f32⟩
  | 35 => ⟨S4x576x4096, .f32⟩
  | 36 => ⟨S4x4096x1x64, .f32⟩
  | 37 => ⟨S4x4096x1x8, .f32⟩
  | 38 => ⟨S4x4096x1x8, .f32⟩
  | 39 => ⟨S1x4096x1x8, .f32⟩
  | 40 => ⟨S1x4096x1x8, .f32⟩
  | 41 => ⟨S4x4096x1x8, .f32⟩
  | 42 => ⟨S4x4096x1x8, .f32⟩
  | 43 => ⟨S4x4096x1x8, .f32⟩
  | 44 => ⟨S4x4096x1x8, .f32⟩
  | 45 => ⟨S4x4096x1x8, .f32⟩
  | 46 => ⟨S4x4096x1x8, .f32⟩
  | 47 => ⟨S4x4096x1x8, .f32⟩
  | 48 => ⟨S4x4096x1x8, .f32⟩
  | 49 => ⟨S4x4096x1x8, .f32⟩
  | 50 => ⟨S4x4096x1x8, .f32⟩
  | 51 => ⟨S4x4096x1x48, .f32⟩
  | 52 => ⟨S4x4096x1x64, .f32⟩
  | 53 => ⟨S16384x64, .f32⟩
  | 54 => ⟨S_, .f32⟩
  | 55 => ⟨S16384x64, .f32⟩
  | 56 => ⟨S_, .f32⟩
  | 57 => ⟨S16384x56, .f32⟩
  | 58 => ⟨S16384x128, .f32⟩
  | 59 => ⟨S_, .f32⟩
  | 60 => ⟨S16384x128, .f32⟩
  | 61 => ⟨S16384x128, .f32⟩
  | 62 => ⟨S4x4096x8x64, .f32⟩
  | 63 => ⟨S4x4096x8x8, .f32⟩
  | 64 => ⟨S4x4096x8x8, .f32⟩
  | 65 => ⟨S1x4096x1x8, .f32⟩
  | 66 => ⟨S1x4096x1x8, .f32⟩
  | 67 => ⟨S4x4096x8x8, .f32⟩
  | 68 => ⟨S4x4096x8x8, .f32⟩
  | 69 => ⟨S4x4096x8x8, .f32⟩
  | 70 => ⟨S4x4096x8x8, .f32⟩
  | 71 => ⟨S4x4096x8x8, .f32⟩
  | 72 => ⟨S4x4096x8x8, .f32⟩
  | 73 => ⟨S4x4096x8x8, .f32⟩
  | 74 => ⟨S4x4096x8x8, .f32⟩
  | 75 => ⟨S4x4096x8x8, .f32⟩
  | 76 => ⟨S4x4096x8x8, .f32⟩
  | 77 => ⟨S4x4096x8x48, .f32⟩
  | 78 => ⟨S4x4096x8x64, .f32⟩
  | 79 => ⟨S16384x512, .f32⟩
  | 80 => ⟨S_, .f32⟩
  | 81 => ⟨S16384x512, .f32⟩
  | 82 => ⟨S16384x512, .f32⟩
  | 83 => ⟨S16384x512, .bf16⟩
  | 84 => ⟨S4x4096x8x64, .f32⟩
  | 85 => ⟨S4x4096x8x8, .f32⟩
  | 86 => ⟨S4x4096x8x8, .f32⟩
  | 87 => ⟨S1x4096x1x8, .f32⟩
  | 88 => ⟨S1x4096x1x8, .f32⟩
  | 89 => ⟨S4x4096x8x8, .f32⟩
  | 90 => ⟨S4x4096x8x8, .f32⟩
  | 91 => ⟨S4x4096x8x8, .f32⟩
  | 92 => ⟨S4x4096x8x8, .f32⟩
  | 93 => ⟨S4x4096x8x8, .f32⟩
  | 94 => ⟨S4x4096x8x8, .f32⟩
  | 95 => ⟨S4x4096x8x8, .f32⟩
  | 96 => ⟨S4x4096x8x8, .f32⟩
  | 97 => ⟨S4x4096x8x8, .f32⟩
  | 98 => ⟨S4x4096x8x8, .f32⟩
  | 99 => ⟨S4x4096x8x48, .f32⟩
  | 100 => ⟨S4x4096x8x64, .f32⟩
  | 101 => ⟨S16384x512, .f32⟩
  | 102 => ⟨S16384x512, .bf16⟩
  | 103 => ⟨S4x576x4096, .bf16⟩
  | 104 => ⟨S4x4096x8x64, .f32⟩
  | 105 => ⟨S4x4096x8x8, .f32⟩
  | 106 => ⟨S4x4096x8x8, .f32⟩
  | 107 => ⟨S1x4096x1x8, .f32⟩
  | 108 => ⟨S1x4096x1x8, .f32⟩
  | 109 => ⟨S4x4096x8x8, .f32⟩
  | 110 => ⟨S4x4096x8x8, .f32⟩
  | 111 => ⟨S4x4096x8x8, .f32⟩
  | 112 => ⟨S4x4096x8x8, .f32⟩
  | 113 => ⟨S4x4096x8x8, .f32⟩
  | 114 => ⟨S4x4096x8x8, .f32⟩
  | 115 => ⟨S4x4096x8x8, .f32⟩
  | 116 => ⟨S4x4096x8x8, .f32⟩
  | 117 => ⟨S4x4096x8x8, .f32⟩
  | 118 => ⟨S4x4096x8x8, .f32⟩
  | 119 => ⟨S4x4096x8x48, .f32⟩
  | 120 => ⟨S4x4096x8x64, .f32⟩
  | 121 => ⟨S16384x512, .f32⟩
  | 122 => ⟨S_, .f32⟩
  | 123 => ⟨S16384x512, .f32⟩
  | 124 => ⟨S16384x512, .f32⟩
  | 125 => ⟨S16384x512, .bf16⟩
  | 126 => ⟨S16384x128, .f32⟩
  | 127 => ⟨S16384x128, .bf16⟩
  | _ => ⟨S16384x1024, .f32⟩

abbrev hbmTy0_1 (i : Nat) : BufTy := match i % 128 with
  | 0 => ⟨S16384x128, .f32⟩
  | 1 => ⟨S16384x128, .bf16⟩
  | 2 => ⟨S_, .f32⟩
  | 3 => ⟨S16384x256, .f32⟩
  | 4 => ⟨S16384x256, .f32⟩
  | 5 => ⟨S16384x256, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_6 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_cst_7 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_cst_8 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩

abbrev nD : Nat := 1
abbrev τ : Topo := Topo.v7x

variable {F : FTy → Type} [FloatOps F]
-- ==== Proof.Exp.Tables.lean ====
/-
  What the four tables of the experts' call keep to, as words: each row tile's expert, the ring slot of its expert, the
  expert that follows it (or -1), and the number of tiles used.
-/
module

public import Idealize.ShloMosaic.Lib.WordCmp

@[expose] public section

namespace Cert.Exp

open Idealize.ShloMosaic Idealize.ShloMosaic.WordCmp

/-- The tables' law: expert numbers below 32, slots 0 or 1 beginning at 0, the next expert below 32 or -1, at least one
    tile used and at most 288; neighbours of one expert share slot and next; where the expert changes the slot changes
    and the next announced is the one met; none is announced at the end. -/
structure Law (E H N : ℕ → BitVec 32) (U : BitVec 32) : Prop where
  hE : ∀ t, t < 288 → (E t).toNat < 32
  hH : ∀ t, t < 288 → H t = 0#32 ∨ H t = 1#32
  hN : ∀ t, t < 288 → N t = 4294967295#32 ∨ (N t).toNat < 32
  h0 : H 0 = 0#32
  hU : 1 ≤ U.toNat ∧ U.toNat ≤ 288
  same : ∀ t, t + 1 < 288 → E (t + 1) = E t → H (t + 1) = H t ∧ N (t + 1) = N t
  diff : ∀ t, t + 1 < 288 → E (t + 1) ≠ E t → H (t + 1) ≠ H t ∧ N t = E (t + 1)
  last : N 287 = 4294967295#32

/-- A guard computed as `(extui b) ≠ 0` holds when `b` does. -/
theorem guard_iff (b : BitVec 1) : Scalar.cmpi .ne (Scalar.extui b : BitVec 32) 0#32 = 1#1 ↔ b = 1#1 := by
  revert b; decide

theorem eq_iff (x y : BitVec 32) : Scalar.cmpi .eq x y = 1#1 ↔ x = y := by
  show IntOp.cmpi .eq x y = 1#1 ↔ _
  rw [cmpi_eq_eq, ofBool_decide_eq_one_iff]
theorem ne_iff (x y : BitVec 32) : Scalar.cmpi .ne x y = 1#1 ↔ x ≠ y := by
  show IntOp.cmpi .ne x y = 1#1 ↔ _
  rw [cmpi_ne_eq, ofBool_decide_eq_one_iff]
theorem slt_iff (x y : BitVec 32) : Scalar.cmpi .slt x y = 1#1 ↔ x.toInt < y.toInt := by
  show IntOp.cmpi .slt x y = 1#1 ↔ _
  rw [cmpi_slt_eq, ofBool_decide_eq_one_iff]
theorem sge_iff (x y : BitVec 32) : Scalar.cmpi .sge x y = 1#1 ↔ y.toInt ≤ x.toInt := by
  show IntOp.cmpi .sge x y = 1#1 ↔ _
  rw [cmpi_sge_eq, ofBool_decide_eq_one_iff]
theorem ori_iff (a b : BitVec 1) : Scalar.ori a b = 1#1 ↔ a = 1#1 ∨ b = 1#1 := by
  revert a b; decide
theorem toInt_small (x : BitVec 32) (h : x.toNat < 2147483648) : x.toInt = (x.toNat : ℤ) :=
  toInt_eq_toNat_of_lt_half h
theorem toNat_small (n : ℕ) (h : n < 4294967296) : (BitVec.ofNat 32 n).toNat = n := toNat_ofNat_of_lt h

end Cert.Exp

end
-- ==== Proof.Exp.Pre.lean ====
/-
  The precondition on the tables, read: the printed predicate `tables` all ones gives the law the call's proof works from.
-/
module

public import Idealize.ShloMosaic.Lib.Affine
public import Idealize.ShloMosaic.Lib.ReduceAll
public import proofs.«01_k».proof.Proof.Gen.Pre_tables
public import proofs.«01_k».proof.Proof.Exp.Tables

@[expose] public section

namespace Cert.Exp

open Idealize.ShloMosaic Idealize.ShloMosaic.IntOp Cert.Pre_tables

/-- The index of word `k` in a table. -/
def at288 (k : ℕ) : S288.Idx := fun a => match a with | ⟨0, _⟩ => ⟨k % 288, Nat.mod_lt _ (by decide)⟩
def at287 (k : ℕ) : S287.Idx := fun a => match a with | ⟨0, _⟩ => ⟨k % 287, Nat.mod_lt _ (by decide)⟩
def at1 : S1.Idx := fun a => match a with | ⟨0, _⟩ => ⟨0, Nat.one_pos⟩
def at0 : S_.Idx := fun a => a.elim0

theorem slice_hi (x : IVec S288 32) (h) (k : ℕ) (hk : k + 1 < 288) :
    extractStridedSlice S287 ![1] x h (at287 k) = x (at288 (k + 1)) := by
  refine congrArg x (funext fun a => ?_)
  match a with
  | ⟨0, _⟩ =>
    refine Fin.ext ?_
    show 1 + k % 287 = (k + 1) % 288
    omega
theorem slice_lo (x : IVec S288 32) (h) (k : ℕ) (hk : k + 1 < 288) :
    extractStridedSlice S287 ![0] x h (at287 k) = x (at288 k) := by
  refine congrArg x (funext fun a => ?_)
  match a with
  | ⟨0, _⟩ =>
    refine Fin.ext ?_
    show 0 + k % 287 = k % 288
    omega
theorem cast_one (x : IVec S1 32) (h) : shapeCast S_ x h at0 = x at1 := by
  refine congrArg x (funext fun a => ?_)
  match a with
  | ⟨0, _⟩ => exact Subsingleton.elim (α := Fin 1) _ _
theorem slice_first (x : IVec S288 32) (h) : extractStridedSlice S1 ![0] x h at1 = x (at288 0) := by
  refine congrArg x (funext fun a => ?_)
  match a with
  | ⟨0, _⟩ => exact Fin.ext rfl
theorem slice_last (x : IVec S288 32) (h) : extractStridedSlice S1 ![287] x h at1 = x (at288 287) := by
  refine congrArg x (funext fun a => ?_)
  match a with
  | ⟨0, _⟩ => exact Fin.ext rfl

theorem small_of {w : BitVec 32} (h0 : (0#32).toInt ≤ w.toInt) (h1 : w.toInt < (32#32).toInt) : w.toNat < 32 := by
  simp only [BitVec.toInt, BitVec.toNat_ofNat] at h0 h1
  omega
theorem small_or {w : BitVec 32} (h0 : (4294967295#32).toInt ≤ w.toInt) (h1 : w.toInt < (32#32).toInt) :
    w = 4294967295#32 ∨ w.toNat < 32 := by
  rw [← BitVec.toNat_inj]
  simp only [BitVec.toInt, BitVec.toNat_ofNat] at h0 h1 ⊢
  omega

theorem sel_pos {F : FTy → Type} [FloatOps F] (c y z : IVec S287 1) (i : S287.Idx) (h : fn_where (F := F) c y z i = 1#1) (hc : c i = 1#1) : y i = 1#1 :=
  (if_pos hc).symm.trans h
theorem sel_neg {F : FTy → Type} [FloatOps F] (c y z : IVec S287 1) (i : S287.Idx) (h : fn_where (F := F) c y z i = 1#1) (hc : ¬c i = 1#1) : z i = 1#1 :=
  (if_neg hc).symm.trans h

instance : Subsingleton S_.Idx := ⟨fun a b => funext fun i => i.elim0⟩

theorem law_of_fn {F : FTy → Type} [FloatOps F] (a0 a1 a2 a3 a4 a5 a6 a7 a8)
    (h : Cert.Pre_tables.fn (F := F) a0 a1 a2 a3 a4 a5 a6 a7 a8 = fun _ => 1#1) :
    Law (fun k => a0 (at288 k)) (fun k => a2 (at288 k)) (fun k => a3 (at288 k)) (a1 at1) := by
  have e := congrFun h at0
  obtain ⟨e50, e53⟩ := andi_eq_one.1 e
  obtain ⟨e31, e49⟩ := andi_eq_one.1 e50
  obtain ⟨e25, e30⟩ := andi_eq_one.1 e31
  obtain ⟨e21, e24⟩ := andi_eq_one.1 e25
  obtain ⟨e14, e20⟩ := andi_eq_one.1 e21
  obtain ⟨e27, e29⟩ := andi_eq_one.1 e30
  have f14 := fun k => Host.reduce_andi_all _ _ _ _ at0 e14 (at288 k)
  have f20 := fun k => Host.reduce_andi_all _ _ _ _ at0 e20 (at288 k)
  have f49 := fun k => Host.reduce_andi_all _ _ _ _ at0 e49 (at287 k)
  clear e e50 e31 e25 e21 e14 e20 e30 e49 h
  have g14 : ∀ k, (a0 (at288 k)).toNat < 32 ∧ (a3 (at288 k) = 4294967295#32 ∨ (a3 (at288 k)).toNat < 32) := fun k => by
    obtain ⟨p, q⟩ := andi_eq_one.1 (f14 k)
    obtain ⟨p, r⟩ := andi_eq_one.1 p
    obtain ⟨p, s⟩ := andi_eq_one.1 p
    exact ⟨small_of (cmpi_sge.1 p) (cmpi_slt.1 s), small_or (cmpi_sge.1 r) (cmpi_slt.1 q)⟩
  have g20 : ∀ k, a2 (at288 k) = 0#32 ∨ a2 (at288 k) = 1#32 := fun k =>
    (ori_eq_one.1 (f20 k)).imp (fun h => cmpi_eq.1 h) (fun h => cmpi_eq.1 h)
  have gsame : ∀ k, k + 1 < 288 → a0 (at288 (k + 1)) = a0 (at288 k) →
      a2 (at288 (k + 1)) = a2 (at288 k) ∧ a3 (at288 (k + 1)) = a3 (at288 k) := fun k hk hE => by
    have q := sel_pos (F := F) _ _ _ _ (f49 k) (cmpi_eq.2 ((slice_hi a0 _ k hk).trans (hE.trans (slice_lo a0 _ k hk).symm)))
    obtain ⟨p, r⟩ := andi_eq_one.1 q
    have p := cmpi_eq.1 p
    have r := cmpi_eq.1 r
    beta_reduce at p r
    rw [slice_hi _ _ k hk, slice_lo _ _ k hk] at p r
    exact ⟨p, r⟩
  have gdiff : ∀ k, k + 1 < 288 → a0 (at288 (k + 1)) ≠ a0 (at288 k) →
      a2 (at288 (k + 1)) + a2 (at288 k) = 1#32 ∧ a3 (at288 k) = a0 (at288 (k + 1)) := fun k hk hE => by
    have q := sel_neg (F := F) _ _ _ _ (f49 k) (fun h => hE (((slice_hi a0 _ k hk).symm.trans (cmpi_eq.1 h)).trans (slice_lo a0 _ k hk)))
    obtain ⟨p, r⟩ := andi_eq_one.1 q
    have p := cmpi_eq.1 p
    have r := cmpi_eq.1 r
    beta_reduce at r
    rw [slice_hi _ _ k hk, slice_lo _ _ k hk] at r
    refine ⟨?_, r⟩
    have p' : extractStridedSlice S287 ![1] a2 _ (at287 k) + extractStridedSlice S287 ![0] a2 _ (at287 k) = 1#32 := p
    rw [slice_hi _ _ k hk, slice_lo _ _ k hk] at p'
    exact p'
  refine ⟨fun t _ => (g14 t).1, fun t _ => g20 t, fun t _ => (g14 t).2, ?_, ?_, gsame, fun t ht hE => ?_, ?_⟩
  · have p := cmpi_eq.1 e24
    beta_reduce at p
    rw [cast_one, slice_first] at p
    exact p
  · have p := cmpi_sge.1 e27
    have q := cmpi_sle.1 e29
    rw [cast_one] at p q
    have p' : (1#32).toInt ≤ (a1 at1).toInt := p
    have q' : (a1 at1).toInt ≤ (288#32).toInt := q
    clear p q
    simp only [BitVec.toInt, BitVec.toNat_ofNat] at p' q'
    omega
  · obtain ⟨p, r⟩ := gdiff t ht hE
    refine ⟨fun hh => ?_, r⟩
    have p : a2 (at288 (t + 1)) + a2 (at288 t) = 1#32 := p
    have hh : a2 (at288 (t + 1)) = a2 (at288 t) := hh
    rw [hh] at p
    rcases g20 t with h | h <;> rw [h] at p <;> exact absurd p (by decide)
  · have p := cmpi_eq.1 e53
    beta_reduce at p
    rw [cast_one, slice_last] at p
    exact p

end Cert.Exp

end
-- ==== Proof.Exp.Kernel.Law.lean ====
/-
  The frame of `Kernel`: the precondition on its tables gives the law, and the law the run.
-/
module

public import proofs.«01_k».proof.Defs
public import proofs.«01_k».proof.Proof.Exp.Kernel.Run
public import proofs.«01_k».proof.Proof.Exp.Pre

@[expose] public section

namespace Cert.Kernel.Exp

open Idealize.ShloMosaic Idealize.SL.Sem Cert.Exp
open Cert.Kernel Cert.Kernel.Gen

theorem lawful_of_pre (m : (ℓ : Loc nD τ sig) → Buf (Elt Bits) ℓ) (h : Cert.Pre_Kernel m) : Lawful m :=
  law_of_fn (F := Bits) _ _ _ _ _ _ _ _ _ (h 0)

theorem frame : Cert.quiescent_Kernel := fun m g h =>
  (θ_run _ _ _).mono (fun _ h => ⟨fun c => (h.1 c).2, h.2⟩)
    (value m g (lawful_of_pre m h) (ok_of_law m (lawful_of_pre m h)))

end Cert.Kernel.Exp

end
-- ==== Proof.Exp.KernelIdeal.Kit.lean ====
/-
  What the experts' kernel owns between its grid points and how its slices are named: slot `s` of each of the two
  weight rings, the copy semaphore of each slot, expert `e`'s panel of each weight array; the equations by which the
  body's own slices (their offsets computed from words it has read) are these.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## The buffers -/

abbrev upM : Memref sig .tc .hbm S32x1024x2048 .f32 := Memref.whole main_arg5
abbrev dnM : Memref sig .tc .hbm S32x1024x1024 .f32 := Memref.whole main_arg7
abbrev ruM : Memref sig .tc .vmem S2x1024x2048 .f32 := Memref.whole cc0_scratch0
abbrev rdM : Memref sig .tc .vmem S2x1024x1024 .f32 := Memref.whole cc0_scratch1
abbrev buM : Memref sig .tc .vmem S1024x2048 .bf16 := Memref.whole cc0_scratch2
abbrev bdM : Memref sig .tc .vmem S1024x1024 .bf16 := Memref.whole cc0_scratch3
abbrev tbE : Memref sig .tc .smem S288 .i32 := Memref.whole main_arg0
abbrev tbU : Memref sig .tc .smem S1 .i32 := Memref.whole main_arg1
abbrev tbH : Memref sig .tc .smem S288 .i32 := Memref.whole main_arg2
abbrev tbN : Memref sig .tc .smem S288 .i32 := Memref.whole main_arg3

/-- A memref's buffer on core `c`, its contents' type. -/
abbrev BufOf (c : Dev nD) {sp : Space} {S : Shape} {e : EltTy} (M : Memref sig .tc sp S e) : Type := Buf (Elt F) (M.view.loc (c : Thread nD τ))
/-- A memref's buffer held whole at `f`. -/
abbrev heldP (c : Dev nD) {sp : Space} {S : Shape} {e : EltTy} (M : Memref sig .tc sp S e) (f : BufOf (F := F) c M) : sProp 𝕄 :=
  M.view.loc (c : Thread nD τ) ↦{fullShare} f
/-- A table held at half the full share (the pipeline keeps the other half). -/
abbrev tabP (c : Dev nD) {S : Shape} {e : EltTy} (M : Memref sig .tc .smem S e) (f : BufOf (F := F) c M) : sProp 𝕄 :=
  M.view.loc (c : Thread nD τ) ↦{fullShare.right} f

/-! ## Names for the slices -/

abbrev panOff (n : ℕ) : Fin 3 → Nat := ![n, 0, 0]
theorem upOff_inb (n : ℕ) (h : n < 32) : ∀ a, panOff n a + S1x1024x2048.size a ≤ S32x1024x2048.size a := by
  intro a; fin_cases a
  · show n + 1 ≤ 32; omega
  · show 0 + 1024 ≤ 1024; omega
  · show 0 + 2048 ≤ 2048; omega
theorem dnOff_inb (n : ℕ) (h : n < 32) : ∀ a, panOff n a + S1x1024x1024.size a ≤ S32x1024x1024.size a := by
  intro a; fin_cases a
  · show n + 1 ≤ 32; omega
  · show 0 + 1024 ≤ 1024; omega
  · show 0 + 1024 ≤ 1024; omega
theorem ruOff_inb (s : Fin 2) : ∀ a, panOff s.val a + S1x1024x2048.size a ≤ S2x1024x2048.size a := by
  have := s.isLt; intro a; fin_cases a
  · show s.val + 1 ≤ 2; omega
  · show 0 + 1024 ≤ 1024; omega
  · show 0 + 2048 ≤ 2048; omega
theorem rdOff_inb (s : Fin 2) : ∀ a, panOff s.val a + S1x1024x1024.size a ≤ S2x1024x1024.size a := by
  have := s.isLt; intro a; fin_cases a
  · show s.val + 1 ≤ 2; omega
  · show 0 + 1024 ≤ 1024; omega
  · show 0 + 1024 ≤ 1024; omega
abbrev cellOff (j s : Fin 2) : Fin 2 → Nat := ![j.val, s.val]
theorem cellOff_inb (j s : Fin 2) : ∀ a, cellOff j s a + S1x1.size a ≤ S2x2.size a := by
  have := s.isLt; have := j.isLt; intro a; fin_cases a
  · show j.val + 1 ≤ 2; omega
  · show s.val + 1 ≤ 2; omega

/-- Expert `n`'s first weight panel, -/
def wU (n : ℕ) (h : n < 32) : Memref sig .tc .hbm S1024x2048 .f32 :=
  (upM.slice (Rect.unit (s := S32x1024x2048) (panOff n) S1x1024x2048.size (upOff_inb n h)) (fun _ => rfl)).squeeze S1024x2048 squeezes_S1x1024x2048_S1024x2048
/-- and its second. -/
def wD (n : ℕ) (h : n < 32) : Memref sig .tc .hbm S1024x1024 .f32 :=
  (dnM.slice (Rect.unit (s := S32x1024x1024) (panOff n) S1x1024x1024.size (dnOff_inb n h)) (fun _ => rfl)).squeeze S1024x1024 squeezes_S1x1024x1024_S1024x1024
/-- Slot `s` of the ring the first panels land in, -/
def rU (s : Fin 2) : Memref sig .tc .vmem S1024x2048 .f32 :=
  (ruM.slice (Rect.unit (s := S2x1024x2048) (panOff s.val) S1x1024x2048.size (ruOff_inb s)) (fun _ => rfl)).squeeze S1024x2048 squeezes_S1x1024x2048_S1024x2048
/-- and of the ring of the second panels. -/
def rD (s : Fin 2) : Memref sig .tc .vmem S1024x1024 .f32 :=
  (rdM.slice (Rect.unit (s := S2x1024x1024) (panOff s.val) S1x1024x1024.size (rdOff_inb s)) (fun _ => rfl)).squeeze S1024x1024 squeezes_S1x1024x1024_S1024x1024
/-- The copy semaphore of slot `s` of ring `j`. -/
def csm (j s : Fin 2) : DmaSems sig S_ := (cc0_scratch4.slice (Rect.unit (s := S2x2) (cellOff j s) S1x1.size (cellOff_inb j s))).squeeze S_ squeezes_S1x1_S_

instance (n : ℕ) : ClosedOff (panOff n) := ⟨panOff n, rfl⟩

section Canon

theorem csm_congr {off : Fin 2 → Nat} {j s : Fin 2} (e : off = cellOff j s) (hh) :
    (cc0_scratch4.slice (Rect.unit (s := S2x2) off S1x1.size hh)).squeeze S_ squeezes_S1x1_S_ = csm j s :=
  congrArg (fun A : DmaSems sig S1x1 => A.squeeze S_ squeezes_S1x1_S_) (SemArray.slice_unit_congr _ e _ _)
theorem rU_congr {off : Fin 3 → Nat} {s : Fin 2} (e : off = panOff s.val) (hh hs) :
    (ruM.slice (Rect.unit (s := S2x1024x2048) off S1x1024x2048.size hh) hs).squeeze S1024x2048 squeezes_S1x1024x2048_S1024x2048 = rU s :=
  congrArg (fun M : Memref sig .tc .vmem S1x1024x2048 .f32 => M.squeeze S1024x2048 squeezes_S1x1024x2048_S1024x2048) (Memref.slice_unit_congr _ e _ _ _ _)
theorem rD_congr {off : Fin 3 → Nat} {s : Fin 2} (e : off = panOff s.val) (hh hs) :
    (rdM.slice (Rect.unit (s := S2x1024x1024) off S1x1024x1024.size hh) hs).squeeze S1024x1024 squeezes_S1x1024x1024_S1024x1024 = rD s :=
  congrArg (fun M : Memref sig .tc .vmem S1x1024x1024 .f32 => M.squeeze S1024x1024 squeezes_S1x1024x1024_S1024x1024) (Memref.slice_unit_congr _ e _ _ _ _)
theorem wU_congr {off : Fin 3 → Nat} {n : ℕ} (h : n < 32) (e : off = panOff n) (hh hs) :
    (upM.slice (Rect.unit (s := S32x1024x2048) off S1x1024x2048.size hh) hs).squeeze S1024x2048 squeezes_S1x1024x2048_S1024x2048 = wU n h :=
  congrArg (fun M : Memref sig .tc .hbm S1x1024x2048 .f32 => M.squeeze S1024x2048 squeezes_S1x1024x2048_S1024x2048) (Memref.slice_unit_congr _ e _ _ _ _)
theorem wD_congr {off : Fin 3 → Nat} {n : ℕ} (h : n < 32) (e : off = panOff n) (hh hs) :
    (dnM.slice (Rect.unit (s := S32x1024x1024) off S1x1024x1024.size hh) hs).squeeze S1024x1024 squeezes_S1x1024x1024_S1024x1024 = wD n h :=
  congrArg (fun M : Memref sig .tc .hbm S1x1024x1024 .f32 => M.squeeze S1024x1024 squeezes_S1x1024x1024_S1024x1024) (Memref.slice_unit_congr _ e _ _ _ _)

theorem lt32U {off : Fin 3 → Nat} {n : ℕ} (e : off = panOff n) (hh : ∀ a, off a + S1x1024x2048.size a ≤ S32x1024x2048.size a) : n < 32 := by
  subst e; have h : n + 1 ≤ 32 := hh 0; omega
theorem lt32D {off : Fin 3 → Nat} {n : ℕ} (e : off = panOff n) (hh : ∀ a, off a + S1x1024x1024.size a ≤ S32x1024x1024.size a) : n < 32 := by
  subst e; have h : n + 1 ≤ 32 := hh 0; omega

variable (v : BitVec 32)
@[sl_canon] theorem wU2 (hh hs) : (upM.slice (Rect.unit (s := S32x1024x2048) (k0_off2 v) S1x1024x2048.size hh) hs).squeeze S1024x2048 squeezes_S1x1024x2048_S1024x2048 = wU v.toNat (lt32U (off := k0_off2 v) rfl hh) := wU_congr _ rfl _ _
@[sl_canon] theorem wU8 (hh hs) : (upM.slice (Rect.unit (s := S32x1024x2048) (k0_off8 v) S1x1024x2048.size hh) hs).squeeze S1024x2048 squeezes_S1x1024x2048_S1024x2048 = wU v.toNat (lt32U (off := k0_off8 v) rfl hh) := wU_congr _ rfl _ _
@[sl_canon] theorem wU18 (hh hs) : (upM.slice (Rect.unit (s := S32x1024x2048) (k0_off18 v) S1x1024x2048.size hh) hs).squeeze S1024x2048 squeezes_S1x1024x2048_S1024x2048 = wU v.toNat (lt32U (off := k0_off18 v) rfl hh) := wU_congr _ rfl _ _
@[sl_canon] theorem wD3 (hh hs) : (dnM.slice (Rect.unit (s := S32x1024x1024) (k0_off3 v) S1x1024x1024.size hh) hs).squeeze S1024x1024 squeezes_S1x1024x1024_S1024x1024 = wD v.toNat (lt32D (off := k0_off3 v) rfl hh) := wD_congr _ rfl _ _
@[sl_canon] theorem wD11 (hh hs) : (dnM.slice (Rect.unit (s := S32x1024x1024) (k0_off11 v) S1x1024x1024.size hh) hs).squeeze S1024x1024 squeezes_S1x1024x1024_S1024x1024 = wD v.toNat (lt32D (off := k0_off11 v) rfl hh) := wD_congr _ rfl _ _
@[sl_canon] theorem wD21 (hh hs) : (dnM.slice (Rect.unit (s := S32x1024x1024) (k0_off21 v) S1x1024x1024.size hh) hs).squeeze S1024x1024 squeezes_S1x1024x1024_S1024x1024 = wD v.toNat (lt32D (off := k0_off21 v) rfl hh) := wD_congr _ rfl _ _

@[sl_canon] theorem rUl (hh hs) : (ruM.slice (Rect.unit (s := S2x1024x2048) ![0, 0, 0] S1x1024x2048.size hh) hs).squeeze S1024x2048 squeezes_S1x1024x2048_S1024x2048 = rU 0 := rU_congr (by decide) _ _
@[sl_canon] theorem rDl (hh hs) : (rdM.slice (Rect.unit (s := S2x1024x1024) ![0, 0, 0] S1x1024x1024.size hh) hs).squeeze S1024x1024 squeezes_S1x1024x1024_S1024x1024 = rD 0 := rD_congr (by decide) _ _
@[sl_canon] theorem csl0 (hh) : (cc0_scratch4.slice (Rect.unit (s := S2x2) ![0, 0] S1x1.size hh)).squeeze S_ squeezes_S1x1_S_ = csm 0 0 := csm_congr (by decide) _
@[sl_canon] theorem csl1 (hh) : (cc0_scratch4.slice (Rect.unit (s := S2x2) ![1, 0] S1x1.size hh)).squeeze S_ squeezes_S1x1_S_ = csm 1 0 := csm_congr (by decide) _

@[sl_canon] theorem rU7_0 (hh hs) : (ruM.slice (Rect.unit (s := S2x1024x2048) (k0_off7 0#32) S1x1024x2048.size hh) hs).squeeze S1024x2048 squeezes_S1x1024x2048_S1024x2048 = rU 0 := rU_congr (by decide) _ _
@[sl_canon] theorem rU7_1 (hh hs) : (ruM.slice (Rect.unit (s := S2x1024x2048) (k0_off7 1#32) S1x1024x2048.size hh) hs).squeeze S1024x2048 squeezes_S1x1024x2048_S1024x2048 = rU 1 := rU_congr (by decide) _ _
@[sl_canon] theorem rU17_0 (hh hs) : (ruM.slice (Rect.unit (s := S2x1024x2048) (k0_off17 0#32) S1x1024x2048.size hh) hs).squeeze S1024x2048 squeezes_S1x1024x2048_S1024x2048 = rU 1 := rU_congr (by decide) _ _
@[sl_canon] theorem rU17_1 (hh hs) : (ruM.slice (Rect.unit (s := S2x1024x2048) (k0_off17 1#32) S1x1024x2048.size hh) hs).squeeze S1024x2048 squeezes_S1x1024x2048_S1024x2048 = rU 0 := rU_congr (by decide) _ _
@[sl_canon] theorem rD10_0 (hh hs) : (rdM.slice (Rect.unit (s := S2x1024x1024) (k0_off10 0#32) S1x1024x1024.size hh) hs).squeeze S1024x1024 squeezes_S1x1024x1024_S1024x1024 = rD 0 := rD_congr (by decide) _ _
@[sl_canon] theorem rD10_1 (hh hs) : (rdM.slice (Rect.unit (s := S2x1024x1024) (k0_off10 1#32) S1x1024x1024.size hh) hs).squeeze S1024x1024 squeezes_S1x1024x1024_S1024x1024 = rD 1 := rD_congr (by decide) _ _
@[sl_canon] theorem rD20_0 (hh hs) : (rdM.slice (Rect.unit (s := S2x1024x1024) (k0_off20 0#32) S1x1024x1024.size hh) hs).squeeze S1024x1024 squeezes_S1x1024x1024_S1024x1024 = rD 1 := rD_congr (by decide) _ _
@[sl_canon] theorem rD20_1 (hh hs) : (rdM.slice (Rect.unit (s := S2x1024x1024) (k0_off20 1#32) S1x1024x1024.size hh) hs).squeeze S1024x1024 squeezes_S1x1024x1024_S1024x1024 = rD 0 := rD_congr (by decide) _ _

@[sl_canon] theorem cs6_0 (hh) : (cc0_scratch4.slice (Rect.unit (s := S2x2) (k0_off6 0#32) S1x1.size hh)).squeeze S_ squeezes_S1x1_S_ = csm 0 0 := csm_congr (by decide) _
@[sl_canon] theorem cs6_1 (hh) : (cc0_scratch4.slice (Rect.unit (s := S2x2) (k0_off6 1#32) S1x1.size hh)).squeeze S_ squeezes_S1x1_S_ = csm 0 1 := csm_congr (by decide) _
@[sl_canon] theorem cs9_0 (hh) : (cc0_scratch4.slice (Rect.unit (s := S2x2) (k0_off9 0#32) S1x1.size hh)).squeeze S_ squeezes_S1x1_S_ = csm 1 0 := csm_congr (by decide) _
@[sl_canon] theorem cs9_1 (hh) : (cc0_scratch4.slice (Rect.unit (s := S2x2) (k0_off9 1#32) S1x1.size hh)).squeeze S_ squeezes_S1x1_S_ = csm 1 1 := csm_congr (by decide) _
@[sl_canon] theorem cs16_0 (hh) : (cc0_scratch4.slice (Rect.unit (s := S2x2) (k0_off16 0#32) S1x1.size hh)).squeeze S_ squeezes_S1x1_S_ = csm 0 1 := csm_congr (by decide) _
@[sl_canon] theorem cs16_1 (hh) : (cc0_scratch4.slice (Rect.unit (s := S2x2) (k0_off16 1#32) S1x1.size hh)).squeeze S_ squeezes_S1x1_S_ = csm 0 0 := csm_congr (by decide) _
@[sl_canon] theorem cs19_0 (hh) : (cc0_scratch4.slice (Rect.unit (s := S2x2) (k0_off19 0#32) S1x1.size hh)).squeeze S_ squeezes_S1x1_S_ = csm 1 1 := csm_congr (by decide) _
@[sl_canon] theorem cs19_1 (hh) : (cc0_scratch4.slice (Rect.unit (s := S2x2) (k0_off19 1#32) S1x1.size hh)).squeeze S_ squeezes_S1x1_S_ = csm 1 0 := csm_congr (by decide) _

instance : ClosedOff (k0_off12 0#32) := ⟨panOff 0, rfl⟩
instance : ClosedOff (k0_off12 1#32) := ⟨panOff 1, rfl⟩
instance : ClosedOff (k0_off13 0#32) := ⟨panOff 0, rfl⟩
instance : ClosedOff (k0_off13 1#32) := ⟨panOff 1, rfl⟩

end Canon

/-! ## The pieces: a slot held, a slot's cell, a panel at home, a copy in flight -/

section Pieces
variable (c : Dev nD) (XU : BufOf (F := F) c upM) (XD : BufOf (F := F) c dnM)

abbrev cellP (j s : Fin 2) : sProp 𝕄 := semVal ((c : Thread nD τ), SemLoc.dma (csm j s).sem) 0
abbrev slotU (s : Fin 2) (f : BufOf (F := F) c (rU s)) : sProp 𝕄 :=
  (rU s).view.loc (c : Thread nD τ) ↦[(rU s).view.set]{fullShare} f
abbrev slotD (s : Fin 2) (f : BufOf (F := F) c (rD s)) : sProp 𝕄 :=
  (rD s).view.loc (c : Thread nD τ) ↦[(rD s).view.set]{fullShare} f
abbrev homeU (n : ℕ) (h : n < 32) : sProp 𝕄 := (wU n h).view.loc (c : Thread nD τ) ↦[(wU n h).view.set]{fullShare} XU
abbrev homeD (n : ℕ) (h : n < 32) : sProp 𝕄 := (wD n h).view.loc (c : Thread nD τ) ↦[(wD n h).view.set]{fullShare} XD
abbrev restU (n : ℕ) (h : n < 32) : sProp 𝕄 := upM.view.loc (c : Thread nD τ) ↦[Finset.univ \ (wU n h).view.set]{fullShare} XU
abbrev restD (n : ℕ) (h : n < 32) : sProp 𝕄 := dnM.view.loc (c : Thread nD τ) ↦[Finset.univ \ (wD n h).view.set]{fullShare} XD
/-- What a copy of panel `n` leaves in slot `s` over prior contents `f`. -/
abbrev landU (s : Fin 2) (n : ℕ) (h : n < 32) (f : BufOf (F := F) c (rU s)) : BufOf (F := F) c (rU s) :=
  (rU s).view.writes (Elt F) f [⟨Rect.whole S1024x2048, ReadAs.same.apply ((wU n h).view.read (Elt F) XU)⟩]
abbrev landD (s : Fin 2) (n : ℕ) (h : n < 32) (f : BufOf (F := F) c (rD s)) : BufOf (F := F) c (rD s) :=
  (rD s).view.writes (Elt F) f [⟨Rect.whole S1024x1024, ReadAs.same.apply ((wD n h).view.read (Elt F) XD)⟩]
abbrev flyU (s : Fin 2) (n : ℕ) (h : n < 32) (f : BufOf (F := F) c (rU s)) : sProp 𝕄 :=
  Transfers.Flight countersEmb (c : Thread nD τ) (SemLoc.dma (csm 0 s).sem) () 262144 iprop(slotU c s (landU c XU s n h f) ∗ homeU c XU n h)
abbrev flyD (s : Fin 2) (n : ℕ) (h : n < 32) (f : BufOf (F := F) c (rD s)) : sProp 𝕄 :=
  Transfers.Flight countersEmb (c : Thread nD τ) (SemLoc.dma (csm 1 s).sem) () 131072 iprop(slotD c s (landD c XD s n h f) ∗ homeD c XD n h)

end Pieces

end Cert.KernelIdeal.Exp

end
-- ==== Proof.Exp.KernelIdeal.Stages.lean ====
/-
  The experts' kernel body in three stages: the words it reads and the first issue (`progA`), the change of weights
  (`progB`), the rows' computation (`progC`); the body is their sequence.
-/
module

public import proofs.«01_k».proof.Proof.Exp.KernelIdeal.Kit

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- Stage one: the slot word, the first issue at the first point, the expert words of this row tile and the one before. -/
def progA (i : grid0.Coords) : Prog (TpuEff nD τ sig (Elt F) Λ₀ .tc) (BitVec 32 × BitVec 32 × BitVec 32) := do
  let v1 : Elt F .i32 ← smemLoad tbH (Rect.unit (s := S288) (k0_off1 i) S1.size (k0_off1_inb i)) numel1_S1 rfl
  if k0_h1 : k0_cond1 i = 1#1 then do
    let v24 : Elt F .i32 ← smemLoad tbE (Rect.unit (s := S288) ![0] S1.size inb_S288_S1_0) numel1_S1 rfl
    have k0_hw1 : k0_chk1 i v24 := (← Prog.lift (TpuEff.assume (k0_chk1 i v24) (k0_chk1.dec i v24))).down
    let v25 : DmaSems sig S1x1 := cc0_scratch4.slice (Rect.unit (s := S2x2) ![0, 0] S1x1.size inb_S2x2_S1x1_0_0)
    let v26 : DmaSems sig S_ := v25.squeeze S_ squeezes_S1x1_S_
    let v27 : Memref sig .tc .vmem S1x1024x2048 .f32 := ruM.slice (Rect.unit (s := S2x1024x2048) ![0, 0, 0] S1x1024x2048.size inb_S2x1024x2048_S1x1024x2048_0_0_0) (fun _ => rfl)
    let v28 : Memref sig .tc .vmem S1024x2048 .f32 := v27.squeeze S1024x2048 squeezes_S1x1024x2048_S1024x2048
    let v29 : Memref sig .tc .hbm S1x1024x2048 .f32 := upM.slice (Rect.unit (s := S32x1024x2048) (k0_off2 v24) S1x1024x2048.size (k0_off2_inb i v24 k0_hw1 k0_h1)) (fun _ => rfl)
    let v30 : Memref sig .tc .hbm S1024x2048 .f32 := v29.squeeze S1024x2048 squeezes_S1x1024x2048_S1024x2048
    Prog.lift (.enqueueDma v30 (.here v28) (.dma v26.sem) ((View.wordExact_bits rfl).reshape _ _) ((View.wordExact_bits rfl).reshape _ _) ⟨Or.inl rfl, trivial⟩)
    let v31 : DmaSems sig S1x1 := cc0_scratch4.slice (Rect.unit (s := S2x2) ![1, 0] S1x1.size inb_S2x2_S1x1_1_0)
    let v32 : DmaSems sig S_ := v31.squeeze S_ squeezes_S1x1_S_
    let v33 : Memref sig .tc .vmem S1x1024x1024 .f32 := rdM.slice (Rect.unit (s := S2x1024x1024) ![0, 0, 0] S1x1024x1024.size inb_S2x1024x1024_S1x1024x1024_0_0_0) (fun _ => rfl)
    let v34 : Memref sig .tc .vmem S1024x1024 .f32 := v33.squeeze S1024x1024 squeezes_S1x1024x1024_S1024x1024
    let v35 : Memref sig .tc .hbm S1x1024x1024 .f32 := dnM.slice (Rect.unit (s := S32x1024x1024) (k0_off3 v24) S1x1024x1024.size (k0_off3_inb i v24 k0_hw1 k0_h1)) (fun _ => rfl)
    let v36 : Memref sig .tc .hbm S1024x1024 .f32 := v35.squeeze S1024x1024 squeezes_S1x1024x1024_S1024x1024
    Prog.lift (.enqueueDma v36 (.here v34) (.dma v32.sem) ((View.wordExact_bits rfl).reshape _ _) ((View.wordExact_bits rfl).reshape _ _) ⟨Or.inl rfl, trivial⟩)
    pure ⟨⟩
  else do
    pure ⟨⟩
  let v7 : Elt F .i32 ← smemLoad tbE (Rect.unit (s := S288) (k0_off1 i) S1.size (k0_off1_inb i)) numel1_S1 rfl
  let v11 : Elt F .i32 ← smemLoad tbE (Rect.unit (s := S288) (k0_off4 i) S1.size (k0_off4_inb i)) numel1_S1 rfl
  pure (v1, v7, v11)

/-- Stage two: where the expert changes, wait for its panels, cast them, issue the next expert's. -/
def progB (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole) (v1 v7 v11 : BitVec 32) :
    Prog (TpuEff nD τ sig (Elt F) Λ₀ .tc) PUnit := do
  have k0_hw2 : k0_chk2 i v1 v7 v11 := (← Prog.lift (TpuEff.assume (k0_chk2 i v1 v7 v11) (k0_chk2.dec i v1 v7 v11))).down
  if k0_h2 : k0_cond2 i v7 v11 = 1#1 then do
    k0_part1 i tbE (Memref.isWhole_whole _) tbU (Memref.isWhole_whole _) tbH (Memref.isWhole_whole _) tbN (Memref.isWhole_whole _) arg5 harg5 upM (Memref.isWhole_whole _) arg7 harg7 dnM (Memref.isWhole_whole _) arg9 harg9 arg10 harg10 ruM (Memref.isWhole_whole _) rdM (Memref.isWhole_whole _) buM (Memref.isWhole_whole _) bdM (Memref.isWhole_whole _) cc0_scratch4 (BitVec.ofNat 32 (i 0).val) v1 v7 v11 k0_hw2 k0_h2
    pure ⟨⟩
  else do
    pure ⟨⟩

set_option maxRecDepth 65536 in
set_option maxHeartbeats 4000000 in
/-- Stage three: the row tile's result, or zeros past the used tiles. -/
def progC (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole) :
    Prog (TpuEff nD τ sig (Elt F) Λ₀ .tc) PUnit := do
  let v16 : Elt F .i32 ← smemLoad tbU (Rect.unit (s := S1) ![0] S1.size inb_S1_S1_0) numel1_S1 rfl
  if k0_h4 : k0_cond4 i v16 = 1#1 then do
    let ⟨v33, v41, v51, cst_29⟩ : Σ' (v33 : FVec F S256x1024 .bf16) (v41 : FVec F S256x256 .f32) (v51 : FVec F S256x256 .f32), F .f32 ← k0_part2 i tbE (Memref.isWhole_whole _) tbU (Memref.isWhole_whole _) tbH (Memref.isWhole_whole _) tbN (Memref.isWhole_whole _) arg5 harg5 upM (Memref.isWhole_whole _) arg7 harg7 dnM (Memref.isWhole_whole _) arg9 harg9 arg10 harg10 ruM (Memref.isWhole_whole _) rdM (Memref.isWhole_whole _) buM (Memref.isWhole_whole _) bdM (Memref.isWhole_whole _) cc0_scratch4
    let ⟨v63, v81, v89, cst_49⟩ : Σ' (v63 : FVec F S256x256 .bf16) (v81 : FVec F S256x256 .f32) (v89 : FVec F S256x256 .f32), F .f32 ← k0_part3 i tbE (Memref.isWhole_whole _) tbU (Memref.isWhole_whole _) tbH (Memref.isWhole_whole _) tbN (Memref.isWhole_whole _) arg5 harg5 upM (Memref.isWhole_whole _) arg7 harg7 dnM (Memref.isWhole_whole _) arg9 harg9 arg10 harg10 ruM (Memref.isWhole_whole _) rdM (Memref.isWhole_whole _) buM (Memref.isWhole_whole _) bdM (Memref.isWhole_whole _) cc0_scratch4 v33 v41 v51 cst_29
    let ⟨v93, v123, v125⟩ : Σ' (v93 : FVec F S256x256 .bf16) (v123 : FVec F S256x256 .bf16), FVec F S256x256 .f32 ← k0_part4 i tbE (Memref.isWhole_whole _) tbU (Memref.isWhole_whole _) tbH (Memref.isWhole_whole _) tbN (Memref.isWhole_whole _) arg5 harg5 upM (Memref.isWhole_whole _) arg7 harg7 dnM (Memref.isWhole_whole _) arg9 harg9 arg10 harg10 ruM (Memref.isWhole_whole _) rdM (Memref.isWhole_whole _) buM (Memref.isWhole_whole _) bdM (Memref.isWhole_whole _) cc0_scratch4 v33 v81 v89 cst_49
    let v160 : FVec F S256x1024 .f32 ← k0_part5 i tbE (Memref.isWhole_whole _) tbU (Memref.isWhole_whole _) tbH (Memref.isWhole_whole _) tbN (Memref.isWhole_whole _) arg5 harg5 upM (Memref.isWhole_whole _) arg7 harg7 dnM (Memref.isWhole_whole _) arg9 harg9 arg10 harg10 ruM (Memref.isWhole_whole _) rdM (Memref.isWhole_whole _) buM (Memref.isWhole_whole _) bdM (Memref.isWhole_whole _) cc0_scratch4 v33 v63 v93 v123 v125
    let v164 : Vec F S256x128 .f32 ← Prog.lift (.load arg10 (⟨![1, 0], S256x128.size, ![8, 1], inb_S2048x128_S256x128_1_0_s_8_1⟩ : LoadRect S2048x128) (View.loadsAt_vmem h_S256x128))
    Prog.lift (.store arg10 ⟨(⟨![1, 0], S256x128.size, ![8, 1], inb_S2048x128_S256x128_1_0_s_8_1⟩ : LoadRect S2048x128), spos_8_1⟩ (k0_pay1 v160) Finset.univ (View.stores_vmem_bits_univ h_S256x128 rfl) (.inl rfl))
    let v166 : Vec F S256x128 .f32 ← Prog.lift (.load arg10 (⟨![2, 0], S256x128.size, ![8, 1], inb_S2048x128_S256x128_2_0_s_8_1⟩ : LoadRect S2048x128) (View.loadsAt_vmem h_S256x128))
    Prog.lift (.store arg10 ⟨(⟨![2, 0], S256x128.size, ![8, 1], inb_S2048x128_S256x128_2_0_s_8_1⟩ : LoadRect S2048x128), spos_8_1⟩ (k0_pay2 v160) Finset.univ (View.stores_vmem_bits_univ h_S256x128 rfl) (.inl rfl))
    let v168 : Vec F S256x128 .f32 ← Prog.lift (.load arg10 (⟨![3, 0], S256x128.size, ![8, 1], inb_S2048x128_S256x128_3_0_s_8_1⟩ : LoadRect S2048x128) (View.loadsAt_vmem h_S256x128))
    Prog.lift (.store arg10 ⟨(⟨![3, 0], S256x128.size, ![8, 1], inb_S2048x128_S256x128_3_0_s_8_1⟩ : LoadRect S2048x128), spos_8_1⟩ (k0_pay3 v160) Finset.univ (View.stores_vmem_bits_univ h_S256x128 rfl) (.inl rfl))
    let v170 : Vec F S256x128 .f32 ← Prog.lift (.load arg10 (⟨![4, 0], S256x128.size, ![8, 1], inb_S2048x128_S256x128_4_0_s_8_1⟩ : LoadRect S2048x128) (View.loadsAt_vmem h_S256x128))
    Prog.lift (.store arg10 ⟨(⟨![4, 0], S256x128.size, ![8, 1], inb_S2048x128_S256x128_4_0_s_8_1⟩ : LoadRect S2048x128), spos_8_1⟩ (k0_pay4 v160) Finset.univ (View.stores_vmem_bits_univ h_S256x128 rfl) (.inl rfl))
    let v172 : Vec F S256x128 .f32 ← Prog.lift (.load arg10 (⟨![5, 0], S256x128.size, ![8, 1], inb_S2048x128_S256x128_5_0_s_8_1⟩ : LoadRect S2048x128) (View.loadsAt_vmem h_S256x128))
    Prog.lift (.store arg10 ⟨(⟨![5, 0], S256x128.size, ![8, 1], inb_S2048x128_S256x128_5_0_s_8_1⟩ : LoadRect S2048x128), spos_8_1⟩ (k0_pay5 v160) Finset.univ (View.stores_vmem_bits_univ h_S256x128 rfl) (.inl rfl))
    let v174 : Vec F S256x128 .f32 ← Prog.lift (.load arg10 (⟨![6, 0], S256x128.size, ![8, 1], inb_S2048x128_S256x128_6_0_s_8_1⟩ : LoadRect S2048x128) (View.loadsAt_vmem h_S256x128))
    Prog.lift (.store arg10 ⟨(⟨![6, 0], S256x128.size, ![8, 1], inb_S2048x128_S256x128_6_0_s_8_1⟩ : LoadRect S2048x128), spos_8_1⟩ (k0_pay6 v160) Finset.univ (View.stores_vmem_bits_univ h_S256x128 rfl) (.inl rfl))
    let v176 : Vec F S256x128 .f32 ← Prog.lift (.load arg10 (⟨![7, 0], S256x128.size, ![8, 1], inb_S2048x128_S256x128_7_0_s_8_1⟩ : LoadRect S2048x128) (View.loadsAt_vmem h_S256x128))
    Prog.lift (.store arg10 ⟨(⟨![7, 0], S256x128.size, ![8, 1], inb_S2048x128_S256x128_7_0_s_8_1⟩ : LoadRect S2048x128), spos_8_1⟩ (k0_pay7 v160) Finset.univ (View.stores_vmem_bits_univ h_S256x128 rfl) (.inl rfl))
    pure ⟨⟩
  else do
    pure ⟨⟩
  let v20 : Elt F .i32 ← smemLoad tbU (Rect.unit (s := S1) ![0] S1.size inb_S1_S1_0) numel1_S1 rfl
  if k0_h5 : k0_cond5 i v20 = 1#1 then do
    let v25 : Vec F S2048x128 .f32 ← Prog.lift (.load arg10 (Rect.unit (s := S2048x128) ![0, 0] S2048x128.size inb_S2048x128_S2048x128_0_0).toLoadRect (View.loadsAt_vmem h_S2048x128))
    Prog.lift (.store arg10 (Rect.unit (s := S2048x128) ![0, 0] S2048x128.size inb_S2048x128_S2048x128_0_0) (k0_pay8 (F := F)) Finset.univ (View.stores_vmem_bits_univ h_S2048x128 rfl) (.inl rfl))
    pure ⟨⟩
  else do
    pure ⟨⟩
  pure ⟨⟩

omit [FloatOps F] in
/-- A sequence after a decided branch goes into both branches. -/
theorem dite_then {α β : Type} (p : Prop) [Decidable p] (a : p → Prog (TpuEff nD τ sig (Elt F) Λ₀ .tc) α) (b : ¬p → Prog (TpuEff nD τ sig (Elt F) Λ₀ .tc) α)
    (k : α → Prog (TpuEff nD τ sig (Elt F) Λ₀ .tc) β) :
    (dite p a b >>= k) = dite p (fun h => a h >>= k) (fun h => b h >>= k) := by
  split <;> rfl

set_option maxRecDepth 65536 in
set_option maxHeartbeats 4000000 in
/-- The body is its three stages in sequence. -/
theorem body_stages (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole) :
    cc0_experts (F := F) i tbE (Memref.isWhole_whole _) tbU (Memref.isWhole_whole _) tbH (Memref.isWhole_whole _) tbN (Memref.isWhole_whole _) arg5 harg5 upM (Memref.isWhole_whole _) arg7 harg7 dnM (Memref.isWhole_whole _) arg9 harg9 arg10 harg10 ruM (Memref.isWhole_whole _) rdM (Memref.isWhole_whole _) buM (Memref.isWhole_whole _) bdM (Memref.isWhole_whole _) cc0_scratch4
      = progA i >>= fun p => progB i arg5 harg5 arg7 harg7 arg9 harg9 arg10 harg10 p.1 p.2.1 p.2.2 >>= fun _ => progC i arg5 harg5 arg7 harg7 arg9 harg9 arg10 harg10 := by
  rw [cc0_experts_eq_skeleton]; unfold cc0_experts_skel progA progB progC
  simp only [bind_assoc, pure_bind, dite_then]

/-- The body on core `c`, at any staging buffers. -/
abbrev bodyC (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole) : Prog (TpuEff nD τ sig (Elt F) Λ₀ .tc) PUnit :=
  cc0_experts (F := F) i tbE (Memref.isWhole_whole _) tbU (Memref.isWhole_whole _) tbH (Memref.isWhole_whole _) tbN (Memref.isWhole_whole _) arg5 harg5 upM (Memref.isWhole_whole _) arg7 harg7 dnM (Memref.isWhole_whole _) arg9 harg9 arg10 harg10 ruM (Memref.isWhole_whole _) rdM (Memref.isWhole_whole _) buM (Memref.isWhole_whole _) bdM (Memref.isWhole_whole _) cc0_scratch4

end Cert.KernelIdeal.Exp

end
-- ==== Proof.Exp.KernelIdeal.Out.lean ====
/-
  What the experts' kernel computes for one row tile, as a function of the tile, the biases and the two weight panels
  it holds; and that its eight strided stores leave that result in the row-tile layout.
-/
module

public import proofs.«01_k».proof.Proof.Exp.KernelIdeal.Stages
public import Idealize.ShloMosaic.Lib.VecWindow
public import Idealize.ShloMosaic.Lib.Pipeline.StridedRows

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The row tile's result: 256 rows of 1024, from the tile `x`, the biases `bu`, `bd` and the cast panels `pu`, `pd`. -/
def resV (x : Vec F S2048x128 .f32) (bu : Vec F S1x1x2048 .f32) (bd : Vec F S1x1x1024 .f32) (pu : Vec F S1024x2048 .bf16) (pd : Vec F S1024x1024 .bf16) : FVec F S256x1024 .f32 :=
  let s0 : Vec F S256x128 .f32 := (fun y => x ((⟨![0, 0], S256x128.size, ![8, 1], inb_S2048x128_S256x128_0_0_s_8_1⟩ : LoadRect S2048x128).idx y))
  let s1 : Vec F S256x128 .f32 := (fun y => x ((⟨![1, 0], S256x128.size, ![8, 1], inb_S2048x128_S256x128_1_0_s_8_1⟩ : LoadRect S2048x128).idx y))
  let s2 : Vec F S256x128 .f32 := (fun y => x ((⟨![2, 0], S256x128.size, ![8, 1], inb_S2048x128_S256x128_2_0_s_8_1⟩ : LoadRect S2048x128).idx y))
  let s3 : Vec F S256x128 .f32 := (fun y => x ((⟨![3, 0], S256x128.size, ![8, 1], inb_S2048x128_S256x128_3_0_s_8_1⟩ : LoadRect S2048x128).idx y))
  let s4 : Vec F S256x128 .f32 := (fun y => x ((⟨![4, 0], S256x128.size, ![8, 1], inb_S2048x128_S256x128_4_0_s_8_1⟩ : LoadRect S2048x128).idx y))
  let s5 : Vec F S256x128 .f32 := (fun y => x ((⟨![5, 0], S256x128.size, ![8, 1], inb_S2048x128_S256x128_5_0_s_8_1⟩ : LoadRect S2048x128).idx y))
  let s6 : Vec F S256x128 .f32 := (fun y => x ((⟨![6, 0], S256x128.size, ![8, 1], inb_S2048x128_S256x128_6_0_s_8_1⟩ : LoadRect S2048x128).idx y))
  let s7 : Vec F S256x128 .f32 := (fun y => x ((⟨![7, 0], S256x128.size, ![8, 1], inb_S2048x128_S256x128_7_0_s_8_1⟩ : LoadRect S2048x128).idx y))
  let r : FVec F S256x1024 .bf16 := k0_pay11 s0 s1 s2 s3 s4 s5 s6 s7
  k0_pay20 r (k0_pay14 (k0_pay12 s0 s1 s2 s3 s4 s5 s6 s7 (fun y => pu ((Rect.unit (s := S1024x2048) ![0, 0] S1024x256.size inb_S1024x2048_S1024x256_0_0).toLoadRect.idx y)) (fun y => bu ((Rect.unit (s := S1x1x2048) ![0, 0, 0] S1x1x256.size inb_S1x1x2048_S1x1x256_0_0_0).toLoadRect.idx y))) (k0_pay13 s0 s1 s2 s3 s4 s5 s6 s7 (fun y => pu ((Rect.unit (s := S1024x2048) ![0, 1024] S1024x256.size inb_S1024x2048_S1024x256_0_1024).toLoadRect.idx y)) (fun y => bu ((Rect.unit (s := S1x1x2048) ![0, 0, 1024] S1x1x256.size inb_S1x1x2048_S1x1x256_0_0_1024).toLoadRect.idx y))) (Scalar.ofBits .f32 0xBFD9DB23#32))
    (k0_pay17 (k0_pay15 r (fun y => pu ((Rect.unit (s := S1024x2048) ![0, 1280] S1024x256.size inb_S1024x2048_S1024x256_0_1280).toLoadRect.idx y)) (fun y => bu ((Rect.unit (s := S1x1x2048) ![0, 0, 1280] S1x1x256.size inb_S1x1x2048_S1x1x256_0_0_1280).toLoadRect.idx y))) (k0_pay16 r (fun y => pu ((Rect.unit (s := S1024x2048) ![0, 256] S1024x256.size inb_S1024x2048_S1024x256_0_256).toLoadRect.idx y)) (fun y => bu ((Rect.unit (s := S1x1x2048) ![0, 0, 256] S1x1x256.size inb_S1x1x2048_S1x1x256_0_0_256).toLoadRect.idx y))) (Scalar.ofBits .f32 0x3F800000#32))
    (k0_pay18 r (fun y => pu ((Rect.unit (s := S1024x2048) ![0, 512] S1024x256.size inb_S1024x2048_S1024x256_0_512).toLoadRect.idx y)) (fun y => bu ((Rect.unit (s := S1x1x2048) ![0, 0, 512] S1x1x256.size inb_S1x1x2048_S1x1x256_0_0_512).toLoadRect.idx y)) (fun y => pu ((Rect.unit (s := S1024x2048) ![0, 1536] S1024x256.size inb_S1024x2048_S1024x256_0_1536).toLoadRect.idx y)) (fun y => bu ((Rect.unit (s := S1x1x2048) ![0, 0, 1536] S1x1x256.size inb_S1x1x2048_S1x1x256_0_0_1536).toLoadRect.idx y))) (k0_pay19 r (fun y => pu ((Rect.unit (s := S1024x2048) ![0, 768] S1024x256.size inb_S1024x2048_S1024x256_0_768).toLoadRect.idx y))) (fun y => bu ((Rect.unit (s := S1x1x2048) ![0, 0, 768] S1x1x256.size inb_S1x1x2048_S1x1x256_0_0_768).toLoadRect.idx y)) (fun y => pu ((Rect.unit (s := S1024x2048) ![0, 1792] S1024x256.size inb_S1024x2048_S1024x256_0_1792).toLoadRect.idx y)) (fun y => bu ((Rect.unit (s := S1x1x2048) ![0, 0, 1792] S1x1x256.size inb_S1x1x2048_S1x1x256_0_0_1792).toLoadRect.idx y))
    (fun y => pd ((Rect.unit (s := S1024x1024) ![0, 0] S1024x1024.size inb_S1024x1024_S1024x1024_0_0).toLoadRect.idx y))
    (fun y => bd ((Rect.unit (s := S1x1x1024) ![0, 0, 0] S1x1x1024.size inb_S1x1x1024_S1x1x1024_0_0_0).toLoadRect.idx y))

/-- Where the row-tile layout keeps an element: sublane `8 r + j`, lane `l` holds row `r`, column `128 j + l`. -/
def spreadIx (y : S2048x128.Idx) : S256x1024.Idx := fun a => match a with
  | ⟨0, _⟩ => ⟨(y 0).val / 8, by have h : (y 0).val < 2048 := (y 0).isLt; show (y 0).val / 8 < 256; omega⟩
  | ⟨1, _⟩ => ⟨128 * ((y 0).val % 8) + (y 1).val, by have h : (y 1).val < 128 := (y 1).isLt; show 128 * ((y 0).val % 8) + (y 1).val < 1024; omega⟩

/-- A 256×1024 value in the row-tile layout. -/
def spread {α : Type} (v : S256x1024.Idx → α) : S2048x128.Idx → α := fun y => v (spreadIx y)

theorem stripe_inb (j : Fin 8) : ∀ a : Fin 2, (S256x128.size a) = 0 ∨ (![j.val, 0] : Fin 2 → Nat) a + (![8, 1] : Fin 2 → Nat) a * (S256x128.size a - 1) < S2048x128.size a := by
  have := j.isLt; intro a; fin_cases a
  · exact Or.inr (show j.val + 8 * (256 - 1) < 2048 by omega)
  · exact Or.inr (show 0 + 1 * (128 - 1) < 128 by omega)
/-- Sublanes `j, j + 8, …`. -/
def stripe (j : Fin 8) : Rect S2048x128 := ⟨⟨![j.val, 0], S256x128.size, ![8, 1], stripe_inb j⟩, spos_8_1⟩

theorem stripe_pay {α : Type} (j : Fin 8) (v : S256x1024.Idx → α) (h) (y : S256x128.Idx) :
    extractStridedSlice S256x128 ![0, 128 * j.val] v h y = spread v ((stripe j).emb y) := by
  unfold extractStridedSlice spread
  congr 1; funext a
  have hj := j.isLt
  match a with
  | ⟨0, _⟩ => exact Fin.ext (show 0 + (y 0).val = (j.val + 8 * (y 0).val) / 8 by omega)
  | ⟨1, _⟩ => exact Fin.ext (show 128 * j.val + (y 1).val = 128 * ((j.val + 8 * (y 0).val) % 8) + (0 + 1 * (y 1).val) by omega)

theorem stripe_mem (y : S2048x128.Idx) : y ∈ (stripe ⟨(y 0).val % 8, Nat.mod_lt _ (by decide)⟩).set := by
  have h0 : (y 0).val < 2048 := (y 0).isLt
  have h1 : (y 1).val < 128 := (y 1).isLt
  rw [LoadRect.mem_set]
  intro a
  match a with
  | ⟨0, _⟩ => exact ⟨(y 0).val / 8, (show (y 0).val / 8 < 256 by omega), (show (y 0).val = (y 0).val % 8 + 8 * ((y 0).val / 8) by omega)⟩
  | ⟨1, _⟩ => exact ⟨(y 1).val, h1, (show (y 1).val = 0 + 1 * (y 1).val by omega)⟩

omit [FloatOps F] in
/-- Eight stripes of `v` stored, the last first in the list: the buffer holds `v` in the row-tile layout. -/
theorem read_spread [∀ e, Nonempty (Elt F e)] {κ : Kind} {sp : Space} (V : View sig κ sp S2048x128 .f32) (f : V.ty.Contents (Elt F)) (v : FVec F S256x1024 .f32)
    (p : Fin 8 → S256x128.Idx → Elt F .f32) (hp : ∀ j y, p j y = spread v ((stripe j).emb y)) :
    V.read (Elt F) (V.writes (Elt F) f [⟨stripe 7, p 7⟩, ⟨stripe 6, p 6⟩, ⟨stripe 5, p 5⟩, ⟨stripe 4, p 4⟩, ⟨stripe 3, p 3⟩, ⟨stripe 2, p 2⟩, ⟨stripe 1, p 1⟩, ⟨stripe 0, p 0⟩]) = spread v := by
  have hL : ∀ j : Fin 8, (⟨stripe j, p j⟩ : View.Piece (Elt F) S2048x128 .f32) ∈ ([⟨stripe 7, p 7⟩, ⟨stripe 6, p 6⟩, ⟨stripe 5, p 5⟩, ⟨stripe 4, p 4⟩, ⟨stripe 3, p 3⟩, ⟨stripe 2, p 2⟩, ⟨stripe 1, p 1⟩, ⟨stripe 0, p 0⟩] : List (View.Piece (Elt F) S2048x128 .f32)) := by
    intro j; fin_cases j <;> simp
  have hc : ∀ y, ∃ q ∈ ([⟨stripe 7, p 7⟩, ⟨stripe 6, p 6⟩, ⟨stripe 5, p 5⟩, ⟨stripe 4, p 4⟩, ⟨stripe 3, p 3⟩, ⟨stripe 2, p 2⟩, ⟨stripe 1, p 1⟩, ⟨stripe 0, p 0⟩] : List (View.Piece (Elt F) S2048x128 .f32)), y ∈ q.1.set :=
    fun y => ⟨_, hL _, stripe_mem y⟩
  rw [View.read_writes_eq_canon V f _ hc]
  funext y
  refine View.canon_apply_of_pieces (spread v) _ ?_ y (hc y)
  intro q hq
  simp only [List.mem_cons, List.not_mem_nil, or_false] at hq
  rcases hq with rfl | rfl | rfl | rfl | rfl | rfl | rfl | rfl <;> exact hp _

/-- A panel's cast, as the kernel stores it. -/
def castU (v : FVec F S1024x2048 .f32) : FVec F S1024x2048 .bf16 := shapeCast S1024x2048 (truncf .bf16 v bitsLt_bf16_f32) shapeCasts_S1024x2048_S1024x2048
def castD (v : FVec F S1024x1024 .f32) : FVec F S1024x1024 .bf16 := shapeCast S1024x1024 (truncf .bf16 v bitsLt_bf16_f32) shapeCasts_S1024x1024_S1024x1024

omit [FloatOps F] in
/-- A slot read through the whole ring is the slot's own contents. -/
theorem readU (s : Fin 2) {off : Fin 3 → Nat} (e : off = panOff s.val) (hh) (f : (rU s).view.ty.Contents (Elt F)) :
    shapeCast S1024x2048 (ruM.view.readAt (Elt F) (Rect.unit (s := S2x1024x2048) off S1x1024x2048.size hh).toLoadRect f) shapeCasts_S1x1024x2048_S1024x2048
      = (rU s).view.read (Elt F) f := by subst e; rfl
omit [FloatOps F] in
theorem readD (s : Fin 2) {off : Fin 3 → Nat} (e : off = panOff s.val) (hh) (f : (rD s).view.ty.Contents (Elt F)) :
    shapeCast S1024x1024 (rdM.view.readAt (Elt F) (Rect.unit (s := S2x1024x1024) off S1x1024x1024.size hh).toLoadRect f) shapeCasts_S1x1024x1024_S1024x1024
      = (rD s).view.read (Elt F) f := by subst e; rfl

theorem pay9_slot (s : Fin 2) {off : Fin 3 → Nat} (e : off = panOff s.val) (hh) (f : (rU s).view.ty.Contents (Elt F)) :
    k0_pay9 (ruM.view.readAt (Elt F) (Rect.unit (s := S2x1024x2048) off S1x1024x2048.size hh).toLoadRect f) = castU ((rU s).view.read (Elt F) f) := by
  unfold k0_pay9 castU; rw [readU s e hh f]
theorem pay10_slot (s : Fin 2) {off : Fin 3 → Nat} (e : off = panOff s.val) (hh) (f : (rD s).view.ty.Contents (Elt F)) :
    k0_pay10 (rdM.view.readAt (Elt F) (Rect.unit (s := S2x1024x1024) off S1x1024x1024.size hh).toLoadRect f) = castD ((rD s).view.read (Elt F) f) := by
  unfold k0_pay10 castD; rw [readD s e hh f]

omit [FloatOps F] in
theorem landU_read (c : Dev nD) (XU : BufOf (F := F) c upM) (s : Fin 2) (n : ℕ) (h : n < 32) (f : BufOf (F := F) c (rU s)) :
    (rU s).view.read (Elt F) (landU c XU s n h f) = (wU n h).view.read (Elt F) XU :=
  View.read_writes_full _ _ (fun _ => le_of_eq (Nat.zero_add _)) _ []
omit [FloatOps F] in
theorem landD_read (c : Dev nD) (XD : BufOf (F := F) c dnM) (s : Fin 2) (n : ℕ) (h : n < 32) (f : BufOf (F := F) c (rD s)) :
    (rD s).view.read (Elt F) (landD c XD s n h f) = (wD n h).view.read (Elt F) XD :=
  View.read_writes_full _ _ (fun _ => le_of_eq (Nat.zero_add _)) _ []

end Cert.KernelIdeal.Exp

end
-- ==== Proof.Exp.KernelIdeal.States.lean ====
/-
  What stands at rest and what is in flight between the stages: a slot free, a slot being filled, the panels at home,
  an expert's panels cast and kept; the words the stages read.
-/
module

public import proofs.«01_k».proof.Proof.Exp.KernelIdeal.Stages
public import proofs.«01_k».proof.Proof.Exp.KernelIdeal.Out

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

section States
variable (c : Dev nD) (XU : BufOf (F := F) c upM) (XD : BufOf (F := F) c dnM)

/-- Slot `s` of both rings held, its cells at zero. -/
def Free (s : Fin 2) : sProp 𝕄 :=
  iprop((∃ f, slotU (F := F) c s f) ∗ (∃ g, slotD (F := F) c s g) ∗ cellP (F := F) c 0 s ∗ cellP (F := F) c 1 s)
/-- Expert `n`'s panels on their way into slot `s`. -/
def Busy (s : Fin 2) (n : ℕ) : sProp 𝕄 :=
  iprop(∃ h : n < 32, (∃ f, flyU c XU s n h f) ∗ (∃ g, flyD c XD s n h g) ∗ restU c XU n h ∗ restD c XD n h)
/-- All panels at home. -/
def Home : sProp 𝕄 := iprop(heldP c upM XU ∗ heldP c dnM XD)
/-- Expert `n`'s panels cast and kept. -/
def Loaded (n : ℕ) : sProp 𝕄 :=
  iprop(∃ h : n < 32, (∃ b, ⌜buM.view.read (Elt F) b = castU ((wU n h).view.read (Elt F) XU)⌝ ∗ heldP (F := F) c buM b)
    ∗ (∃ b, ⌜bdM.view.read (Elt F) b = castD ((wD n h).view.read (Elt F) XD)⌝ ∗ heldP (F := F) c bdM b))
/-- The two kept panels at anything. -/
def Any : sProp 𝕄 := iprop((∃ b, heldP (F := F) c buM b) ∗ (∃ b, heldP (F := F) c bdM b))

theorem joinU (n : ℕ) (h : n < 32) : iprop(homeU c XU n h ∗ restU c XU n h) ⊢ (heldP c upM XU : sProp 𝕄) :=
  (pointsTo_split_subset (ℓ := upM.view.loc (c : Thread nD τ)) (q := fullShare) (f := XU) (Finset.subset_univ (wU n h).view.set)).2
theorem joinD (n : ℕ) (h : n < 32) : iprop(homeD c XD n h ∗ restD c XD n h) ⊢ (heldP c dnM XD : sProp 𝕄) :=
  (pointsTo_split_subset (ℓ := dnM.view.loc (c : Thread nD τ)) (q := fullShare) (f := XD) (Finset.subset_univ (wD n h).view.set)).2

theorem read_castU (b0 : BufOf (F := F) c buM) (v : FVec F S1024x2048 .bf16) (hh : ∀ a, (![0, 0] : Fin 2 → Nat) a + S1024x2048.size a ≤ S1024x2048.size a) :
    buM.view.read (Elt F) (buM.view.writes (Elt F) b0 [⟨Rect.unit (s := S1024x2048) ![0, 0] S1024x2048.size hh, v⟩]) = v :=
  View.read_writes_full _ _ (fun a => by fin_cases a <;> rfl) _ []
theorem read_castD (b0 : BufOf (F := F) c bdM) (v : FVec F S1024x1024 .bf16) (hh : ∀ a, (![0, 0] : Fin 2 → Nat) a + S1024x1024.size a ≤ S1024x1024.size a) :
    bdM.view.read (Elt F) (bdM.view.writes (Elt F) b0 [⟨Rect.unit (s := S1024x1024) ![0, 0] S1024x1024.size hh, v⟩]) = v :=
  View.read_writes_full _ _ (fun a => by fin_cases a <;> rfl) _ []

/-! The words the stages read. -/
abbrev wordE (i : grid0.Coords) (xE : BufOf (F := F) c tbE) : BitVec 32 :=
  tbE.view.readAt (Elt F) (Rect.unit (s := S288) (k0_off5 i) S1.size (k0_off5_inb i)).toLoadRect xE (Shape.Idx.first (numel1_S1.symm ▸ Nat.one_pos))
abbrev wordE1 (i : grid0.Coords) (xE : BufOf (F := F) c tbE) : BitVec 32 :=
  tbE.view.readAt (Elt F) (Rect.unit (s := S288) (k0_off1 i) S1.size (k0_off1_inb i)).toLoadRect xE (Shape.Idx.first (numel1_S1.symm ▸ Nat.one_pos))
abbrev wordP (i : grid0.Coords) (xE : BufOf (F := F) c tbE) : BitVec 32 :=
  tbE.view.readAt (Elt F) (Rect.unit (s := S288) (k0_off4 i) S1.size (k0_off4_inb i)).toLoadRect xE (Shape.Idx.first (numel1_S1.symm ▸ Nat.one_pos))
abbrev word0 (xE : BufOf (F := F) c tbE) : BitVec 32 :=
  tbE.view.readAt (Elt F) (Rect.unit (s := S288) ![0] S1.size inb_S288_S1_0).toLoadRect xE (Shape.Idx.first (numel1_S1.symm ▸ Nat.one_pos))
abbrev wordH (i : grid0.Coords) (xH : BufOf (F := F) c tbH) : BitVec 32 :=
  tbH.view.readAt (Elt F) (Rect.unit (s := S288) (k0_off1 i) S1.size (k0_off1_inb i)).toLoadRect xH (Shape.Idx.first (numel1_S1.symm ▸ Nat.one_pos))
abbrev wordN (i : grid0.Coords) (xN : BufOf (F := F) c tbN) : BitVec 32 :=
  tbN.view.readAt (Elt F) (Rect.unit (s := S288) (k0_off14 i) S1.size (k0_off14_inb i)).toLoadRect xN (Shape.Idx.first (numel1_S1.symm ▸ Nat.one_pos))
abbrev wordU (xU : BufOf (F := F) c tbU) : BitVec 32 :=
  tbU.view.readAt (Elt F) (Rect.unit (s := S1) ![0] S1.size inb_S1_S1_0).toLoadRect xU (Shape.Idx.first (numel1_S1.symm ▸ Nat.one_pos))

end States

end Cert.KernelIdeal.Exp

end
-- ==== Proof.Exp.KernelIdeal.RunA.lean ====
/-
  The first stage: at the first point expert `be[0]`'s panels are sent for into slot 0; elsewhere only words are read.
-/
module

public import proofs.«01_k».proof.Proof.Exp.KernelIdeal.States

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 800000 in
theorem runA_first (c : Dev nD) (i : grid0.Coords) (XU : BufOf (F := F) c upM) (XD : BufOf (F := F) c dnM)
    (xE : BufOf (F := F) c tbE) (xH : BufOf (F := F) c tbH) (h1 : k0_cond1 i = 1#1) (c1 : k0_chk1 i (word0 c xE)) :
      ∀ (W : Waits sig Unit) (K : BitVec 32 × BitVec 32 × BitVec 32 → sProp 𝕄),
        iprop(tabP c tbE xE ∗ tabP c tbH xH ∗ Home c XU XD ∗ Free (F := F) c 0 ∗ owes (c : Thread nD τ) 0 W
            ∗ (iprop(tabP c tbE xE ∗ tabP c tbH xH ∗ Busy c XU XD 0 (word0 c xE).toNat ∗ ∃ W', owes (c : Thread nD τ) 0 W')
                -∗ K (wordH c i xH, wordE1 c i xE, wordP c i xE)))
          ⊢ wp frame (wpE (defs₀ (F := F)) Variants.none c none) Set.univ (progA i) K := by
  intro W K
  unfold progA Home Free
  iintro ⟨HE, HH, ⟨HU, HD⟩, ⟨⟨%f1, Hs1⟩, ⟨%g1, Ht1⟩, Hq1, Hr1⟩, HW, HK⟩
  sl_exec (disch := first | exact h1 | sl_exact c1)
  sl_step
  unfold runA_first.sl.r runA_first.sl.r_2 runA_first.sl.r_3
  iapply HK
  isplitl [HE]; · iexact HE
  isplitl [HH]; · iexact HH
  isplitl [Hq1 Hr1 HU HD]
  · unfold Busy
    iexists (lt32U (off := k0_off2 (word0 c xE)) rfl (k0_off2_inb _ _ c1 h1))
    isplitl [Hq1]
    · iexists f1; iexact Hq1
    isplitl [Hr1]
    · iexists g1; iexact Hr1
    isplitl [HU]; · iexact HU
    iexact HD
  iexists _; iexact HW

set_option maxHeartbeats 800000 in
theorem runA_other (c : Dev nD) (i : grid0.Coords)
    (xE : BufOf (F := F) c tbE) (xH : BufOf (F := F) c tbH) (h1 : ¬ k0_cond1 i = 1#1) :
      ∀ (W : Waits sig Unit) (K : BitVec 32 × BitVec 32 × BitVec 32 → sProp 𝕄),
        iprop(tabP c tbE xE ∗ tabP c tbH xH ∗ owes (c : Thread nD τ) 0 W
            ∗ (iprop(tabP c tbE xE ∗ tabP c tbH xH ∗ ∃ W', owes (c : Thread nD τ) 0 W')
                -∗ K (wordH c i xH, wordE1 c i xE, wordP c i xE)))
          ⊢ wp frame (wpE (defs₀ (F := F)) Variants.none c none) Set.univ (progA i) K := by
  intro W K
  unfold progA
  iintro ⟨HE, HH, HW, HK⟩
  sl_exec (disch := first | exact h1)
  sl_step
  unfold runA_other.sl.r runA_other.sl.r_1 runA_other.sl.r_2
  iapply HK
  isplitl [HE]; · iexact HE
  isplitl [HH]; · iexact HH
  iexists _; iexact HW

set_option maxHeartbeats 800000 in
/-- The second stage where the expert does not change: nothing. -/
theorem runB_same (c : Dev nD) (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole) (v1 v7 v11 : BitVec 32)
    (hw2 : k0_chk2 i v1 v7 v11) (h2 : ¬ k0_cond2 i v7 v11 = 1#1) :
      ∀ (W : Waits sig Unit) (K : PUnit → sProp 𝕄),
        iprop(owes (c : Thread nD τ) 0 W ∗ (iprop(∃ W', owes (c : Thread nD τ) 0 W') -∗ K ⟨⟩))
          ⊢ wp frame (wpE (defs₀ (F := F)) Variants.none c none) Set.univ (progB i arg5 harg5 arg7 harg7 arg9 harg9 arg10 harg10 v1 v7 v11) K := by
  intro W K
  unfold progB
  iintro ⟨HW, HK⟩
  sl_exec (disch := first | sl_exact hw2 | exact h2)
  sl_step
  iapply HK
  iexists _; iexact HW

end Cert.KernelIdeal.Exp

end
-- ==== Proof.Exp.KernelIdeal.RunB0.lean ====
/-
  The change of weights at a point whose slot is 0: the expert's panels arrive there and are cast; the next expert's
  are sent for into the other slot, where there is a next.
-/
module

public import proofs.«01_k».proof.Proof.Exp.KernelIdeal.States

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 800000 in
theorem runB_issue_0 (c : Dev nD) (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole)
    (XU : BufOf (F := F) c upM) (XD : BufOf (F := F) c dnM) (xE : BufOf (F := F) c tbE) (xN : BufOf (F := F) c tbN) (v7 v11 : BitVec 32) (n : ℕ)
    (hw2 : k0_chk2 i 0#32 v7 v11) (h2 : k0_cond2 i v7 v11 = 1#1) (c3 : k0_chk3 i v7 v11 (wordE c i xE)) (c4 : k0_chk4 i 0#32 v7 v11 (wordN c i xN)) (h3 : k0_cond3 (wordN c i xN) = 1#1) (c5 : k0_chk5 i v7 v11 (wordN c i xN) (wordN c i xN)) :
      ∀ (W : Waits sig Unit) (K : PUnit → sProp 𝕄),
        iprop(tabP c tbE xE ∗ tabP c tbN xN ∗ Busy c XU XD 0 n ∗ Free (F := F) c 1 ∗ Any (F := F) c ∗ owes (c : Thread nD τ) 0 W
            ∗ (iprop(tabP c tbE xE ∗ tabP c tbN xN ∗ Free (F := F) c 0 ∗ Busy c XU XD 1 (wordN c i xN).toNat ∗ Loaded c XU XD n ∗ ∃ W', owes (c : Thread nD τ) 0 W') -∗ K ⟨⟩))
          ⊢ wp frame (wpE (defs₀ (F := F)) Variants.none c none) Set.univ (progB i arg5 harg5 arg7 harg7 arg9 harg9 arg10 harg10 0#32 v7 v11) K := by
  intro W K
  unfold progB Busy Free Any
  simp only [k0_part1_eq_skeleton]; unfold k0_part1_skel
  iintro ⟨HE, HN, ⟨%h, ⟨%f0, HFU⟩, ⟨%g0, HFD⟩, HU, HD⟩, ⟨⟨%f1, Hs1⟩, ⟨%g1, Ht1⟩, Hq1, Hr1⟩, ⟨⟨%b0, HB⟩, ⟨%b1, HC⟩⟩, HW, HK⟩
  sl_exec (disch := first | sl_exact hw2 | exact h2 | sl_exact c3 | sl_exact c4 | sl_exact c5 | exact h3)
  ihave HU := (joinU c XU n h) $$ [HFU_src HU]
  · isplitl [HFU_src]
    · iexact HFU_src
    iexact HU
  ihave HD := (joinD c XD n h) $$ [HFD_src HD]
  · isplitl [HFD_src]
    · iexact HFD_src
    iexact HD
  sl_exec (disch := first | sl_exact hw2 | exact h2 | sl_exact c3 | sl_exact c4 | sl_exact c5 | exact h3)
  sl_step
  iapply HK
  isplitl [HE]; · iexact HE
  isplitl [HN]; · iexact HN
  isplitl [HFU_dst HFD_dst HFU HFD]
  · isplitl [HFU_dst]
    · iexists _; iexact HFU_dst
    isplitl [HFD_dst]
    · iexists _; iexact HFD_dst
    isplitl [HFU]; · iexact HFU
    iexact HFD
  isplitl [Hq1 Hr1 HU HD]
  · iexists (lt32U (off := k0_off18 (wordN c i xN)) rfl (k0_off18_inb _ _ _ _ _ c5 h2 h3))
    isplitl [Hq1]
    · iexists f1; iexact Hq1
    isplitl [Hr1]
    · iexists g1; iexact Hr1
    isplitl [HU]; · iexact HU
    iexact HD
  isplitl [HB HC]
  · unfold Loaded
    iexists h
    isplitl [HB]
    · iexists _; isplitr [HB]; rotate_left
      · iexact HB
      ipureintro
      unfold runB_issue_0.sl.v39
      exact (read_castU c b0 _ _).trans ((pay9_slot 0 rfl _ _).trans (congrArg castU (landU_read c XU 0 n h _)))
    · iexists _; isplitr [HC]; rotate_left
      · iexact HC
      ipureintro
      unfold runB_issue_0.sl.v46
      exact (read_castD c b1 _ _).trans ((pay10_slot 0 rfl _ _).trans (congrArg castD (landD_read c XD 0 n h _)))
  iexists _; iexact HW

set_option maxHeartbeats 800000 in
theorem runB_stop_0 (c : Dev nD) (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole)
    (XU : BufOf (F := F) c upM) (XD : BufOf (F := F) c dnM) (xE : BufOf (F := F) c tbE) (xN : BufOf (F := F) c tbN) (v7 v11 : BitVec 32) (n : ℕ)
    (hw2 : k0_chk2 i 0#32 v7 v11) (h2 : k0_cond2 i v7 v11 = 1#1) (c3 : k0_chk3 i v7 v11 (wordE c i xE)) (c4 : k0_chk4 i 0#32 v7 v11 (wordN c i xN)) (h3 : ¬ k0_cond3 (wordN c i xN) = 1#1) :
      ∀ (W : Waits sig Unit) (K : PUnit → sProp 𝕄),
        iprop(tabP c tbE xE ∗ tabP c tbN xN ∗ Busy c XU XD 0 n ∗ Free (F := F) c 1 ∗ Any (F := F) c ∗ owes (c : Thread nD τ) 0 W
            ∗ (iprop(tabP c tbE xE ∗ tabP c tbN xN ∗ Free (F := F) c 0 ∗ Home c XU XD ∗ Free (F := F) c 1 ∗ Loaded c XU XD n ∗ ∃ W', owes (c : Thread nD τ) 0 W') -∗ K ⟨⟩))
          ⊢ wp frame (wpE (defs₀ (F := F)) Variants.none c none) Set.univ (progB i arg5 harg5 arg7 harg7 arg9 harg9 arg10 harg10 0#32 v7 v11) K := by
  intro W K
  unfold progB Busy Free Any
  simp only [k0_part1_eq_skeleton]; unfold k0_part1_skel
  iintro ⟨HE, HN, ⟨%h, ⟨%f0, HFU⟩, ⟨%g0, HFD⟩, HU, HD⟩, ⟨⟨%f1, Hs1⟩, ⟨%g1, Ht1⟩, Hq1, Hr1⟩, ⟨⟨%b0, HB⟩, ⟨%b1, HC⟩⟩, HW, HK⟩
  sl_exec (disch := first | sl_exact hw2 | exact h2 | sl_exact c3 | sl_exact c4 | exact h3)
  ihave HU := (joinU c XU n h) $$ [HFU_src HU]
  · isplitl [HFU_src]
    · iexact HFU_src
    iexact HU
  ihave HD := (joinD c XD n h) $$ [HFD_src HD]
  · isplitl [HFD_src]
    · iexact HFD_src
    iexact HD
  sl_step
  iapply HK
  isplitl [HE]; · iexact HE
  isplitl [HN]; · iexact HN
  isplitl [HFU_dst HFD_dst HFU HFD]
  · isplitl [HFU_dst]
    · iexists _; iexact HFU_dst
    isplitl [HFD_dst]
    · iexists _; iexact HFD_dst
    isplitl [HFU]; · iexact HFU
    iexact HFD
  isplitl [HU HD]
  · unfold Home
    isplitl [HU]; · iexact HU
    iexact HD
  isplitl [Hs1 Ht1 Hq1 Hr1]
  · isplitl [Hs1]
    · iexists _; iexact Hs1
    isplitl [Ht1]
    · iexists _; iexact Ht1
    isplitl [Hq1]; · iexact Hq1
    iexact Hr1
  isplitl [HB HC]
  · unfold Loaded
    iexists h
    isplitl [HB]
    · iexists _; isplitr [HB]; rotate_left
      · iexact HB
      ipureintro
      unfold runB_stop_0.sl.v39
      exact (read_castU c b0 _ _).trans ((pay9_slot 0 rfl _ _).trans (congrArg castU (landU_read c XU 0 n h _)))
    · iexists _; isplitr [HC]; rotate_left
      · iexact HC
      ipureintro
      unfold runB_stop_0.sl.v46
      exact (read_castD c b1 _ _).trans ((pay10_slot 0 rfl _ _).trans (congrArg castD (landD_read c XD 0 n h _)))
  iexists _; iexact HW

end Cert.KernelIdeal.Exp

end
-- ==== Proof.Exp.KernelIdeal.RunB1.lean ====
/-
  The change of weights at a point whose slot is 1: the expert's panels arrive there and are cast; the next expert's
  are sent for into the other slot, where there is a next.
-/
module

public import proofs.«01_k».proof.Proof.Exp.KernelIdeal.States

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 800000 in
theorem runB_issue_1 (c : Dev nD) (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole)
    (XU : BufOf (F := F) c upM) (XD : BufOf (F := F) c dnM) (xE : BufOf (F := F) c tbE) (xN : BufOf (F := F) c tbN) (v7 v11 : BitVec 32) (n : ℕ)
    (hw2 : k0_chk2 i 1#32 v7 v11) (h2 : k0_cond2 i v7 v11 = 1#1) (c3 : k0_chk3 i v7 v11 (wordE c i xE)) (c4 : k0_chk4 i 1#32 v7 v11 (wordN c i xN)) (h3 : k0_cond3 (wordN c i xN) = 1#1) (c5 : k0_chk5 i v7 v11 (wordN c i xN) (wordN c i xN)) :
      ∀ (W : Waits sig Unit) (K : PUnit → sProp 𝕄),
        iprop(tabP c tbE xE ∗ tabP c tbN xN ∗ Busy c XU XD 1 n ∗ Free (F := F) c 0 ∗ Any (F := F) c ∗ owes (c : Thread nD τ) 0 W
            ∗ (iprop(tabP c tbE xE ∗ tabP c tbN xN ∗ Free (F := F) c 1 ∗ Busy c XU XD 0 (wordN c i xN).toNat ∗ Loaded c XU XD n ∗ ∃ W', owes (c : Thread nD τ) 0 W') -∗ K ⟨⟩))
          ⊢ wp frame (wpE (defs₀ (F := F)) Variants.none c none) Set.univ (progB i arg5 harg5 arg7 harg7 arg9 harg9 arg10 harg10 1#32 v7 v11) K := by
  intro W K
  unfold progB Busy Free Any
  simp only [k0_part1_eq_skeleton]; unfold k0_part1_skel
  iintro ⟨HE, HN, ⟨%h, ⟨%f0, HFU⟩, ⟨%g0, HFD⟩, HU, HD⟩, ⟨⟨%f1, Hs1⟩, ⟨%g1, Ht1⟩, Hq1, Hr1⟩, ⟨⟨%b0, HB⟩, ⟨%b1, HC⟩⟩, HW, HK⟩
  sl_exec (disch := first | sl_exact hw2 | exact h2 | sl_exact c3 | sl_exact c4 | sl_exact c5 | exact h3)
  ihave HU := (joinU c XU n h) $$ [HFU_src HU]
  · isplitl [HFU_src]
    · iexact HFU_src
    iexact HU
  ihave HD := (joinD c XD n h) $$ [HFD_src HD]
  · isplitl [HFD_src]
    · iexact HFD_src
    iexact HD
  sl_exec (disch := first | sl_exact hw2 | exact h2 | sl_exact c3 | sl_exact c4 | sl_exact c5 | exact h3)
  sl_step
  iapply HK
  isplitl [HE]; · iexact HE
  isplitl [HN]; · iexact HN
  isplitl [HFU_dst HFD_dst HFU HFD]
  · isplitl [HFU_dst]
    · iexists _; iexact HFU_dst
    isplitl [HFD_dst]
    · iexists _; iexact HFD_dst
    isplitl [HFU]; · iexact HFU
    iexact HFD
  isplitl [Hq1 Hr1 HU HD]
  · iexists (lt32U (off := k0_off18 (wordN c i xN)) rfl (k0_off18_inb _ _ _ _ _ c5 h2 h3))
    isplitl [Hq1]
    · iexists f1; iexact Hq1
    isplitl [Hr1]
    · iexists g1; iexact Hr1
    isplitl [HU]; · iexact HU
    iexact HD
  isplitl [HB HC]
  · unfold Loaded
    iexists h
    isplitl [HB]
    · iexists _; isplitr [HB]; rotate_left
      · iexact HB
      ipureintro
      unfold runB_issue_1.sl.v39
      exact (read_castU c b0 _ _).trans ((pay9_slot 1 rfl _ _).trans (congrArg castU (landU_read c XU 1 n h _)))
    · iexists _; isplitr [HC]; rotate_left
      · iexact HC
      ipureintro
      unfold runB_issue_1.sl.v46
      exact (read_castD c b1 _ _).trans ((pay10_slot 1 rfl _ _).trans (congrArg castD (landD_read c XD 1 n h _)))
  iexists _; iexact HW

set_option maxHeartbeats 800000 in
theorem runB_stop_1 (c : Dev nD) (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole)
    (XU : BufOf (F := F) c upM) (XD : BufOf (F := F) c dnM) (xE : BufOf (F := F) c tbE) (xN : BufOf (F := F) c tbN) (v7 v11 : BitVec 32) (n : ℕ)
    (hw2 : k0_chk2 i 1#32 v7 v11) (h2 : k0_cond2 i v7 v11 = 1#1) (c3 : k0_chk3 i v7 v11 (wordE c i xE)) (c4 : k0_chk4 i 1#32 v7 v11 (wordN c i xN)) (h3 : ¬ k0_cond3 (wordN c i xN) = 1#1) :
      ∀ (W : Waits sig Unit) (K : PUnit → sProp 𝕄),
        iprop(tabP c tbE xE ∗ tabP c tbN xN ∗ Busy c XU XD 1 n ∗ Free (F := F) c 0 ∗ Any (F := F) c ∗ owes (c : Thread nD τ) 0 W
            ∗ (iprop(tabP c tbE xE ∗ tabP c tbN xN ∗ Free (F := F) c 1 ∗ Home c XU XD ∗ Free (F := F) c 0 ∗ Loaded c XU XD n ∗ ∃ W', owes (c : Thread nD τ) 0 W') -∗ K ⟨⟩))
          ⊢ wp frame (wpE (defs₀ (F := F)) Variants.none c none) Set.univ (progB i arg5 harg5 arg7 harg7 arg9 harg9 arg10 harg10 1#32 v7 v11) K := by
  intro W K
  unfold progB Busy Free Any
  simp only [k0_part1_eq_skeleton]; unfold k0_part1_skel
  iintro ⟨HE, HN, ⟨%h, ⟨%f0, HFU⟩, ⟨%g0, HFD⟩, HU, HD⟩, ⟨⟨%f1, Hs1⟩, ⟨%g1, Ht1⟩, Hq1, Hr1⟩, ⟨⟨%b0, HB⟩, ⟨%b1, HC⟩⟩, HW, HK⟩
  sl_exec (disch := first | sl_exact hw2 | exact h2 | sl_exact c3 | sl_exact c4 | exact h3)
  ihave HU := (joinU c XU n h) $$ [HFU_src HU]
  · isplitl [HFU_src]
    · iexact HFU_src
    iexact HU
  ihave HD := (joinD c XD n h) $$ [HFD_src HD]
  · isplitl [HFD_src]
    · iexact HFD_src
    iexact HD
  sl_step
  iapply HK
  isplitl [HE]; · iexact HE
  isplitl [HN]; · iexact HN
  isplitl [HFU_dst HFD_dst HFU HFD]
  · isplitl [HFU_dst]
    · iexists _; iexact HFU_dst
    isplitl [HFD_dst]
    · iexists _; iexact HFD_dst
    isplitl [HFU]; · iexact HFU
    iexact HFD
  isplitl [HU HD]
  · unfold Home
    isplitl [HU]; · iexact HU
    iexact HD
  isplitl [Hs1 Ht1 Hq1 Hr1]
  · isplitl [Hs1]
    · iexists _; iexact Hs1
    isplitl [Ht1]
    · iexists _; iexact Ht1
    isplitl [Hq1]; · iexact Hq1
    iexact Hr1
  isplitl [HB HC]
  · unfold Loaded
    iexists h
    isplitl [HB]
    · iexists _; isplitr [HB]; rotate_left
      · iexact HB
      ipureintro
      unfold runB_stop_1.sl.v39
      exact (read_castU c b0 _ _).trans ((pay9_slot 1 rfl _ _).trans (congrArg castU (landU_read c XU 1 n h _)))
    · iexists _; isplitr [HC]; rotate_left
      · iexact HC
      ipureintro
      unfold runB_stop_1.sl.v46
      exact (read_castD c b1 _ _).trans ((pay10_slot 1 rfl _ _).trans (congrArg castD (landD_read c XD 1 n h _)))
  iexists _; iexact HW

end Cert.KernelIdeal.Exp

end
-- ==== Proof.Exp.KernelIdeal.RunC.lean ====
/-
  The third stage: a used row tile's result, or zeros past the used tiles.
-/
module

public import proofs.«01_k».proof.Proof.Exp.KernelIdeal.States

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

omit [FloatOps F] in
/-- `read_spread` with the eight payloads apart. -/
theorem read_spread8 [∀ e, Nonempty (Elt F e)] {κ : Kind} {sp : Space} (V : View sig κ sp S2048x128 .f32) (f : V.ty.Contents (Elt F)) (v : FVec F S256x1024 .f32)
    (p0 p1 p2 p3 p4 p5 p6 p7 : S256x128.Idx → Elt F .f32) (h0 : ∀ y, p0 y = spread v ((stripe 0).emb y)) (h1 : ∀ y, p1 y = spread v ((stripe 1).emb y))
    (h2 : ∀ y, p2 y = spread v ((stripe 2).emb y)) (h3 : ∀ y, p3 y = spread v ((stripe 3).emb y)) (h4 : ∀ y, p4 y = spread v ((stripe 4).emb y))
    (h5 : ∀ y, p5 y = spread v ((stripe 5).emb y)) (h6 : ∀ y, p6 y = spread v ((stripe 6).emb y)) (h7 : ∀ y, p7 y = spread v ((stripe 7).emb y)) :
    V.read (Elt F) (V.writes (Elt F) f [⟨stripe 7, p7⟩, ⟨stripe 6, p6⟩, ⟨stripe 5, p5⟩, ⟨stripe 4, p4⟩, ⟨stripe 3, p3⟩, ⟨stripe 2, p2⟩, ⟨stripe 1, p1⟩, ⟨stripe 0, p0⟩]) = spread v :=
  read_spread V f v ![p0, p1, p2, p3, p4, p5, p6, p7] (fun j => by fin_cases j <;> assumption)

set_option maxHeartbeats 1600000 in
theorem runC_used (c : Dev nD) (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole)
    (x : Vec F S2048x128 .f32) (bu : Vec F S1x1x2048 .f32) (bd : Vec F S1x1x1024 .f32)
    (xU : BufOf (F := F) c tbU) (b0 : BufOf (F := F) c buM) (b1 : BufOf (F := F) c bdM)
    (h4 : k0_cond4 i (wordU c xU) = 1#1) (h5 : ¬ k0_cond5 i (wordU c xU) = 1#1) :
      ∀ (W : Waits sig Unit) (K : PUnit → sProp 𝕄),
        iprop(owns (c : Thread nD τ) arg5 fullShare x ∗ owns (c : Thread nD τ) arg7 fullShare bu ∗ owns (c : Thread nD τ) arg9 fullShare bd
            ∗ (∃ d, owns (c : Thread nD τ) arg10 fullShare d) ∗ tabP c tbU xU ∗ heldP c buM b0 ∗ heldP c bdM b1 ∗ owes (c : Thread nD τ) 0 W
            ∗ (iprop(owns (c : Thread nD τ) arg5 fullShare x ∗ owns (c : Thread nD τ) arg7 fullShare bu ∗ owns (c : Thread nD τ) arg9 fullShare bd
              ∗ owns (c : Thread nD τ) arg10 fullShare (spread (resV x bu bd (buM.view.read (Elt F) b0) (bdM.view.read (Elt F) b1)))
              ∗ tabP c tbU xU ∗ heldP c buM b0 ∗ heldP c bdM b1 ∗ ∃ W', owes (c : Thread nD τ) 0 W') -∗ K ⟨⟩))
          ⊢ wp frame (wpE (defs₀ (F := F)) Variants.none c none) Set.univ (progC i arg5 harg5 arg7 harg7 arg9 harg9 arg10 harg10) K := by
  intro W K
  unfold progC
  simp only [k0_part2_eq_skeleton, k0_part3_eq_skeleton, k0_part4_eq_skeleton, k0_part5_eq_skeleton]
  unfold k0_part2_skel k0_part3_skel k0_part4_skel k0_part5_skel owns
  iintro ⟨⟨%f5, %hf5, H5⟩, ⟨%f7, %hf7, H7⟩, ⟨%f9, %hf9, H9⟩, ⟨%d, %f10, -, H10⟩, HU, HB, HC, HW, HK⟩
  obtain rfl := harg5.eq_unread hf5
  obtain rfl := harg7.eq_unread hf7
  obtain rfl := harg9.eq_unread hf9
  sl_exec (disch := first | exact h4 | exact h5)
  sl_step
  iapply HK
  isplitl [H5]; · iexists _; isplitr; · ipureintro; exact hf5
                  iexact H5
  isplitl [H7]; · iexists _; isplitr; · ipureintro; exact hf7
                  iexact H7
  isplitl [H9]; · iexists _; isplitr; · ipureintro; exact hf9
                  iexact H9
  isplitl [H10]
  · iexists _; isplitr [H10]; rotate_left
    · iexact H10
    ipureintro
    have e5 : ∀ r : LoadRect S2048x128, arg5.view.readAt (Elt F) r (harg5.unread x) = fun y => x (r.idx y) := fun r => by
      funext y; rw [View.readAt_apply, harg5.read_unread]
    have e7 : ∀ r : LoadRect S1x1x2048, arg7.view.readAt (Elt F) r (harg7.unread bu) = fun y => bu (r.idx y) := fun r => by
      funext y; rw [View.readAt_apply, harg7.read_unread]
    have e9 : ∀ r : LoadRect S1x1x1024, arg9.view.readAt (Elt F) r (harg9.unread bd) = fun y => bd (r.idx y) := fun r => by
      funext y; rw [View.readAt_apply, harg9.read_unread]
    have eB : ∀ r : LoadRect S1024x2048, buM.view.readAt (Elt F) r b0 = fun y => buM.view.read (Elt F) b0 (r.idx y) := fun r => by
      funext y; rw [View.readAt_apply]
    have eC : ∀ r : LoadRect S1024x1024, bdM.view.readAt (Elt F) r b1 = fun y => bdM.view.read (Elt F) b1 (r.idx y) := fun r => by
      funext y; rw [View.readAt_apply]
    dsimp only
    simp only [e5, e7, e9, eB, eC]
    generalize buM.view.read (Elt F) b0 = pu
    generalize bdM.view.read (Elt F) b1 = pd
    refine read_spread8 _ _ (resV x bu bd pu pd) _ _ _ _ _ _ _ _ ?_ ?_ ?_ ?_ ?_ ?_ ?_ ?_
    · exact stripe_pay 0 (resV x bu bd pu pd) slices_S256x1024_o0_0_S256x128
    · exact stripe_pay 1 (resV x bu bd pu pd) slices_S256x1024_o0_128_S256x128
    · exact stripe_pay 2 (resV x bu bd pu pd) slices_S256x1024_o0_256_S256x128
    · exact stripe_pay 3 (resV x bu bd pu pd) slices_S256x1024_o0_384_S256x128
    · exact stripe_pay 4 (resV x bu bd pu pd) slices_S256x1024_o0_512_S256x128
    · exact stripe_pay 5 (resV x bu bd pu pd) slices_S256x1024_o0_640_S256x128
    · exact stripe_pay 6 (resV x bu bd pu pd) slices_S256x1024_o0_768_S256x128
    · exact stripe_pay 7 (resV x bu bd pu pd) slices_S256x1024_o0_896_S256x128
  isplitl [HU]; · iexact HU
  isplitl [HB]; · iexact HB
  isplitl [HC]; · iexact HC
  iexists _; iexact HW

set_option maxHeartbeats 800000 in
theorem runC_unused (c : Dev nD) (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole)
    (xU : BufOf (F := F) c tbU)
    (h4 : ¬ k0_cond4 i (wordU c xU) = 1#1) (h5 : k0_cond5 i (wordU c xU) = 1#1) :
      ∀ (W : Waits sig Unit) (K : PUnit → sProp 𝕄),
        iprop((∃ d, owns (c : Thread nD τ) arg10 fullShare d) ∗ tabP c tbU xU ∗ owes (c : Thread nD τ) 0 W
            ∗ (iprop(owns (c : Thread nD τ) arg10 fullShare (k0_pay8 (F := F))
              ∗ tabP c tbU xU ∗ ∃ W', owes (c : Thread nD τ) 0 W') -∗ K ⟨⟩))
          ⊢ wp frame (wpE (defs₀ (F := F)) Variants.none c none) Set.univ (progC i arg5 harg5 arg7 harg7 arg9 harg9 arg10 harg10) K := by
  intro W K
  unfold progC owns
  iintro ⟨⟨%d, %f10, -, H10⟩, HU, HW, HK⟩
  sl_exec (disch := first | exact h4 | exact h5)
  sl_step
  iapply HK
  isplitl [H10]
  · iexists _; isplitr [H10]; rotate_left
    · iexact H10
    ipureintro
    exact View.read_writes_full _ _ (fun a => by fin_cases a <;> rfl) _ []
  isplitl [HU]; · iexact HU
  iexists _; iexact HW

end Cert.KernelIdeal.Exp

end
-- ==== Proof.Exp.KernelIdeal.Core.lean ====
/-
  The invariant between grid points: the current expert's panels kept, its slot free, the next expert's on their way
  into the other slot (or everything at home); the first two stages take it from one point to the next.
-/
module

public import proofs.«01_k».proof.Proof.Exp.Tables
public import proofs.«01_k».proof.Proof.Exp.KernelIdeal.RunA
public import proofs.«01_k».proof.Proof.Exp.KernelIdeal.RunB0
public import proofs.«01_k».proof.Proof.Exp.KernelIdeal.RunB1
public import proofs.«01_k».proof.Proof.Exp.KernelIdeal.RunC

@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Cert.Exp

/-! ## The tables' words by row tile -/

/-- Index `k` of a table. -/
noncomputable def ixn (k : ℕ) : S288.Idx := fun a => match a with | ⟨0, _⟩ => ⟨k % 288, Nat.mod_lt _ (by decide)⟩
noncomputable def ix0 : S1.Idx := fun a => match a with | ⟨0, _⟩ => ⟨0, Nat.one_pos⟩

section Words
variable (c : Dev nD)
/-- Table words by row tile. -/
noncomputable def wE (x : BufOf (F := F) c tbE) (k : ℕ) : BitVec 32 := x (ixn k)
noncomputable def wH (x : BufOf (F := F) c tbH) (k : ℕ) : BitVec 32 := x (ixn k)
noncomputable def wN (x : BufOf (F := F) c tbN) (k : ℕ) : BitVec 32 := x (ixn k)
noncomputable def wU0 (x : BufOf (F := F) c tbU) : BitVec 32 := x ix0

omit [FloatOps F] in
theorem readE {off : Fin 1 → Nat} (x : BufOf (F := F) c tbE) (k : ℕ) (hk : k < 288) (e : off 0 = k) (hh) :
    tbE.view.readAt (Elt F) (Rect.unit (s := S288) off S1.size hh).toLoadRect x (Shape.Idx.first (numel1_S1.symm ▸ Nat.one_pos)) = wE c x k := by
  show x _ = x _
  congr 1; funext a
  match a with
  | ⟨0, _⟩ => exact Fin.ext (show off 0 + 1 * 0 = k % 288 by rw [e, Nat.mod_eq_of_lt hk]; omega)
omit [FloatOps F] in
theorem readH {off : Fin 1 → Nat} (x : BufOf (F := F) c tbH) (k : ℕ) (hk : k < 288) (e : off 0 = k) (hh) :
    tbH.view.readAt (Elt F) (Rect.unit (s := S288) off S1.size hh).toLoadRect x (Shape.Idx.first (numel1_S1.symm ▸ Nat.one_pos)) = wH c x k := by
  show x _ = x _
  congr 1; funext a
  match a with
  | ⟨0, _⟩ => exact Fin.ext (show off 0 + 1 * 0 = k % 288 by rw [e, Nat.mod_eq_of_lt hk]; omega)
omit [FloatOps F] in
theorem readN {off : Fin 1 → Nat} (x : BufOf (F := F) c tbN) (k : ℕ) (hk : k < 288) (e : off 0 = k) (hh) :
    tbN.view.readAt (Elt F) (Rect.unit (s := S288) off S1.size hh).toLoadRect x (Shape.Idx.first (numel1_S1.symm ▸ Nat.one_pos)) = wN c x k := by
  show x _ = x _
  congr 1; funext a
  match a with
  | ⟨0, _⟩ => exact Fin.ext (show off 0 + 1 * 0 = k % 288 by rw [e, Nat.mod_eq_of_lt hk]; omega)
omit [FloatOps F] in
theorem readU0 (x : BufOf (F := F) c tbU) : wordU c x = wU0 c x := by
  show x _ = x _
  congr 1; funext a
  match a with
  | ⟨0, _⟩ => rfl
end Words

/-! ## The conditions and the side conditions -/

section Conds
variable (i : grid0.Coords)
theorem lt_i : (i 0).val < 288 := (i 0).isLt
theorem off1_0 : k0_off1 i 0 = (i 0).val := toNat_small _ (by have := lt_i i; omega)
theorem off5_0 : k0_off5 i 0 = (i 0).val := off1_0 i
theorem off14_0 : k0_off14 i 0 = (i 0).val := off1_0 i
theorem off4_0 (h : (i 0).val ≠ 0) : k0_off4 i 0 = (i 0).val - 1 := by
  have hi := lt_i i
  have e : Scalar.subi (BitVec.ofNat 32 (i 0).val) 1#32 = BitVec.ofNat 32 ((i 0).val - 1) := by
    show BitVec.ofNat 32 (i 0).val - 1#32 = _
    apply BitVec.eq_of_toNat_eq
    rw [BitVec.toNat_sub, toNat_small (i 0).val (by omega), toNat_small ((i 0).val - 1) (by omega)]
    show (4294967296 - 1 + (i 0).val) % 4294967296 = _
    omega
  show (Scalar.maxsi (Scalar.subi (BitVec.ofNat 32 (i 0).val) 1#32) 0#32).toNat = _
  rw [e]
  show (if (0#32 : BitVec 32).slt (BitVec.ofNat 32 ((i 0).val - 1)) then BitVec.ofNat 32 ((i 0).val - 1) else 0#32).toNat = _
  have es : (0#32 : BitVec 32).slt (BitVec.ofNat 32 ((i 0).val - 1)) = true ↔ 0 < (i 0).val - 1 := by
    rw [BitVec.slt_iff_toInt_lt, toInt_small (BitVec.ofNat 32 ((i 0).val - 1)) (by rw [toNat_small _ (by omega)]; omega), toNat_small _ (by omega)]
    show (0 : ℤ) < _ ↔ _
    omega
  split
  · exact toNat_small _ (by omega)
  · rename_i hn; rw [es] at hn; show 0 = _; omega
theorem cond1_iff : k0_cond1 i = 1#1 ↔ (i 0).val = 0 := by
  have hi := lt_i i
  unfold k0_cond1
  rw [guard_iff, eq_iff]
  constructor
  · intro h; have := congrArg BitVec.toNat h; rw [toNat_small _ (by omega)] at this; exact this
  · intro h; rw [h]
theorem cond2_iff (v7 v11 : BitVec 32) : k0_cond2 i v7 v11 = 1#1 ↔ (i 0).val = 0 ∨ v7 ≠ v11 := by
  have hi := lt_i i
  unfold k0_cond2
  rw [guard_iff, ori_iff, eq_iff, ne_iff]
  refine or_congr ⟨fun h => ?_, fun h => by rw [h]⟩ Iff.rfl
  have := congrArg BitVec.toNat h; rw [toNat_small _ (by omega)] at this; exact this
theorem cond3_iff (w : BitVec 32) : k0_cond3 w = 1#1 ↔ 0 ≤ w.toInt := by
  unfold k0_cond3
  rw [guard_iff, sge_iff]
  rfl
theorem cond4_iff (w : BitVec 32) (hw : w.toNat ≤ 288) : k0_cond4 i w = 1#1 ↔ (i 0).val < w.toNat := by
  have hi := lt_i i
  unfold k0_cond4
  rw [guard_iff, slt_iff, toInt_small _ (by rw [toNat_small _ (by omega)]; omega), toInt_small w (by omega), toNat_small _ (by omega)]
  omega
theorem cond5_iff (w : BitVec 32) (hw : w.toNat ≤ 288) : k0_cond5 i w = 1#1 ↔ ¬ (i 0).val < w.toNat := by
  have hi := lt_i i
  unfold k0_cond5
  rw [guard_iff, sge_iff, toInt_small (BitVec.ofNat 32 (i 0).val) (by rw [toNat_small _ (by omega)]; omega), toInt_small w (by omega), toNat_small _ (by omega)]
  omega

theorem chk1_of (w : BitVec 32) (h : w.toNat < 32) : k0_chk1 i w := ⟨fun _ => upOff_inb _ h, fun _ => dnOff_inb _ h⟩
theorem chk3_of (v7 v11 w : BitVec 32) (h : w.toNat < 32) : k0_chk3 i v7 v11 w := ⟨fun _ => upOff_inb _ h, fun _ => dnOff_inb _ h⟩
theorem chk5_of (v7 v11 w : BitVec 32) (h : w.toNat < 32) : k0_chk5 i v7 v11 w w := ⟨fun _ _ => upOff_inb _ h, fun _ _ => dnOff_inb _ h⟩
theorem chk2_0 (v7 v11 : BitVec 32) : k0_chk2 i 0#32 v7 v11 :=
  ⟨fun _ => cellOff_inb 0 0, fun _ => ruOff_inb 0, fun _ => cellOff_inb 1 0, fun _ => rdOff_inb 0, fun _ => ruOff_inb 0, fun _ => rdOff_inb 0⟩
theorem chk2_1 (v7 v11 : BitVec 32) : k0_chk2 i 1#32 v7 v11 :=
  ⟨fun _ => cellOff_inb 0 1, fun _ => ruOff_inb 1, fun _ => cellOff_inb 1 1, fun _ => rdOff_inb 1, fun _ => ruOff_inb 1, fun _ => rdOff_inb 1⟩
theorem chk4_0 (v7 v11 w : BitVec 32) : k0_chk4 i 0#32 v7 v11 w :=
  ⟨fun _ _ => cellOff_inb 0 1, fun _ _ => ruOff_inb 1, fun _ _ => cellOff_inb 1 1, fun _ _ => rdOff_inb 1⟩
theorem chk4_1 (v7 v11 w : BitVec 32) : k0_chk4 i 1#32 v7 v11 w :=
  ⟨fun _ _ => cellOff_inb 0 0, fun _ _ => ruOff_inb 0, fun _ _ => cellOff_inb 1 0, fun _ _ => rdOff_inb 0⟩
end Conds

/-! ## The invariant -/

/-- The slot a word names, and the other. -/
noncomputable def sl (w : BitVec 32) : Fin 2 := if w = 0#32 then 0 else 1
noncomputable def ot (w : BitVec 32) : Fin 2 := if w = 0#32 then 1 else 0

section Inv
variable (c : Dev nD) (XU : BufOf (F := F) c upM) (XD : BufOf (F := F) c dnM) (E H N : ℕ → BitVec 32)

/-- The next expert on its way into slot `s`, or nothing in flight. -/
def Flow (s : Fin 2) (w : BitVec 32) : sProp 𝕄 :=
  if w = 4294967295#32 then iprop(Home c XU XD ∗ Free (F := F) c s) else Busy c XU XD s w.toNat
/-- After row tile `k`. -/
def Step (k : ℕ) : sProp 𝕄 :=
  iprop(Loaded c XU XD (E k).toNat ∗ Free (F := F) c (sl (H k)) ∗ Flow c XU XD (ot (H k)) (N k))
/-- Before row tile `t`. -/
def Core (t : ℕ) : sProp 𝕄 :=
  if t = 0 then iprop(Home c XU XD ∗ Free (F := F) c 0 ∗ Free (F := F) c 1 ∗ Any (F := F) c) else Step c XU XD E H N (t - 1)

theorem loaded_any (n : ℕ) : Loaded c XU XD n ⊢ (Any (F := F) c : sProp 𝕄) := by
  unfold Loaded Any
  iintro ⟨%h, ⟨%b, -, HB⟩, ⟨%d, -, HD⟩⟩
  isplitl [HB]
  · iexists _; iexact HB
  iexists _; iexact HD

variable (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole) (xE : BufOf (F := F) c tbE) (xN : BufOf (F := F) c tbN)
set_option maxHeartbeats 800000 in
/-- The change of weights: the expert's panels, on their way into its slot, are received and the next sent for. -/
theorem stageB_change (k : ℕ) (hk : (i 0).val = k) (v1 v7 v11 : BitVec 32) (h2 : k0_cond2 i v7 v11 = 1#1)
    (hv1 : v1 = H k) (hH : H k = 0#32 ∨ H k = 1#32) (eE : wordE c i xE = E k) (eN : wordN c i xN = N k)
    (hE : (E k).toNat < 32) (hN : N k = 4294967295#32 ∨ (N k).toNat < 32) :
      ∀ (W : Waits sig Unit) (K : PUnit → sProp 𝕄),
        iprop(tabP c tbE xE ∗ tabP c tbN xN ∗ Busy c XU XD (sl (H k)) (E k).toNat ∗ Free (F := F) c (ot (H k)) ∗ Any (F := F) c ∗ owes (c : Thread nD τ) 0 W
            ∗ (iprop(tabP c tbE xE ∗ tabP c tbN xN ∗ Step c XU XD E H N k ∗ ∃ W', owes (c : Thread nD τ) 0 W') -∗ K ⟨⟩))
          ⊢ wp frame (wpE (defs₀ (F := F)) Variants.none c none) Set.univ (progB i arg5 harg5 arg7 harg7 arg9 harg9 arg10 harg10 v1 v7 v11) K := by
  intro W K
  subst hv1
  have c3 : k0_chk3 i v7 v11 (wordE c i xE) := chk3_of i _ _ _ (by rw [eE]; exact hE)
  unfold Step Flow
  by_cases hn : N k = 4294967295#32
  · have h3 : ¬ k0_cond3 (wordN c i xN) = 1#1 := by rw [cond3_iff, eN, hn]; decide
    rw [if_pos hn]
    rcases hH with h | h
    · rw [h, show sl 0#32 = 0 from rfl, show ot 0#32 = 1 from rfl]
      iintro ⟨HE, HN, HB, HF, HA, HW, HK⟩
      iapply (runB_stop_0 c i arg5 harg5 arg7 harg7 arg9 harg9 arg10 harg10 XU XD xE xN v7 v11 (E k).toNat (chk2_0 i _ _) h2 c3 (chk4_0 i _ _ _) h3 W K)
      isplitl [HE]; · iexact HE
      isplitl [HN]; · iexact HN
      isplitl [HB]; · iexact HB
      isplitl [HF]; · iexact HF
      isplitl [HA]; · iexact HA
      isplitl [HW]; · iexact HW
      iintro ⟨HE, HN, HF0, HM, HF1, HL, HW⟩
      iapply HK
      isplitl [HE]; · iexact HE
      isplitl [HN]; · iexact HN
      isplitl [HL HF0 HM HF1]
      · isplitl [HL]; · iexact HL
        isplitl [HF0]; · iexact HF0
        isplitl [HM]; · iexact HM
        iexact HF1
      iexact HW
    · rw [h, show sl 1#32 = 1 from rfl, show ot 1#32 = 0 from rfl]
      iintro ⟨HE, HN, HB, HF, HA, HW, HK⟩
      iapply (runB_stop_1 c i arg5 harg5 arg7 harg7 arg9 harg9 arg10 harg10 XU XD xE xN v7 v11 (E k).toNat (chk2_1 i _ _) h2 c3 (chk4_1 i _ _ _) h3 W K)
      isplitl [HE]; · iexact HE
      isplitl [HN]; · iexact HN
      isplitl [HB]; · iexact HB
      isplitl [HF]; · iexact HF
      isplitl [HA]; · iexact HA
      isplitl [HW]; · iexact HW
      iintro ⟨HE, HN, HF0, HM, HF1, HL, HW⟩
      iapply HK
      isplitl [HE]; · iexact HE
      isplitl [HN]; · iexact HN
      isplitl [HL HF0 HM HF1]
      · isplitl [HL]; · iexact HL
        isplitl [HF0]; · iexact HF0
        isplitl [HM]; · iexact HM
        iexact HF1
      iexact HW
  · have hn' := hN.resolve_left hn
    have h3 : k0_cond3 (wordN c i xN) = 1#1 := by rw [cond3_iff, eN, toInt_small _ (by omega)]; omega
    have c5 := chk5_of i v7 v11 (wordN c i xN) (by rw [eN]; exact hn')
    rw [if_neg hn]
    rcases hH with h | h
    · rw [h, show sl 0#32 = 0 from rfl, show ot 0#32 = 1 from rfl, ← eN]
      iintro ⟨HE, HN, HB, HF, HA, HW, HK⟩
      iapply (runB_issue_0 c i arg5 harg5 arg7 harg7 arg9 harg9 arg10 harg10 XU XD xE xN v7 v11 (E k).toNat (chk2_0 i _ _) h2 c3 (chk4_0 i _ _ _) h3 c5 W K)
      isplitl [HE]; · iexact HE
      isplitl [HN]; · iexact HN
      isplitl [HB]; · iexact HB
      isplitl [HF]; · iexact HF
      isplitl [HA]; · iexact HA
      isplitl [HW]; · iexact HW
      iintro ⟨HE, HN, HF0, HB, HL, HW⟩
      iapply HK
      isplitl [HE]; · iexact HE
      isplitl [HN]; · iexact HN
      isplitl [HL HF0 HB]
      · isplitl [HL]; · iexact HL
        isplitl [HF0]; · iexact HF0
        iexact HB
      iexact HW
    · rw [h, show sl 1#32 = 1 from rfl, show ot 1#32 = 0 from rfl, ← eN]
      iintro ⟨HE, HN, HB, HF, HA, HW, HK⟩
      iapply (runB_issue_1 c i arg5 harg5 arg7 harg7 arg9 harg9 arg10 harg10 XU XD xE xN v7 v11 (E k).toNat (chk2_1 i _ _) h2 c3 (chk4_1 i _ _ _) h3 c5 W K)
      isplitl [HE]; · iexact HE
      isplitl [HN]; · iexact HN
      isplitl [HB]; · iexact HB
      isplitl [HF]; · iexact HF
      isplitl [HA]; · iexact HA
      isplitl [HW]; · iexact HW
      iintro ⟨HE, HN, HF0, HB, HL, HW⟩
      iapply HK
      isplitl [HE]; · iexact HE
      isplitl [HN]; · iexact HN
      isplitl [HL HF0 HB]
      · isplitl [HL]; · iexact HL
        isplitl [HF0]; · iexact HF0
        iexact HB
      iexact HW

set_option maxHeartbeats 800000 in
/-- The first two stages at row tile `t`. -/
theorem stageAB (U : BitVec 32) (L : Law E H N U) (xH : BufOf (F := F) c tbH)
    (eE : ∀ k, wE c xE k = E k) (eH : ∀ k, wH c xH k = H k) (eN : ∀ k, wN c xN k = N k) (t : ℕ) (ht : (i 0).val = t) :
      ∀ (W : Waits sig Unit) (K : PUnit → sProp 𝕄),
        iprop(tabP c tbE xE ∗ tabP c tbH xH ∗ tabP c tbN xN ∗ Core c XU XD E H N t ∗ owes (c : Thread nD τ) 0 W
            ∗ (iprop(tabP c tbE xE ∗ tabP c tbH xH ∗ tabP c tbN xN ∗ Step c XU XD E H N t ∗ ∃ W', owes (c : Thread nD τ) 0 W') -∗ K ⟨⟩))
          ⊢ wp frame (wpE (defs₀ (F := F)) Variants.none c none) Set.univ (progA i)
              (fun p => wp frame (wpE (defs₀ (F := F)) Variants.none c none) Set.univ (progB i arg5 harg5 arg7 harg7 arg9 harg9 arg10 harg10 p.1 p.2.1 p.2.2) K) := by
  intro W K
  have hi : t < 288 := by have := lt_i i; omega
  have e1 : wordE1 c i xE = E t := (readE c xE t hi ((off1_0 i).trans ht) _).trans (eE t)
  have e5 : wordE c i xE = E t := e1
  have eh : wordH c i xH = H t := (readH c xH t hi ((off1_0 i).trans ht) _).trans (eH t)
  have en : wordN c i xN = N t := (readN c xN t hi ((off14_0 i).trans ht) _).trans (eN t)
  by_cases h0 : t = 0
  · subst h0
    have e0 : word0 c xE = E 0 := (readE c xE 0 hi rfl _).trans (eE 0)
    have h2 : k0_cond2 i (wordE1 c i xE) (wordP c i xE) = 1#1 := (cond2_iff i _ _).2 (Or.inl ht)
    unfold Core
    rw [if_pos rfl]
    iintro ⟨HE, HH, HN, ⟨HM, HF0, HF1, HA⟩, HW, HK⟩
    iapply (runA_first c i XU XD xE xH ((cond1_iff i).2 ht) (chk1_of i _ (by rw [e0]; exact L.hE 0 hi)) W _)
    isplitl [HE]; · iexact HE
    isplitl [HH]; · iexact HH
    isplitl [HM]; · iexact HM
    isplitl [HF0]; · iexact HF0
    isplitl [HW]; · iexact HW
    rw [e0]
    iintro ⟨HE, HH, HB, ⟨%W', HW⟩⟩
    iapply (stageB_change c XU XD E H N i arg5 harg5 arg7 harg7 arg9 harg9 arg10 harg10 xE xN 0 ht _ _ _ h2 eh (L.hH 0 hi) e5 en (L.hE 0 hi) (L.hN 0 hi) W' K)
    rw [L.h0, show sl 0#32 = 0 from rfl, show ot 0#32 = 1 from rfl]
    isplitl [HE]; · iexact HE
    isplitl [HN]; · iexact HN
    isplitl [HB]; · iexact HB
    isplitl [HF1]; · iexact HF1
    isplitl [HA]; · iexact HA
    isplitl [HW]; · iexact HW
    iintro ⟨HE, HN, HS, HW⟩
    iapply HK
    isplitl [HE]; · iexact HE
    isplitl [HH]; · iexact HH
    isplitl [HN]; · iexact HN
    isplitl [HS]; · iexact HS
    iexact HW
  · obtain ⟨k, rfl⟩ : ∃ k, t = k + 1 := ⟨t - 1, by omega⟩
    have ep : wordP c i xE = E k := (readE c xE k (by omega) ((off4_0 i (by omega)).trans (by omega)) _).trans (eE k)
    unfold Core
    rw [if_neg h0, Nat.add_sub_cancel]
    by_cases hs : E (k + 1) = E k
    · have h2 : ¬ k0_cond2 i (wordE1 c i xE) (wordP c i xE) = 1#1 := by
        rw [cond2_iff, e1, ep]; intro h; rcases h with h | h
        · omega
        · exact h hs
      have hw2 : k0_chk2 i (wordH c i xH) (wordE1 c i xE) (wordP c i xE) := by
        rw [eh]; rcases L.hH (k + 1) hi with h | h
        · rw [h]; exact chk2_0 i _ _
        · rw [h]; exact chk2_1 i _ _
      have eS : Step c XU XD E H N (k + 1) = Step c XU XD E H N k := by
        unfold Step; rw [hs, (L.same k hi hs).1, (L.same k hi hs).2]
      rw [eS]
      iintro ⟨HE, HH, HN, HS, HW, HK⟩
      iapply (runA_other c i xE xH (fun h => h0 (by rw [← ht]; exact (cond1_iff i).1 h)) W _)
      isplitl [HE]; · iexact HE
      isplitl [HH]; · iexact HH
      isplitl [HW]; · iexact HW
      iintro ⟨HE, HH, ⟨%W', HW⟩⟩
      iapply (runB_same c i arg5 harg5 arg7 harg7 arg9 harg9 arg10 harg10 _ _ _ hw2 h2 W' K)
      isplitl [HW]; · iexact HW
      iintro HW
      iapply HK
      isplitl [HE]; · iexact HE
      isplitl [HH]; · iexact HH
      isplitl [HN]; · iexact HN
      isplitl [HS]; · iexact HS
      iexact HW
    · have h2 : k0_cond2 i (wordE1 c i xE) (wordP c i xE) = 1#1 := (cond2_iff i _ _).2 (Or.inr (by rw [e1, ep]; exact hs))
      obtain ⟨hd, hn⟩ := L.diff k hi hs
      have hn1 : N k ≠ 4294967295#32 := by
        rw [hn]; intro h; have := L.hE (k + 1) hi; rw [h] at this; exact absurd this (by decide)
      have e1' : ot (H k) = sl (H (k + 1)) := by
        rcases L.hH k (by omega) with a | a <;> rcases L.hH (k + 1) hi with b | b <;> rw [a, b] <;> first | rfl | exact absurd (b.trans a.symm) hd
      have e2' : sl (H k) = ot (H (k + 1)) := by
        rcases L.hH k (by omega) with a | a <;> rcases L.hH (k + 1) hi with b | b <;> rw [a, b] <;> first | rfl | exact absurd (b.trans a.symm) hd
      rw [show Step c XU XD E H N k = iprop(Loaded c XU XD (E k).toNat ∗ Free (F := F) c (ot (H (k + 1))) ∗ Busy c XU XD (sl (H (k + 1))) (E (k + 1)).toNat) by
        unfold Step Flow; rw [if_neg hn1, e1', e2', hn]]
      iintro ⟨HE, HH, HN, ⟨HL, HF, HB⟩, HW, HK⟩
      ihave HA := (loaded_any c XU XD (E k).toNat) $$ [HL]
      · iexact HL
      iapply (runA_other c i xE xH (fun h => h0 (by rw [← ht]; exact (cond1_iff i).1 h)) W _)
      isplitl [HE]; · iexact HE
      isplitl [HH]; · iexact HH
      isplitl [HW]; · iexact HW
      iintro ⟨HE, HH, ⟨%W', HW⟩⟩
      iapply (stageB_change c XU XD E H N i arg5 harg5 arg7 harg7 arg9 harg9 arg10 harg10 xE xN (k + 1) ht _ _ _ h2 eh (L.hH _ hi) e5 en (L.hE _ hi) (L.hN _ hi) W' K)
      isplitl [HE]; · iexact HE
      isplitl [HN]; · iexact HN
      isplitl [HB]; · iexact HB
      isplitl [HF]; · iexact HF
      isplitl [HA]; · iexact HA
      isplitl [HW]; · iexact HW
      iintro ⟨HE, HN, HS, HW⟩
      iapply HK
      isplitl [HE]; · iexact HE
      isplitl [HH]; · iexact HH
      isplitl [HN]; · iexact HN
      isplitl [HS]; · iexact HS
      iexact HW
end Inv

end Cert.KernelIdeal.Exp

end
-- ==== Proof.Exp.KernelIdeal.Rings.lean ====
/-
  The two weight rings as their slots, and back; the invariant entered and left.
-/
module

public import proofs.«01_k».proof.Proof.Exp.KernelIdeal.Core
@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Cert.Exp

abbrev setU (s : Fin 2) : Finset S2x1024x2048.Idx := (Rect.unit (s := S2x1024x2048) (panOff s.val) S1x1024x2048.size (ruOff_inb s)).set
abbrev setD (s : Fin 2) : Finset S2x1024x1024.Idx := (Rect.unit (s := S2x1024x1024) (panOff s.val) S1x1024x1024.size (rdOff_inb s)).set

omit [FloatOps F] in
theorem setU_eq (s : Fin 2) : (rU s).view.set = setU s := by
  simp only [rU, Memref.view_squeeze, View.set_reshape]; exact View.set_slice_whole _ _
omit [FloatOps F] in
theorem setD_eq (s : Fin 2) : (rD s).view.set = setD s := by
  simp only [rD, Memref.view_squeeze, View.set_reshape]; exact View.set_slice_whole _ _

theorem setU_disjoint (s s' : Fin 2) (h : s ≠ s') : Disjoint (setU s) (setU s') :=
  Ring.lead_disjoint (s := S2x1024x2048) (0 : Fin 3) 1 (fun s : Fin 2 => panOff s.val) S1x1024x2048.size ruOff_inb (fun s => by simp [panOff]) rfl s s' h
theorem setD_disjoint (s s' : Fin 2) (h : s ≠ s') : Disjoint (setD s) (setD s') :=
  Ring.lead_disjoint (s := S2x1024x1024) (0 : Fin 3) 1 (fun s : Fin 2 => panOff s.val) S1x1024x1024.size rdOff_inb (fun s => by simp [panOff]) rfl s s' h
theorem setU_cover : Finset.univ.biUnion setU = Finset.univ :=
  Ring.lead_cover (s := S2x1024x2048) (0 : Fin 3) 1 (fun s : Fin 2 => panOff s.val) S1x1024x2048.size ruOff_inb (fun s => by simp [panOff])
    (fun s a ha => by fin_cases a <;> first | exact absurd rfl ha | rfl) rfl (fun a ha => by fin_cases a <;> first | exact absurd rfl ha | rfl) rfl
theorem setD_cover : Finset.univ.biUnion setD = Finset.univ :=
  Ring.lead_cover (s := S2x1024x1024) (0 : Fin 3) 1 (fun s : Fin 2 => panOff s.val) S1x1024x1024.size rdOff_inb (fun s => by simp [panOff])
    (fun s a ha => by fin_cases a <;> first | exact absurd rfl ha | rfl) rfl (fun a ha => by fin_cases a <;> first | exact absurd rfl ha | rfl) rfl

section Slots
variable (c : Dev nD)

theorem slotU_eq (s : Fin 2) (f : BufOf (F := F) c (rU s)) : slotU (F := F) c s f = (ruM.view.loc (c : Thread nD τ) ↦[setU s]{fullShare} f : sProp 𝕄) := by
  unfold slotU; rw [setU_eq]; rfl
theorem slotD_eq (s : Fin 2) (f : BufOf (F := F) c (rD s)) : slotD (F := F) c s f = (rdM.view.loc (c : Thread nD τ) ↦[setD s]{fullShare} f : sProp 𝕄) := by
  unfold slotD; rw [setD_eq]; rfl

theorem ringU_in : iprop(∃ f, heldP (F := F) c ruM f) ⊢ (iprop((∃ f, slotU (F := F) c 0 f) ∗ ∃ f, slotU (F := F) c 1 f) : sProp 𝕄) :=
  Ring.slots2_split (ℓ := ruM.view.loc (c : Thread nD τ)) (q := fullShare) setU setU_disjoint setU_cover
    (slotU c 0) (slotU c 1) (slotU_eq c 0) (slotU_eq c 1)
theorem ringD_in : iprop(∃ f, heldP (F := F) c rdM f) ⊢ (iprop((∃ f, slotD (F := F) c 0 f) ∗ ∃ f, slotD (F := F) c 1 f) : sProp 𝕄) :=
  Ring.slots2_split (ℓ := rdM.view.loc (c : Thread nD τ)) (q := fullShare) setD setD_disjoint setD_cover
    (slotD c 0) (slotD c 1) (slotD_eq c 0) (slotD_eq c 1)
theorem ringU_out : (iprop((∃ f, slotU (F := F) c 0 f) ∗ ∃ f, slotU (F := F) c 1 f) : sProp 𝕄) ⊢ iprop(∃ f, heldP (F := F) c ruM f) :=
  Ring.slots2_join (ℓ := ruM.view.loc (c : Thread nD τ)) (q := fullShare) setU setU_disjoint setU_cover
    (slotU c 0) (slotU c 1) (slotU_eq c 0) (slotU_eq c 1)
theorem ringD_out : (iprop((∃ f, slotD (F := F) c 0 f) ∗ ∃ f, slotD (F := F) c 1 f) : sProp 𝕄) ⊢ iprop(∃ f, heldP (F := F) c rdM f) :=
  Ring.slots2_join (ℓ := rdM.view.loc (c : Thread nD τ)) (q := fullShare) setD setD_disjoint setD_cover
    (slotD c 0) (slotD c 1) (slotD_eq c 0) (slotD_eq c 1)

/-- Everything the body owns, at rest. -/
def Rest (XU : BufOf (F := F) c upM) (XD : BufOf (F := F) c dnM) : sProp 𝕄 :=
  iprop(((∃ f, heldP (F := F) c ruM f) ∗ (∃ f, heldP (F := F) c rdM f) ∗ (∃ f, heldP (F := F) c buM f) ∗ (∃ f, heldP (F := F) c bdM f))
    ∗ (cellP (F := F) c 0 0 ∗ cellP (F := F) c 0 1 ∗ cellP (F := F) c 1 0 ∗ cellP (F := F) c 1 1) ∗ (heldP c upM XU ∗ heldP c dnM XD))

variable (XU : BufOf (F := F) c upM) (XD : BufOf (F := F) c dnM) (E H N : ℕ → BitVec 32)

theorem core_in : Rest c XU XD ⊢ (Core c XU XD E H N 0 : sProp 𝕄) := by
  unfold Rest Core Home Free Any
  rw [if_pos rfl]
  iintro ⟨⟨HU, HD, HB, HC⟩, ⟨Q00, Q01, Q10, Q11⟩, ⟨HXU, HXD⟩⟩
  ihave HU' := (ringU_in c) $$ [HU]
  · iexact HU
  ihave HD' := (ringD_in c) $$ [HD]
  · iexact HD
  icases HU' with ⟨U0, U1⟩
  icases HD' with ⟨D0, D1⟩
  isplitl [HXU HXD]
  · isplitl [HXU]; · iexact HXU
    iexact HXD
  isplitl [U0 D0 Q00 Q10]
  · isplitl [U0]; · iexact U0
    isplitl [D0]; · iexact D0
    isplitl [Q00]; · iexact Q00
    iexact Q10
  isplitl [U1 D1 Q01 Q11]
  · isplitl [U1]; · iexact U1
    isplitl [D1]; · iexact D1
    isplitl [Q01]; · iexact Q01
    iexact Q11
  isplitl [HB]; · iexact HB
  iexact HC

theorem free_out : iprop(Home c XU XD ∗ Free (F := F) c 0 ∗ Free (F := F) c 1 ∗ Any (F := F) c) ⊢ (Rest c XU XD : sProp 𝕄) := by
  unfold Rest Home Free Any
  iintro ⟨⟨HXU, HXD⟩, ⟨U0, D0, Q00, Q10⟩, ⟨U1, D1, Q01, Q11⟩, ⟨HB, HC⟩⟩
  ihave HU := (ringU_out c) $$ [U0 U1]
  · isplitl [U0]; · iexact U0
    iexact U1
  ihave HD := (ringD_out c) $$ [D0 D1]
  · isplitl [D0]; · iexact D0
    iexact D1
  isplitl [HU HD HB HC]
  · isplitl [HU]; · iexact HU
    isplitl [HD]; · iexact HD
    isplitl [HB]; · iexact HB
    iexact HC
  isplitl [Q00 Q01 Q10 Q11]
  · isplitl [Q00]; · iexact Q00
    isplitl [Q01]; · iexact Q01
    isplitl [Q10]; · iexact Q10
    iexact Q11
  isplitl [HXU]; · iexact HXU
  iexact HXD

theorem core_out (U : BitVec 32) (L : Law E H N U) : Core c XU XD E H N 288 ⊢ (Rest c XU XD : sProp 𝕄) := by
  unfold Core
  rw [if_neg (by decide)]
  unfold Step Flow
  rw [if_pos (show N (288 - 1) = _ from L.last)]
  refine BIBase.Entails.trans ?_ (free_out c XU XD)
  rcases L.hH (288 - 1) (by decide) with h | h
  · rw [h]
    iintro ⟨HL, HF, ⟨HH, HG⟩⟩
    ihave HA := (loaded_any c XU XD _) $$ [HL]
    · iexact HL
    isplitl [HH]; · iexact HH
    isplitl [HF]; · iexact HF
    isplitl [HG]; · iexact HG
    iexact HA
  · rw [h]
    iintro ⟨HL, HF, ⟨HH, HG⟩⟩
    ihave HA := (loaded_any c XU XD _) $$ [HL]
    · iexact HL
    isplitl [HH]; · iexact HH
    isplitl [HG]; · iexact HG
    isplitl [HF]; · iexact HF
    iexact HA
end Slots

end Cert.KernelIdeal.Exp

end
-- ==== Proof.Exp.KernelIdeal.Entry.lean ====
/-
  The region as the launch finds it: the contents on entry, the tables' words, the windows' blocks, what the pipeline
  hands the body besides its windows.
-/
module

public import proofs.«01_k».proof.Proof.Exp.KernelIdeal.Rings
@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Cert.Exp

variable (m : (ℓ : Loc nD τ sig) → Buf (Elt F) ℓ) (ρ : Dev nD → PrngReg)

/-- Core `c`'s buffers on entry: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-! ## The tables -/

/-- The tables' contents on entry. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- Their words by row tile. -/
noncomputable def tE (k : ℕ) : BitVec 32 := wE (F := F) (0 : Dev nD) (tbl m 0) k
noncomputable def tH (k : ℕ) : BitVec 32 := wH (F := F) (0 : Dev nD) (tbl m 2) k
noncomputable def tN (k : ℕ) : BitVec 32 := wN (F := F) (0 : Dev nD) (tbl m 3) k
noncomputable def tU : BitVec 32 := wU0 (F := F) (0 : Dev nD) (tbl m 1)

/-- The tables keep the kernel's schedule. -/
abbrev Lawful : Prop := Law (tE m) (tH m) (tN m) (tU m)

theorem PhiT_eq (c : Dev nD) : (Pipeline.ΦT pre0 (tbl m) c : sProp 𝕄)
    = iprop(tabP c tbE (tbl m 0) ∗ tabP c tbU (tbl m 1) ∗ tabP c tbH (tbl m 2) ∗ tabP c tbN (tbl m 3)) := by
  unfold Pipeline.ΦT Pipeline.prefHeld
  exact BI.bigSep_univ_eq_bigSepL [(0 : Fin 4), 1, 2, 3] (by decide) (by decide) _

/-! ## The index maps at the tables -/

theorem atE (i : grid0.Coords) (hh) (h1) :
    (tbl m).at 0 (Rect.unit (s := S288) ![(Scalar.indexCast (BitVec.ofNat 32 (i 0).val) : Index).toNat] S1.size hh) h1 = tE m (i 0).val := by
  show tbl m 0 _ = tbl m 0 _
  congr 1; funext a
  match a with
  | ⟨0, _⟩ =>
    refine Fin.ext (show (BitVec.ofNat 32 (i 0).val).toNat + 1 * 0 = (i 0).val % 288 from ?_)
    have := lt_i i
    rw [toNat_small _ (by omega), Nat.mod_eq_of_lt this]; omega
theorem atU (hh) (h1) : (tbl m).at 1 (Rect.unit (s := S1) ![0] S1.size hh) h1 = tU m := by
  show tbl m 1 _ = tbl m 1 _
  congr 1; funext a
  match a with
  | ⟨0, _⟩ => rfl

theorem minsi_toNat (a b : BitVec 32) (ha : a.toNat < 2147483648) (hb : b.toNat < 2147483648) : (Scalar.minsi a b).toNat = min a.toNat b.toNat := by
  show (if a.slt b then a else b).toNat = _
  have e : a.slt b = decide (a.toNat < b.toNat) := by
    unfold BitVec.slt; rw [toInt_small a ha, toInt_small b hb]; simp
  rw [e]
  by_cases h : a.toNat < b.toNat
  · rw [if_pos (decide_eq_true h)]; omega
  · rw [if_neg (by simpa using h)]; omega

theorem map_x (L : Lawful m) (i : grid0.Coords) (h1 h2) : cc0_transform_0 h1 h2 (tbl m) i = ![min (i 0).val ((tU m).toNat - 1), 0] := by
  have hi := lt_i i
  have hu := L.hU
  refine (congrArg (fun w : BitVec 32 => (![(Scalar.minsi (BitVec.ofNat 32 (i 0).val) (Scalar.subi w 1#32)).toNat, 0] : Fin 2 → Nat)) (atU m h1 h2)).trans ?_
  have e : (Scalar.subi (tU m) 1#32).toNat = (tU m).toNat - 1 := by
    show (tU m - 1#32).toNat = _
    rw [BitVec.toNat_sub]; show (4294967296 - 1 + (tU m).toNat) % 4294967296 = _; omega
  show (![(Scalar.minsi (BitVec.ofNat 32 (i 0).val) (Scalar.subi (tU m) 1#32)).toNat, 0] : Fin 2 → Nat) = _
  rw [minsi_toNat _ _ (by rw [toNat_small _ (by omega)]; omega) (by rw [e]; omega), e, toNat_small _ (by omega)]
theorem map_u (i : grid0.Coords) (h1 h2) : cc0_transform_2 h1 h2 (tbl m) i = ![(tE m (i 0).val).toNat, 0, 0] :=
  congrArg (fun w : BitVec 32 => (![w.toNat, 0, 0] : Fin 3 → Nat)) (atE m i (h1 i) h2)
theorem map_d (i : grid0.Coords) (h1 h2) : cc0_transform_4 h1 h2 (tbl m) i = ![(tE m (i 0).val).toNat, 0, 0] :=
  congrArg (fun w : BitVec 32 => (![w.toNat, 0, 0] : Fin 3 → Nat)) (atE m i (h1 i) h2)

theorem ok_of_law (L : Lawful m) : Ok m := by
  refine ⟨fun i => ⟨?_, Or.inl rfl⟩, fun i => ⟨?_, Or.inl rfl⟩, fun i => ⟨?_, Or.inl rfl⟩⟩
  · rw [map_x m L]
    have hi := lt_i i
    intro a; fin_cases a
    · show (min (i 0).val ((tU m).toNat - 1) + 1) * 2048 ≤ 589824; omega
    · show (0 + 1) * 128 ≤ 128; omega
  · rw [map_u m]
    have := L.hE (i 0).val (lt_i i)
    intro a; fin_cases a
    · show ((tE m (i 0).val).toNat + 1) * 1 ≤ 32; omega
    · show (0 + 1) * 1 ≤ 1; omega
    · show (0 + 1) * 2048 ≤ 2048; omega
  · rw [map_d m]
    have := L.hE (i 0).val (lt_i i)
    intro a; fin_cases a
    · show ((tE m (i 0).val).toNat + 1) * 1 ≤ 32; omega
    · show (0 + 1) * 1 ≤ 1; omega
    · show (0 + 1) * 1024 ≤ 1024; omega

/-- The output window is written at every point: one of the two guards holds. -/
theorem never_idle (L : Lawful m) (i : grid0.Coords) : idle0 (tbl m) 3 i = false := by
  have e : (tbl m).atD 1 ![0] = tU m := by
    show (if h : _ then tbl m 1 _ else _) = tbl m 1 _
    rw [dif_pos (by intro a; fin_cases a; show 0 + 1 ≤ 1; omega)]
    congr 1; funext a
    match a with
    | ⟨0, _⟩ => rfl
  show (!(k0_cond4 i ((tbl m).atD 1 ![0]) == 1#1) && !(k0_cond5 i ((tbl m).atD 1 ![0]) == 1#1)) = false
  rw [e]
  by_cases h : (i 0).val < (tU m).toNat
  · rw [(cond4_iff i _ L.hU.2).2 h]; rfl
  · rw [(cond5_iff i _ L.hU.2).2 h]; simp

/-! ## The windows' blocks -/

/-- Window `w`'s block at point `t` of its array as on entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .vmem S2048x128 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S2048x128 .f32 := spec0_3.stage ((cfgM m hO).slots t 3)
abbrev hs3 (hO : Ok m) (t : Fin (cfgM m hO).N) : (ms3 m hO t).IsWhole := hstage0_3 (((cfgM m hO).slots t 3).cast nbuf0_3)

/-- The body at point `t`, on what the pipeline calls it with. -/
abbrev bodyAt (hO : Ok m) (t : Fin (cfgM m hO).N) : Prog (TpuEff nD τ sig (Elt F) Λ₀ .tc) PUnit :=
  bodyC (grid0.coords t) (ms0 m hO t) (hs0 m hO t) (ms1 m hO t) (hs1 m hO t) (ms2 m hO t) (hs2 m hO t) (ms3 m hO t) (hs3 m hO t)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-! ## What the body owns besides its windows -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(cellP (F := F) c 0 0 ∗ cellP (F := F) c 0 1 ∗ cellP (F := F) c 1 0 ∗ cellP (F := F) c 1 1) := by
  rw [Pipeline.ownSems0_eq_of_list c osem0 [0, 1, 2, 3] (by decide) (by decide)]; rfl
def H0 : Finset (Ref sig .tc) := {main_arg5, main_arg7}
theorem H0_sub : H0 ⊆ Pipeline.restRefsP sig pre0 spec0 := by decide
theorem hbm_eq (c : Dev nD) :
    (bigSep H0 (fun b => ((c : Thread nD τ).loc b) ↦{fullShare} V m c b) : sProp 𝕄) = iprop(heldP c upM (V m c main_arg5) ∗ heldP c dnM (V m c main_arg7)) := by
  rw [BI.bigSep_eq_bigSepL_of_eq [main_arg5, main_arg7] (by decide) (by decide)]; rfl

theorem PhiD_eq (c : Dev nD) :
    (Pipeline.ΦD osem0 spec0 H0 (V m) c : sProp 𝕄)
      = iprop(((∃ f, heldP (F := F) c ruM f) ∗ (∃ f, heldP (F := F) c rdM f) ∗ (∃ f, heldP (F := F) c buM f) ∗ (∃ f, heldP (F := F) c bdM f)) ∗ (∃ r, prngReg c r)
        ∗ (cellP (F := F) c 0 0 ∗ cellP (F := F) c 0 1 ∗ cellP (F := F) c 1 0 ∗ cellP (F := F) c 1 1) ∗ (heldP c upM (V m c main_arg5) ∗ heldP c dnM (V m c main_arg7))) := by
  rw [Pipeline.ΦD_eq, scopedRest0_eq, ownSems_eq, hbm_eq]

end Cert.KernelIdeal.Exp

end
-- ==== Proof.Exp.KernelIdeal.Frame.lean ====
/-
  The pipeline's proof data, the body at a generic point, the run: every argument as on entry, every output block at
  its row tile's result.
-/
module

public import proofs.«01_k».proof.Proof.Exp.KernelIdeal.Entry
public import Idealize.ShloMosaic.Lib.Claim
@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Cert.Exp

/-- Expert `n`'s first weight panel, cast. -/
def panU (c : Dev nD) (XU : BufOf (F := F) c upM) (n : ℕ) : FVec F S1024x2048 .bf16 := castU ((wU (n % 32) (Nat.mod_lt n (by decide))).view.read (Elt F) XU)
/-- Its second. -/
def panD (c : Dev nD) (XD : BufOf (F := F) c dnM) (n : ℕ) : FVec F S1024x1024 .bf16 := castD ((wD (n % 32) (Nat.mod_lt n (by decide))).view.read (Elt F) XD)
theorem panU_eq (c : Dev nD) (XU : BufOf (F := F) c upM) (n : ℕ) (h : n < 32) : castU ((wU n h).view.read (Elt F) XU) = panU c XU n := by
  have e : ∀ k (hk : k < 32), n = k → castU ((wU n h).view.read (Elt F) XU) = castU ((wU k hk).view.read (Elt F) XU) := by rintro k hk rfl; rfl
  exact e _ _ (Nat.mod_eq_of_lt h).symm
theorem panD_eq (c : Dev nD) (XD : BufOf (F := F) c dnM) (n : ℕ) (h : n < 32) : castD ((wD n h).view.read (Elt F) XD) = panD c XD n := by
  have e : ∀ k (hk : k < 32), n = k → castD ((wD n h).view.read (Elt F) XD) = castD ((wD k hk).view.read (Elt F) XD) := by rintro k hk rfl; rfl
  exact e _ _ (Nat.mod_eq_of_lt h).symm

theorem coord0 (t : Fin grid0.N) : ((grid0.coords t) 0).val = t.val :=
  (Pipeline.Grid.coords_val t 0 (S := 1) (B := 288) (by decide) rfl).trans (by
    have h : t.val < 288 := lt_of_lt_of_eq t.isLt N_0
    omega)

section Stages
variable (c : Dev nD) (XU : BufOf (F := F) c upM) (XD : BufOf (F := F) c dnM) (E H N : ℕ → BitVec 32)
  (i : grid0.Coords) (arg5 : Memref sig .tc .vmem S2048x128 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S2048x128 .f32) (harg10 : arg10.IsWhole)

/-- The body's triple: the first two stages, then the result or zeros. -/
theorem body_run (U : BitVec 32) (L : Law E H N U) (xE : BufOf (F := F) c tbE) (xU : BufOf (F := F) c tbU) (xH : BufOf (F := F) c tbH) (xN : BufOf (F := F) c tbN)
    (eE : ∀ k, wE c xE k = E k) (eU : wU0 c xU = U) (eH : ∀ k, wH c xH k = H k) (eN : ∀ k, wN c xN k = N k) (t : ℕ) (ht : (i 0).val = t)
    (x : Vec F S2048x128 .f32) (bu : Vec F S1x1x2048 .f32) (bd : Vec F S1x1x1024 .f32) :
      ∀ (W : Waits sig Unit) (K : PUnit → sProp 𝕄),
        iprop(owns (c : Thread nD τ) arg5 fullShare x ∗ owns (c : Thread nD τ) arg7 fullShare bu ∗ owns (c : Thread nD τ) arg9 fullShare bd
            ∗ (∃ d, owns (c : Thread nD τ) arg10 fullShare d) ∗ (tabP c tbE xE ∗ tabP c tbU xU ∗ tabP c tbH xH ∗ tabP c tbN xN) ∗ Core c XU XD E H N t ∗ owes (c : Thread nD τ) 0 W
            ∗ (iprop(owns (c : Thread nD τ) arg5 fullShare x ∗ owns (c : Thread nD τ) arg7 fullShare bu ∗ owns (c : Thread nD τ) arg9 fullShare bd
              ∗ owns (c : Thread nD τ) arg10 fullShare (if t < U.toNat then spread (resV x bu bd (panU c XU (E t).toNat) (panD c XD (E t).toNat)) else k0_pay8 (F := F))
              ∗ (tabP c tbE xE ∗ tabP c tbU xU ∗ tabP c tbH xH ∗ tabP c tbN xN) ∗ Core c XU XD E H N (t + 1) ∗ ∃ W', owes (c : Thread nD τ) 0 W') -∗ K ⟨⟩))
          ⊢ wp frame (wpE (defs₀ (F := F)) Variants.none c none) Set.univ (bodyC i arg5 harg5 arg7 harg7 arg9 harg9 arg10 harg10) K := by
  intro W K
  unfold bodyC
  rw [body_stages]
  simp only [Idealize.SL.Sem.wp_bind]
  have hStep : Core c XU XD E H N (t + 1) = Step c XU XD E H N t := by
    unfold Core; rw [if_neg (Nat.succ_ne_zero t), Nat.add_sub_cancel]
  rw [hStep]
  iintro ⟨H5, H7, H9, H10, ⟨HE, HU, HH, HN⟩, HC, HW, HK⟩
  iapply (stageAB c XU XD E H N i arg5 harg5 arg7 harg7 arg9 harg9 arg10 harg10 xE xN U L xH eE eH eN t ht W _)
  isplitl [HE]; · iexact HE
  isplitl [HH]; · iexact HH
  isplitl [HN]; · iexact HN
  isplitl [HC]; · iexact HC
  isplitl [HW]; · iexact HW
  iintro ⟨HE, HH, HN, HS, ⟨%W', HW⟩⟩
  by_cases hu : t < U.toNat
  · have h4 : k0_cond4 i (wordU c xU) = 1#1 := (cond4_iff i _ (by rw [readU0, eU]; exact L.hU.2)).2 (by rw [readU0, eU, ht]; exact hu)
    have h5 : ¬ k0_cond5 i (wordU c xU) = 1#1 := fun h => (cond5_iff i _ (by rw [readU0, eU]; exact L.hU.2)).1 h (by rw [readU0, eU, ht]; exact hu)
    rw [if_pos hu]
    unfold Step Loaded
    icases HS with ⟨⟨%hn, ⟨%b0, %e0, HB⟩, ⟨%b1, %e1, HD⟩⟩, HF⟩
    rw [← panU_eq c XU _ hn, ← panD_eq c XD _ hn, ← e0, ← e1]
    iapply (runC_used c i arg5 harg5 arg7 harg7 arg9 harg9 arg10 harg10 x bu bd xU b0 b1 h4 h5 W' K)
    isplitl [H5]; · iexact H5
    isplitl [H7]; · iexact H7
    isplitl [H9]; · iexact H9
    isplitl [H10]; · iexact H10
    isplitl [HU]; · iexact HU
    isplitl [HB]; · iexact HB
    isplitl [HD]; · iexact HD
    isplitl [HW]; · iexact HW
    iintro ⟨H5, H7, H9, H10, HU, HB, HD, HW⟩
    iapply HK
    isplitl [H5]; · iexact H5
    isplitl [H7]; · iexact H7
    isplitl [H9]; · iexact H9
    isplitl [H10]; · iexact H10
    isplitl [HE HU HH HN]
    · isplitl [HE]; · iexact HE
      isplitl [HU]; · iexact HU
      isplitl [HH]; · iexact HH
      iexact HN
    isplitl [HF HB HD]
    · isplitl [HB HD]
      · iexists hn
        isplitl [HB]
        · iexists b0; isplitr
          · ipureintro; exact e0
          iexact HB
        iexists b1; isplitr
        · ipureintro; exact e1
        iexact HD
      iexact HF
    iexact HW
  · have h4 : ¬ k0_cond4 i (wordU c xU) = 1#1 := fun h => hu (by have := (cond4_iff i _ (by rw [readU0, eU]; exact L.hU.2)).1 h; rw [readU0, eU, ht] at this; exact this)
    have h5 : k0_cond5 i (wordU c xU) = 1#1 := (cond5_iff i _ (by rw [readU0, eU]; exact L.hU.2)).2 (by rw [readU0, eU, ht]; exact hu)
    rw [if_neg hu]
    iapply (runC_unused c i arg5 harg5 arg7 harg7 arg9 harg9 arg10 harg10 xU h4 h5 W' K)
    isplitl [H10]; · iexact H10
    isplitl [HU]; · iexact HU
    isplitl [HW]; · iexact HW
    iintro ⟨H10, HU, HW⟩
    iapply HK
    isplitl [H5]; · iexact H5
    isplitl [H7]; · iexact H7
    isplitl [H9]; · iexact H9
    isplitl [H10]; · iexact H10
    isplitl [HE HU HH HN]
    · isplitl [HE]; · iexact HE
      isplitl [HU]; · iexact HU
      isplitl [HH]; · iexact HH
      iexact HN
    isplitl [HS]; · iexact HS
    iexact HW
end Stages

variable (m : (ℓ : Loc nD τ sig) → Buf (Elt F) ℓ) (ρ : Dev nD → PrngReg)

/-- What the body leaves in the output's buffer at point `t`. -/
def outV (hO : Ok m) (c : Dev nD) (t : Fin (cfgM m hO).N) : Vec F S2048x128 .f32 :=
  if t.val < (tU m).toNat then spread (resV (iblk m hO c 0 t) (iblk m hO c 1 t) (iblk m hO c 2 t) (panU c (V m c main_arg5) (tE m t.val).toNat) (panD c (V m c main_arg7) (tE m t.val).toNat)) else k0_pay8 (F := F)

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outV m hO c t
  Φ t := iprop(Core c (V m c main_arg5) (V m c main_arg7) (tE m) (tH m) (tN m) t.val ∗ (∃ r, prngReg c r) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = outV m hO c t := by dsimp only [dats]; try rfl
theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d
theorem before2 (hO : Ok m) (c : Dev nD) (t : Fin (cfgM m hO).N) (d) : (dats m hO 0 c).before 2 t d = iblk m hO c 2 t :=
  before2_of m hO (dats m hO 0 c) (A_eq m hO c 2) (after2 m hO c) t d

/-! ## The body at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

theorem sound_body (L : Lawful m) (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2]
  rw [after0, after1, after2, after3]
  rw [show (dats m hO 0 c).Φ t.succ = iprop(Core c (V m c main_arg5) (V m c main_arg7) (tE m) (tH m) (tN m) (t.val + 1) ∗ (∃ r, prngReg c r) ∗ Pipeline.ΦT pre0 (tbl m) c) from rfl,
    show (dats m hO 0 c).Φ t.castSucc = iprop(Core c (V m c main_arg5) (V m c main_arg7) (tE m) (tH m) (tN m) t.val ∗ (∃ r, prngReg c r) ∗ Pipeline.ΦT pre0 (tbl m) c) from rfl, PhiT_eq]
  unfold Dat.owesAt Pipeline.owesWithin
  rw [show (dats m hO 0 c).owed t.castSucc = 0 from rfl, show (dats m hO 0 c).owed t.succ = 0 from rfl]
  iintro ⟨⟨HC, Hg, HT⟩, ⟨%W, -, HW⟩, ⟨%d0, H0⟩, ⟨%d1, H1⟩, ⟨%d2, H2⟩, ⟨%d3, H3⟩⟩
  iapply (body_run c (V m c main_arg5) (V m c main_arg7) (tE m) (tH m) (tN m) (grid0.coords t) (ms0 m hO t) (hs0 m hO t) (ms1 m hO t) (hs1 m hO t) (ms2 m hO t) (hs2 m hO t) (ms3 m hO t) (hs3 m hO t)
    (tU m) L (tbl m 0) (tbl m 1) (tbl m 2) (tbl m 3) (fun _ => rfl) rfl (fun _ => rfl) (fun _ => rfl) t.val (coord0 t) (iblk m hO c 0 t) (iblk m hO c 1 t) (iblk m hO c 2 t) W _)
  isplitl [H0]; · iexact H0
  isplitl [H1]; · iexact H1
  isplitl [H2]; · iexact H2
  isplitl [H3]; · iexists _; iexact H3
  isplitl [HT]; · iexact HT
  isplitl [HC]; · iexact HC
  isplitl [HW]; · iexact HW
  iintro ⟨H0, H1, H2, H3, HT, HC, ⟨%W', HW⟩⟩
  isplitl [HC Hg HT]
  · isplitl [HC]; · iexact HC
    isplitl [Hg]; · iexact Hg
    iexact HT
  isplitl [HW]
  · iexists W'; isplitr; · ipureintro; exact fun _ _ => Or.inl trivial
    iexact HW
  isplitl [H0]; · iexact H0
  isplitl [H1]; · iexact H1
  isplitl [H2]; · iexact H2
  iexact H3

end Cert.KernelIdeal.Exp

end
-- ==== Proof.Exp.KernelIdeal.Run.lean ====
/-
  The run: it terminates, the arguments end as they began, the output array ends at the row tiles' results.
-/
module

public import proofs.«01_k».proof.Proof.Exp.KernelIdeal.Frame
@[expose] public section

set_option maxRecDepth 16384

noncomputable section

namespace Cert.KernelIdeal.Exp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

open Cert.Exp

variable (m : (ℓ : Loc nD τ sig) → Buf (Elt F) ℓ) (ρ : Dev nD → PrngReg)

theorem body_obligation (L : Lawful m) (hO : Ok m) (c : Dev nD) : BodyObligation (dats (F := F) m hO 0 c) (defs₀ (F := F)) Variants.none () Set.univ := fun t => by
  rw [bigSep_W0, bigSep_W0, defs₀_row m hO]
  refine triple_restated (sound_body m L hO c t) rfl .rfl fun _ => ?_
  have h : (cfgM m hO).idle 3 ((cfgM m hO).grid.coords t) = false := never_idle m L _
  unfold bodyPost
  iintro ⟨HΦ, HW, H0, H1, H2, H3⟩
  isplitl [HΦ]; · iexact HΦ
  isplitl [HW]; · iexact HW
  isplitl [H0]; · iexact H0
  isplitl [H1]; · iexact H1
  isplitl [H2]; · iexact H2
  show _ ⊢ iprop(match (cfgM m hO).idle 3 ((cfgM m hO).grid.coords t) with
    | true => _
    | false => _)
  rw [h]

theorem phi_in (hO : Ok m) (c : Dev nD) : iprop(Pipeline.ΦD osem0 spec0 H0 (V m) c ∗ Pipeline.ΦT pre0 (tbl m) c) ⊢ ((dats m hO 0 c).Φ 0 : sProp 𝕄) := by
  rw [PhiD_eq]
  show _ ⊢ iprop(Core c (V m c main_arg5) (V m c main_arg7) (tE m) (tH m) (tN m) 0 ∗ (∃ r, prngReg c r) ∗ Pipeline.ΦT pre0 (tbl m) c)
  iintro ⟨⟨HS, Hg, HQ, HH⟩, HT⟩
  isplitl [HS HQ HH]
  · iapply (core_in c (V m c main_arg5) (V m c main_arg7) (tE m) (tH m) (tN m))
    unfold Rest
    isplitl [HS]; · iexact HS
    isplitl [HQ]; · iexact HQ
    iexact HH
  isplitl [Hg]; · iexact Hg
  iexact HT

theorem phi_out (L : Lawful m) (hO : Ok m) (c : Dev nD) : ((dats m hO 0 c).Φ (Fin.last (cfgM m hO).N) : sProp 𝕄) ⊢ Pipeline.ΦD osem0 spec0 H0 (V m) c := by
  rw [PhiD_eq]
  show iprop(Core c (V m c main_arg5) (V m c main_arg7) (tE m) (tH m) (tN m) grid0.N ∗ (∃ r, prngReg c r) ∗ Pipeline.ΦT pre0 (tbl m) c) ⊢ _
  rw [N_0]
  iintro ⟨HC, Hg, -⟩
  ihave HR := (core_out c (V m c main_arg5) (V m c main_arg7) (tE m) (tH m) (tN m) (tU m) L) $$ [HC]
  · iexact HC
  unfold Rest
  icases HR with ⟨HS, HQ, HH⟩
  isplitl [HS]; · iexact HS
  isplitl [Hg]; · iexact Hg
  isplitl [HQ]; · iexact HQ
  iexact HH

set_option backward.isDefEq.respectTransparency.types false in
theorem run_main_quiescent (L : Lawful m) (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m L hO c).loose) (hshare := fun c => (dats m hO 0 c).share_full fun _ => rfl)
    (howed := fun _ _ => rfl) (V := V m) (hmain := hmain m Variants.none) (hA := A_eq m hO) (hpf := V_pre m) (hin := phi_in m hO) (hout := phi_out m L hO)

/-- The argument arrays end unchanged, the output array at the pipeline's own account of it, the counters at zero. -/
theorem value (L : Lawful m) (hO : Ok m) : θ_run defs (onTc (τ := τ) (main (F := F))) ⟨m, fun _ => 0, ρ⟩ (fun r => (∀ c : Dev nD,
      (r.2.mem ((c.tc : Thread nD τ).loc main_v0) : Buf (Elt F) ((c.tc : Thread nD τ).loc main_v0)) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1 c).1 3,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans ((Dat.arrAt_in (dats m hO 0 c) 0 rfl _).trans (A_eq m hO c 0)),
      (h.1 c).2 main_arg5 (by decide : main_arg5 ∈ Pipeline.restRefs sig spec0),
      ((h.1 c).1 1).trans ((Dat.arrAt_in (dats m hO 0 c) 1 rfl _).trans (A_eq m hO c 1)),
      (h.1 c).2 main_arg7 (by decide : main_arg7 ∈ Pipeline.restRefs sig spec0),
      ((h.1 c).1 2).trans ((Dat.arrAt_in (dats m hO 0 c) 2 rfl _).trans (A_eq m hO c 2))⟩, h.2⟩) (run_main_quiescent m ρ L hO)

end Cert.KernelIdeal.Exp

end
-- ==== Proof.Exp.KernelIdeal.Law.lean ====
/-
  The frame of `KernelIdeal`: the precondition on its tables gives the law, and the law the run.
-/
module

public import proofs.«01_k».proof.Defs
public import proofs.«01_k».proof.Proof.Exp.KernelIdeal.Run
public import proofs.«01_k».proof.Proof.Exp.Pre

@[expose] public section

namespace Cert.KernelIdeal.Exp

open Idealize.ShloMosaic Idealize.SL.Sem Cert.Exp
open Cert.KernelIdeal Cert.KernelIdeal.Gen

theorem lawful_of_pre (m : (ℓ : Loc nD τ sig) → Buf (Elt Ideal) ℓ) (h : Cert.Pre_KernelIdeal m) : Lawful m :=
  law_of_fn (F := Ideal) _ _ _ _ _ _ _ _ _ (h 0)

theorem frame : Cert.quiescent_KernelIdeal := fun m g h =>
  (θ_run _ _ _).mono (fun _ h => ⟨fun c => (h.1 c).2, h.2⟩)
    (value m g (lawful_of_pre m h) (ok_of_law m (lawful_of_pre m h)))

end Cert.KernelIdeal.Exp

end
-- ==== Proof.Exp.Value.Spec.lean ====
/-
  One row of an expert's feed-forward, as extended-real arithmetic: what both programs' texts come to.
-/
module

public import Idealize.ShloMosaic.Lib.Pointwise

@[expose] public section

noncomputable section

namespace Cert.Exp

open Idealize.ShloMosaic

/-- One hidden unit: the row against the unit's column, and its bias. -/
def hid (X W : Fin 1024 → EReal) (B : EReal) : EReal := ∑ k, X k * W k + B
/-- The gated half, clamped from above; the linear half, clamped on both sides. -/
def low (h : EReal) : EReal := min h (Ideal.ofBits .f32 0x40E00000#32)
def mid (h : EReal) : EReal := min (Ideal.ofBits .f32 0x40E00000#32) (max (Ideal.ofBits .f32 0xC0E00000#32) h)
/-- The clamped gated linear unit. -/
def gate (g l : EReal) : EReal := g * Ideal.div 1 (1 + Ideal.exp (Ideal.ofBits .f32 0xBFD9DB23#32 * g)) * (l + 1)

def lo (o : Fin 1024) : Fin 2048 := ⟨o.val, by omega⟩
def hi (o : Fin 1024) : Fin 2048 := ⟨1024 + o.val, by omega⟩

/-- One activation of the row. -/
def act (X : Fin 1024 → EReal) (Wu : Fin 1024 → Fin 2048 → EReal) (Bu : Fin 2048 → EReal) (o : Fin 1024) : EReal :=
  gate (low (hid X (fun k => Wu k (lo o)) (Bu (lo o)))) (mid (hid X (fun k => Wu k (hi o)) (Bu (hi o))))
/-- One element of the row's result. -/
def ffn (X : Fin 1024 → EReal) (Wu : Fin 1024 → Fin 2048 → EReal) (Bu : Fin 2048 → EReal) (Wd : Fin 1024 → EReal) (Bd : EReal) : EReal :=
  ∑ o, act X Wu Bu o * Wd o + Bd

/-- The two programs' words for the sigmoid's slope are negatives of each other. -/
theorem slope_neg : Ideal.ofBits .f32 0xBFD9DB23#32 = -Ideal.ofBits .f32 0x3FD9DB23#32 := by
  rw [show (Ideal.ofBits .f32 0xBFD9DB23#32 : EReal) = ((-(14277411 : ℝ) * 2 ^ (-23 : ℤ) : ℝ) : EReal) by
    simp [Ideal.ofBits, Ideal.ieee, -EReal.coe_mul, -EReal.coe_neg],
    show (Ideal.ofBits .f32 0x3FD9DB23#32 : EReal) = (((14277411 : ℝ) * 2 ^ (-23 : ℤ) : ℝ) : EReal) by
    simp [Ideal.ofBits, Ideal.ieee, -EReal.coe_mul, -EReal.coe_neg], ← EReal.coe_neg]
  norm_num

theorem gate_eq (g l : EReal) :
    g * Ideal.div 1 (1 + Ideal.exp (-(Ideal.ofBits .f32 0x3FD9DB23#32 * g))) * (l + 1) = gate g l := by
  unfold gate
  rw [slope_neg, EReal.neg_mul]

end Cert.Exp

end
-- ==== Proof.Exp.Value.Tile.lean ====
/-
  The kernel's row tile at `Ideal`, element by element.
-/
module

public import proofs.«01_k».proof.Proof.Exp.KernelIdeal.Out
public import proofs.«01_k».proof.Proof.Exp.Value.Spec

@[expose] public section

set_option maxRecDepth 16384
set_option maxHeartbeats 1600000

noncomputable section

namespace Cert.KernelIdeal.Exp

open Idealize.ShloMosaic Cert.Exp
open Cert.KernelIdeal Cert.KernelIdeal.Gen

/-- The tile's rows, from its eight stripes. -/
def rows (x : Vec Ideal S2048x128 .f32) : FVec Ideal S256x1024 .bf16 :=
  k0_pay11 (fun y => x ((⟨![0, 0], S256x128.size, ![8, 1], inb_S2048x128_S256x128_0_0_s_8_1⟩ : LoadRect S2048x128).idx y))
    (fun y => x ((⟨![1, 0], S256x128.size, ![8, 1], inb_S2048x128_S256x128_1_0_s_8_1⟩ : LoadRect S2048x128).idx y))
    (fun y => x ((⟨![2, 0], S256x128.size, ![8, 1], inb_S2048x128_S256x128_2_0_s_8_1⟩ : LoadRect S2048x128).idx y))
    (fun y => x ((⟨![3, 0], S256x128.size, ![8, 1], inb_S2048x128_S256x128_3_0_s_8_1⟩ : LoadRect S2048x128).idx y))
    (fun y => x ((⟨![4, 0], S256x128.size, ![8, 1], inb_S2048x128_S256x128_4_0_s_8_1⟩ : LoadRect S2048x128).idx y))
    (fun y => x ((⟨![5, 0], S256x128.size, ![8, 1], inb_S2048x128_S256x128_5_0_s_8_1⟩ : LoadRect S2048x128).idx y))
    (fun y => x ((⟨![6, 0], S256x128.size, ![8, 1], inb_S2048x128_S256x128_6_0_s_8_1⟩ : LoadRect S2048x128).idx y))
    (fun y => x ((⟨![7, 0], S256x128.size, ![8, 1], inb_S2048x128_S256x128_7_0_s_8_1⟩ : LoadRect S2048x128).idx y))

theorem rows_at (x : Vec Ideal S2048x128 .f32) (r : Fin 256) (k : Fin 1024) :
    rows x (ix2 r k) = x (ix2 (⟨8 * r.val + k.val / 128, by omega⟩ : Fin 2048) (⟨k.val % 128, by omega⟩ : Fin 128)) := by
  pointwise [rows, k0_pay11]
  have hk := k.isLt
  split_ifs <;> exact congrArg₂ (fun a b => x (ix2 a b)) (Fin.ext (by simp only []; omega)) (Fin.ext (by simp only []; omega))

/-- A quarter of the activations, from its two column panels. -/
def part (R : FVec Ideal S256x1024 .bf16) (w w' : Vec Ideal S1024x256 .bf16) (b b' : Vec Ideal S1x1x256 .f32) (r q : Fin 256) : EReal :=
  gate (low (hid (fun k => R (ix2 r k)) (fun k => w (ix2 k q)) (b (ix3 0 0 q))))
    (mid (hid (fun k => R (ix2 r k)) (fun k => w' (ix2 k q)) (b' (ix3 0 0 q))))

theorem part0 (s0 s1 s2 s3 s4 s5 s6 s7 : Vec Ideal S256x128 .f32) (w w' b b') (r q : Fin 256) :
    k0_pay14 (F := Ideal) (k0_pay12 s0 s1 s2 s3 s4 s5 s6 s7 w b) (k0_pay13 s0 s1 s2 s3 s4 s5 s6 s7 w' b') (Scalar.ofBits .f32 0xBFD9DB23#32) (ix2 r q)
      = part (k0_pay11 s0 s1 s2 s3 s4 s5 s6 s7) w w' b b' r q := by
  pointwise [k0_pay14, k0_pay12, k0_pay13]
  rfl
theorem part1 (R w w' b b') (r q : Fin 256) :
    k0_pay17 (F := Ideal) (k0_pay15 R w' b') (k0_pay16 R w b) (Scalar.ofBits .f32 0x3F800000#32) (ix2 r q) = part R w w' b b' r q := by
  pointwise [k0_pay15, k0_pay16, k0_pay17]
  rfl
theorem part2 (R w w' b b') (r q : Fin 256) :
    k0_pay18 (F := Ideal) R w b w' b' (ix2 r q) = part R w w' b b' r q := by
  pointwise [k0_pay18]
  rfl

/-- The four quarters of the activations, side by side. -/
def acts (p0 p1 p2 p3 : FVec Ideal S256x256 .bf16) : FVec Ideal S256x1024 .bf16 :=
  concatenate S256x1024 1 [⟨S256x256, p0⟩, ⟨S256x256, p1⟩, ⟨S256x256, p2⟩, ⟨S256x256, p3⟩] concatenates_S256x256_S256x256_S256x256_S256x256_S256x1024_d1

/-- The down product, over the activations as one matrix. -/
def down (A : FVec Ideal S256x1024 .bf16) (w : FVec Ideal S1024x1024 .bf16) (b : Vec Ideal S1x1x1024 .f32) : FVec Ideal S256x1024 .f32 :=
  addf (matmul dot_S256x1024_S1024x1024_S256x1024_1_0_0_1_n_n none A w (constant S256x1024 .f32 0x00000000#32))
    (broadcastTo S256x1024 (shapeCast S1x1024 b shapeCasts_S1x1x1024_S1x1024) broadcasts_S1x1024_S256x1024)

theorem down_at (A w b) (r : Fin 256) (d : Fin 1024) :
    down A w b (ix2 r d) = ∑ o : Fin 1024, A (ix2 r o) * w (ix2 o d) + b (ix3 0 0 d) := by
  pointwise [down]

theorem last_eq (R : FVec Ideal S256x1024 .bf16) (p0 p1 p2) (w w' b b') (pd bd) :
    k0_pay20 (F := Ideal) R p0 p1 p2 (k0_pay19 R w) b w' b' pd bd = down (acts p0 p1 p2 (k0_pay18 R w b w' b')) pd bd := rfl

theorem acts_at (p0 p1 p2 p3 : FVec Ideal S256x256 .bf16) (r : Fin 256) (P : Fin 1024 → EReal)
    (h0 : ∀ q : Fin 256, p0 (ix2 r q) = P ⟨q.val, by omega⟩) (h1 : ∀ q : Fin 256, p1 (ix2 r q) = P ⟨256 + q.val, by omega⟩)
    (h2 : ∀ q : Fin 256, p2 (ix2 r q) = P ⟨512 + q.val, by omega⟩) (h3 : ∀ q : Fin 256, p3 (ix2 r q) = P ⟨768 + q.val, by omega⟩) (o : Fin 1024) :
    acts p0 p1 p2 p3 (ix2 r o) = P o := by
  pointwise [acts]
  have ho := o.isLt
  by_cases c0 : o.val < 256
  · rw [dif_pos c0]
    exact (h0 _).trans (congrArg P (Fin.ext rfl))
  rw [dif_neg c0]
  by_cases c1 : o.val - 256 < 256
  · rw [dif_pos c1]
    exact (h1 _).trans (congrArg P (Fin.ext (by simp only []; omega)))
  rw [dif_neg c1]
  by_cases c2 : o.val - 256 - 256 < 256
  · rw [dif_pos c2]
    exact (h2 _).trans (congrArg P (Fin.ext (by simp only []; omega)))
  rw [dif_neg c2]
  exact (h3 _).trans (congrArg P (Fin.ext (by simp only []; omega)))

theorem resV_at (x : Vec Ideal S2048x128 .f32) (bu : Vec Ideal S1x1x2048 .f32) (bd : Vec Ideal S1x1x1024 .f32) (pu : Vec Ideal S1024x2048 .bf16)
    (pd : Vec Ideal S1024x1024 .bf16) (r : Fin 256) (d : Fin 1024) :
    resV x bu bd pu pd (ix2 r d)
      = ffn (fun k => x (ix2 (⟨8 * r.val + k.val / 128, by omega⟩ : Fin 2048) (⟨k.val % 128, by omega⟩ : Fin 128))) (fun k o => pu (ix2 k o))
          (fun o => bu (ix3 0 0 o)) (fun o => pd (ix2 o d)) (bd (ix3 0 0 d)) := by
  have hx : (fun k : Fin 1024 => rows x (ix2 r k)) = fun k => x (ix2 (⟨8 * r.val + k.val / 128, by omega⟩ : Fin 2048) (⟨k.val % 128, by omega⟩ : Fin 128)) :=
    funext fun k => rows_at x r k
  rw [← hx]
  unfold resV
  refine (congrFun (last_eq _ _ _ _ _ _ _ _ _ _) _).trans ((down_at _ _ _ r d).trans ?_)
  unfold ffn
  refine congrArg₂ (· + ·) (Finset.sum_congr rfl fun o _ => congrArg₂ (· * ·)
    (acts_at _ _ _ _ r (act (fun k => rows x (ix2 r k)) (fun k o => pu (ix2 k o)) (fun o => bu (ix3 0 0 o)))
      (fun q => (part0 _ _ _ _ _ _ _ _ _ _ _ _ r q).trans ?_) (fun q => (part1 _ _ _ _ _ r q).trans ?_)
      (fun q => (part2 _ _ _ _ _ r q).trans ?_) (fun q => (part2 _ _ _ _ _ r q).trans ?_) o) ?_) ?_
  iterate 4
    · change part (rows x) _ _ _ _ r q = _
      unfold part act
      pointwise [lo, hi]
      try simp only [← Nat.add_assoc, Nat.reduceAdd]
      try rfl
  · pointwise []
  · pointwise []

end Cert.KernelIdeal.Exp
end
-- ==== Proof.Exp.Value.Ref.lean ====
/-
  The reference at `Ideal`, element by element: a used tile's rows through its expert's feed-forward, zero past the last.
-/
module

public import proofs.«01_k».proof.Proof.Gen.ReferenceIdeal.Run
public import proofs.«01_k».proof.Proof.Exp.Value.Spec

@[expose] public section

set_option maxRecDepth 16384
set_option maxHeartbeats 1600000

noncomputable section

namespace Cert.ReferenceIdeal.Exp

open Idealize.ShloMosaic Cert.Exp
open Cert.ReferenceIdeal Cert.ReferenceIdeal.Gen

section Gather
variable {α : Type}

/-- Slab `idx t` of a stack of 32, at each `t`. -/
abbrev slabDims (A B : ℕ) (wf : GatherDims.WF ⟨3, ![32, A, B]⟩ ⟨2, ![288, 1]⟩ ⟨3, ![288, A, B]⟩ [1, 2] [0] [] [0] [] 1 ![1, A, B]) :
    GatherDims ⟨3, ![32, A, B]⟩ ⟨2, ![288, 1]⟩ ⟨3, ![288, A, B]⟩ where
  offsetDims := [1, 2]
  collapsedSliceDims := [0]
  operandBatchingDims := []
  startIndicesBatchingDims := []
  startIndexMap := [0]
  indexVectorDim := 1
  sliceSizes := ![1, A, B]
  wf := wf

theorem slab_at {A B : ℕ} (wf) (x : (⟨3, ![32, A, B]⟩ : Shape).Idx → α) (idx : IVec ⟨2, ![288, 1]⟩ 32) (t : Fin 288) (a : Fin A) (b : Fin B)
    (e : Fin 32) (he : (idx (ix2 t 0)).toInt.toNat = e.val) :
    Host.gather (slabDims A B wf) x idx (ix3 t a b) = x (ix3 e a b) := by
  unfold Host.gather
  congr 1
  funext i
  refine Fin.ext ?_
  show (slabDims A B wf).start (ix3 t a b) idx i + (slabDims A B wf).batchCoord (ix3 t a b) i + (slabDims A B wf).offCoord (ix3 t a b) i = _
  rw [GatherDims.batchCoord_eq_zero _ _ _ List.not_mem_nil, Nat.add_zero]
  match i with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (slabDims A B wf).startIndexMap from List.mem_singleton.mpr rfl)]
    have hsi : (slabDims A B wf).siIdx (ix3 t a b) ⟨List.idxOf (⟨0, by decide⟩ : Fin 3) (slabDims A B wf).startIndexMap,
        List.idxOf_lt_length_iff.2 (List.mem_singleton.mpr rfl)⟩ = ix2 t 0 := by
      funext j
      refine Fin.ext ?_
      match j with
      | ⟨0, _⟩ => rfl
      | ⟨1, _⟩ => rfl
    rw [hsi]
    show min (idx (ix2 t 0)).toInt.toNat (32 - 1) = e.val
    rw [he]; have := e.isLt; omega
  | ⟨1, _⟩ =>
    unfold GatherDims.start
    rw [dif_neg (show ¬(⟨1, by decide⟩ : Fin 3) ∈ (slabDims A B wf).startIndexMap from (by decide : ¬(⟨1, by decide⟩ : Fin 3) ∈ ([0] : List (Fin 3)))), Nat.zero_add]
    rfl
  | ⟨2, _⟩ =>
    unfold GatherDims.start
    rw [dif_neg (show ¬(⟨2, by decide⟩ : Fin 3) ∈ (slabDims A B wf).startIndexMap from (by decide : ¬(⟨2, by decide⟩ : Fin 3) ∈ ([0] : List (Fin 3)))), Nat.zero_add]
    rfl
end Gather

/-- The table of experts, wrapped as an index is. -/
def ids (e : IVec S288 32) : IVec S288x1 32 :=
  broadcastInDim S288x1 ![0] bcast_S288_S288x1_0 (select (cmpi .slt e (broadcastInDim S288 ![] bcast_S_S288 (constantI S_ 32 0#32))) (addi e (broadcastInDim S288 ![] bcast_S_S288 (constantI S_ 32 32#32))) e)

theorem ids_at (e : IVec S288 32) (t : Fin 288) (h : (e (ix1 t)).toNat < 32) : (ids e (ix2 t 0)).toInt.toNat = (e (ix1 t)).toNat := by
  have hi : (e (ix1 t)).toInt = ((e (ix1 t)).toNat : ℤ) := BitVec.toInt_eq_toNat_of_lt (by omega)
  pointwise [ids]
  have hc : ¬IntOp.cmpi CmpIPredicate.slt (e (ix1 t)) 0#32 = 1#1 := by
    have hz : ¬((e (ix1 t)).toNat : ℤ) < 0 := by omega
    simp only [IntOp.cmpi, BitVec.slt, hi, show (0#32 : BitVec 32).toInt = 0 from rfl, decide_eq_false hz]
    decide
  rw [show Scalar.select (IntOp.cmpi CmpIPredicate.slt (e (ix1 t)) 0#32) (IntOp.addi (e (ix1 t)) 32#32) (e (ix1 t)) = e (ix1 t) from if_neg hc, hi]
  rfl

/-- The hidden layer, before its clamps. -/
def hb (e : IVec S288 32) (x : FVec Ideal S589824x128 .f32) (wu : FVec Ideal S32x1024x2048 .f32) (bu : FVec Ideal S32x1x2048 .f32) : FVec Ideal S288x256x2048 .f32 :=
  addf (Host.dotGeneral dot_S288x256x1024_S288x1024x2048_S288x256x2048_2_1_1_2_0_0 none (shapeCast _ x shapeCasts_S589824x128_S288x256x1024)
      (Host.gather gather_S32x1024x2048_S288x1_S288x1024x2048_12_0_n_n_0_1_110242048 wu (ids e)))
    (broadcastInDim S288x256x2048 ![0, 1, 2] bcast_S288x1x2048_S288x256x2048_0_1_2 (Host.gather gather_S32x1x2048_S288x1_S288x1x2048_12_0_n_n_0_1_112048 bu (ids e)))

theorem hb_at (e x wu bu) (t : Fin 288) (h : (e (ix1 t)).toNat < 32) (r : Fin 256) (o : Fin 2048) :
    hb e x wu bu (ix3 t r o)
      = hid (fun k => x (ix2 (⟨t.val * 2048 + r.val * 8 + k.val / 128, by omega⟩ : Fin 589824) (⟨k.val % 128, by omega⟩ : Fin 128)))
          (fun k => wu (ix3 ⟨(e (ix1 t)).toNat, h⟩ k o)) (bu (ix3 ⟨(e (ix1 t)).toNat, h⟩ 0 o)) := by
  pointwise [hb]
  unfold hid
  refine congrArg₂ (· + ·) (Finset.sum_congr rfl fun k _ => congrArg₂ (· * ·) rfl ?_) ?_
  · exact slab_at _ wu (ids e) t k o ⟨(e (ix1 t)).toNat, h⟩ (ids_at e t h)
  · exact slab_at _ bu (ids e) t 0 o ⟨(e (ix1 t)).toNat, h⟩ (ids_at e t h)

/-- The activations. -/
def ac (H : FVec Ideal S288x256x2048 .f32) : FVec Ideal S288x256x1024 .f32 :=
  let g : FVec Ideal S288x256x1024 .f32 := minimumf (extractStridedSlice S288x256x1024 ![0, 0, 0] H slices_S288x256x2048_S288x256x1024_0_0_0) (broadcastInDim S288x256x1024 ![] bcast_S_S288x256x1024 (constant S_ .f32 0x40E00000#32))
  let l : FVec Ideal S288x256x1024 .f32 := minimumf (broadcastInDim S288x256x1024 ![] bcast_S_S288x256x1024 (id (constant S_ .f32 0x40E00000#32))) (maximumf (broadcastInDim S288x256x1024 ![] bcast_S_S288x256x1024 (id (constant S_ .f32 0xC0E00000#32))) (extractStridedSlice S288x256x1024 ![0, 0, 1024] H slices_S288x256x2048_S288x256x1024_0_0_1024))
  mulf (mulf g (Host.divf (broadcastInDim S288x256x1024 ![] bcast_S_S288x256x1024 (constant S_ .f32 0x3F800000#32)) (addf (broadcastInDim S288x256x1024 ![] bcast_S_S288x256x1024 (constant S_ .f32 0x3F800000#32)) (Host.exp (Host.negf (mulf (broadcastInDim S288x256x1024 ![] bcast_S_S288x256x1024 (constant S_ .f32 0x3FD9DB23#32)) g))))))
    (addf l (broadcastInDim S288x256x1024 ![] bcast_S_S288x256x1024 (constant S_ .f32 0x3F800000#32)))

theorem ac_at (H) (t : Fin 288) (r : Fin 256) (o : Fin 1024) :
    ac H (ix3 t r o) = gate (low (H (ix3 t r (lo o)))) (mid (H (ix3 t r (hi o)))) := by
  refine Eq.trans ?_ (gate_eq _ _)
  pointwise [ac, low, mid, lo, hi]
  rfl

/-- The tiles' results, zero past the last tile used. -/
def res (e : IVec S288 32) (u : IVec S1 32) (x : FVec Ideal S589824x128 .f32) (wu : FVec Ideal S32x1024x2048 .f32) (bu : FVec Ideal S32x1x2048 .f32)
    (wd : FVec Ideal S32x1024x1024 .f32) (bd : FVec Ideal S32x1x1024 .f32) : FVec Ideal S288x256x1024 .f32 :=
  select (broadcastInDim S288x256x1024 ![0, 1, 2] bcast_S288x1x1_S288x256x1024_0_1_2 (broadcastInDim S288x1x1 ![0] bcast_S288_S288x1x1_0 (cmpi .slt (iotaInDim S288 32 0) (broadcastInDim S288 ![] bcast_S_S288 (shapeCast _ u shapeCasts_S1_S_)))))
    (addf (Host.dotGeneral dot_S288x256x1024_S288x1024x1024_S288x256x1024_2_1_1_2_0_0 none (ac (hb e x wu bu)) (Host.gather gather_S32x1024x1024_S288x1_S288x1024x1024_12_0_n_n_0_1_110241024 wd (ids e)))
      (broadcastInDim S288x256x1024 ![0, 1, 2] bcast_S288x1x1024_S288x256x1024_0_1_2 (Host.gather gather_S32x1x1024_S288x1_S288x1x1024_12_0_n_n_0_1_111024 bd (ids e))))
    (broadcastInDim S288x256x1024 ![] bcast_S_S288x256x1024 (id (constant S_ .f32 0x00000000#32)))

theorem res_at (e u x wu bu wd bd) (t : Fin 288) (h : (e (ix1 t)).toNat < 32) (hu : (u (ix1 0)).toNat ≤ 288) (r : Fin 256) (d : Fin 1024) :
    res e u x wu bu wd bd (ix3 t r d)
      = if t.val < (u (ix1 0)).toNat then
          ffn (fun k => x (ix2 (⟨t.val * 2048 + r.val * 8 + k.val / 128, by omega⟩ : Fin 589824) (⟨k.val % 128, by omega⟩ : Fin 128)))
            (fun k o => wu (ix3 ⟨(e (ix1 t)).toNat, h⟩ k o)) (fun o => bu (ix3 ⟨(e (ix1 t)).toNat, h⟩ 0 o))
            (fun o => wd (ix3 ⟨(e (ix1 t)).toNat, h⟩ o d)) (bd (ix3 ⟨(e (ix1 t)).toNat, h⟩ 0 d))
        else 0 := by
  have hc : IntOp.cmpi CmpIPredicate.slt (BitVec.ofNat 32 t.val) (u (ix1 0)) = 1#1 ↔ t.val < (u (ix1 0)).toNat := by
    have ht := t.isLt
    have e1 : (BitVec.ofNat 32 t.val).toNat = t.val := by rw [BitVec.toNat_ofNat]; omega
    simp only [IntOp.cmpi, BitVec.slt, BitVec.toInt_eq_toNat_of_lt (show 2 * (u (ix1 0)).toNat < 2 ^ 32 by omega),
      BitVec.toInt_eq_toNat_of_lt (show 2 * (BitVec.ofNat 32 t.val).toNat < 2 ^ 32 by omega), e1]
    by_cases q : t.val < (u (ix1 0)).toNat <;> simp [q]
  pointwise [res]
  by_cases q : t.val < (u (ix1 0)).toNat
  · rw [if_pos q]
    refine (if_pos (hc.2 q)).trans ?_
    unfold ffn act
    refine congrArg₂ (· + ·) (Finset.sum_congr rfl fun o _ => congrArg₂ (· * ·) ?_ ?_) ?_
    · rw [ac_at, hb_at _ _ _ _ t h, hb_at _ _ _ _ t h]
    · exact slab_at _ wd (ids e) t o d ⟨(e (ix1 t)).toNat, h⟩ (ids_at e t h)
    · exact slab_at _ bd (ids e) t 0 d ⟨(e (ix1 t)).toNat, h⟩ (ids_at e t h)
  · rw [if_neg q]
    exact (if_neg (fun h' => q (hc.1 h'))).trans ((rfl : id (constant (F := Ideal) S_ .f32 0#32) ix0 = Ideal.ofBits .f32 0#32).trans Ideal.ofBits_zero_f32)

theorem out_eq (m : (ℓ : Loc nD τ sig) → Buf (Elt Ideal) ℓ) (c : Dev nD) :
    Value.res_out0 m c = shapeCast S589824x128 (res (m ((c.tc : Thread nD τ).loc main_arg0)) (m ((c.tc : Thread nD τ).loc main_arg1)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)))
        shapeCasts_S288x256x1024_S589824x128 := rfl

theorem cast_at (v : FVec Ideal S288x256x1024 .f32) (a : Fin 589824) (l : Fin 128) :
    shapeCast S589824x128 v shapeCasts_S288x256x1024_S589824x128 (ix2 a l)
      = v (ix3 (⟨a.val / 2048, by omega⟩ : Fin 288) (⟨a.val / 8 % 256, by omega⟩ : Fin 256) (⟨a.val % 8 * 128 + l.val, by omega⟩ : Fin 1024)) := by
  pointwise []

end Cert.ReferenceIdeal.Exp
end
-- ==== Proof.Exp.Value.Final.lean ====
/-
  The kernel's output array at `Ideal`: the reference's, element by element.
-/
module

public import proofs.«01_k».proof.Proof.Exp.KernelIdeal.Law
public import proofs.«01_k».proof.Proof.Exp.Value.Tile
public import proofs.«01_k».proof.Proof.Exp.Value.Ref
import Idealize.ShloMosaic.Lib.Pipeline.Value

@[expose] public section

set_option maxRecDepth 16384
set_option maxHeartbeats 800000

noncomputable section

namespace Cert.KernelIdeal.Exp

open Idealize.ShloMosaic Idealize.ShloMosaic.TcCoe Cert.Exp
open Idealize.ShloMosaic.Pipeline (Dat Cfg Window)
open Cert.KernelIdeal Cert.KernelIdeal.Gen

variable (m : (ℓ : Loc nD τ sig) → Buf (Elt Ideal) ℓ)

/-! ## The blocks read -/

theorem castU_at (v : FVec Ideal S1024x2048 .f32) (k : Fin 1024) (o : Fin 2048) : (castU v (ix2 k o) : EReal) = v (ix2 k o) := by pointwise [castU]
theorem castD_at (v : FVec Ideal S1024x1024 .f32) (o d : Fin 1024) : (castD v (ix2 o d) : EReal) = v (ix2 o d) := by pointwise [castD]
theorem dropU {α : Type} (x : S1x1024x2048.Idx → α) (h) (k : Fin 1024) (o : Fin 2048) : shapeCast S1024x2048 x h (ix2 k o) = x (ix3 0 k o) := by pointwise []
theorem dropD {α : Type} (x : S1x1024x1024.Idx → α) (h) (o d : Fin 1024) : shapeCast S1024x1024 x h (ix2 o d) = x (ix3 0 o d) := by pointwise []

theorem panU_at (c : Dev nD) (XU : BufOf (F := Ideal) c upM) (n : ℕ) (h : n < 32) (k : Fin 1024) (o : Fin 2048) :
    panU (F := Ideal) c XU n (ix2 k o) = (XU : FVec Ideal S32x1024x2048 .f32) (ix3 (⟨n, h⟩ : Fin 32) k o) := by
  refine (congrFun (panU_eq c XU n h) _).symm.trans ?_
  refine (castU_at _ k o).trans ?_
  refine (dropU (fun y => (XU : FVec Ideal S32x1024x2048 .f32)
      ((Rect.unit (s := S32x1024x2048) (panOff n) S1x1024x2048.size (upOff_inb n h)).emb y)) squeezes_S1x1024x2048_S1024x2048.numel_eq k o).trans ?_
  refine congrArg (XU : FVec Ideal S32x1024x2048 .f32) (funext fun x => Fin.ext ?_)
  match x with
  | ⟨0, _⟩ => rfl
  | ⟨1, _⟩ => exact (show 0 + 1 * k.val = k.val by omega)
  | ⟨2, _⟩ => exact (show 0 + 1 * o.val = o.val by omega)

theorem panD_at (c : Dev nD) (XD : BufOf (F := Ideal) c dnM) (n : ℕ) (h : n < 32) (o d : Fin 1024) :
    panD (F := Ideal) c XD n (ix2 o d) = (XD : FVec Ideal S32x1024x1024 .f32) (ix3 (⟨n, h⟩ : Fin 32) o d) := by
  refine (congrFun (panD_eq c XD n h) _).symm.trans ?_
  refine (castD_at _ o d).trans ?_
  refine (dropD (fun y => (XD : FVec Ideal S32x1024x1024 .f32)
      ((Rect.unit (s := S32x1024x1024) (panOff n) S1x1024x1024.size (dnOff_inb n h)).emb y)) squeezes_S1x1024x1024_S1024x1024.numel_eq o d).trans ?_
  refine congrArg (XD : FVec Ideal S32x1024x1024 .f32) (funext fun x => Fin.ext ?_)
  match x with
  | ⟨0, _⟩ => rfl
  | ⟨1, _⟩ => exact (show 0 + 1 * o.val = o.val by omega)
  | ⟨2, _⟩ => exact (show 0 + 1 * d.val = d.val by omega)

theorem lt_t (hO : Ok m) (t : Fin (cfgM m hO).N) : t.val < 288 := lt_of_lt_of_eq t.isLt N_0

theorem iblk0_at (L : Lawful m) (hO : Ok m) (c : Dev nD) (t : Fin (cfgM m hO).N) (ht : t.val < (tU m).toNat) (a : Fin 2048) (l : Fin 128) :
    iblk m hO c 0 t (ix2 a l) = V m c main_arg4 (ix2 (⟨t.val * 2048 + a.val, by have := lt_t m hO t; omega⟩ : Fin 589824) l) := by
  show V m c main_arg4 ((((cfgM m hO).win 0).blk t).view.emb (ix2 a l)) = _
  refine congrArg _ (funext fun x => Fin.ext ?_)
  refine (Window.rect_emb_val ((cfgM m hO).win 0) t (ix2 a l) x).trans ?_
  have q : ((cfgM m hO).win 0).index t = ![min ((grid0.coords t) 0).val ((tU m).toNat - 1), 0] := map_x m L (grid0.coords t) _ _
  rw [q, coord0 t, show min t.val ((tU m).toNat - 1) = t.val by omega]
  match x with
  | ⟨0, _⟩ => rfl
  | ⟨1, _⟩ => exact Nat.zero_add _

theorem iblk1_at (L : Lawful m) (hO : Ok m) (c : Dev nD) (t : Fin (cfgM m hO).N) (o : Fin 2048) :
    iblk m hO c 1 t (ix3 0 0 o) = V m c main_arg6 (ix3 (⟨(tE m t.val).toNat, L.hE _ (lt_t m hO t)⟩ : Fin 32) 0 o) := by
  show V m c main_arg6 ((((cfgM m hO).win 1).blk t).view.emb (ix3 0 0 o)) = _
  refine congrArg _ (funext fun x => Fin.ext ?_)
  refine (Window.rect_emb_val ((cfgM m hO).win 1) t (ix3 0 0 o) x).trans ?_
  have q : ((cfgM m hO).win 1).index t = ![(tE m ((grid0.coords t) 0).val).toNat, 0, 0] := map_u m (grid0.coords t) _ _
  rw [q, coord0 t]
  match x with
  | ⟨0, _⟩ => exact Nat.mul_one _
  | ⟨1, _⟩ => rfl
  | ⟨2, _⟩ => exact Nat.zero_add _

theorem iblk2_at (L : Lawful m) (hO : Ok m) (c : Dev nD) (t : Fin (cfgM m hO).N) (d : Fin 1024) :
    iblk m hO c 2 t (ix3 0 0 d) = V m c main_arg8 (ix3 (⟨(tE m t.val).toNat, L.hE _ (lt_t m hO t)⟩ : Fin 32) 0 d) := by
  show V m c main_arg8 ((((cfgM m hO).win 2).blk t).view.emb (ix3 0 0 d)) = _
  refine congrArg _ (funext fun x => Fin.ext ?_)
  refine (Window.rect_emb_val ((cfgM m hO).win 2) t (ix3 0 0 d) x).trans ?_
  have q : ((cfgM m hO).win 2).index t = ![(tE m ((grid0.coords t) 0).val).toNat, 0, 0] := map_d m (grid0.coords t) _ _
  rw [q, coord0 t]
  match x with
  | ⟨0, _⟩ => exact Nat.mul_one _
  | ⟨1, _⟩ => rfl
  | ⟨2, _⟩ => exact Nat.zero_add _

/-! ## The array written -/

/-- The reference of the arguments. -/
def refV (c : Dev nD) : FVec Ideal S589824x128 .f32 :=
  shapeCast S589824x128 (Cert.ReferenceIdeal.Exp.res (V m c main_arg0) (V m c main_arg1) (V m c main_arg4) (V m c main_arg5) (V m c main_arg6) (V m c main_arg7) (V m c main_arg8))
    Cert.ReferenceIdeal.Gen.shapeCasts_S288x256x1024_S589824x128

theorem word_e (c : Dev nD) (t : Fin 288) : (V m c main_arg0 : IVec S288 32) (ix1 t) = tE m t.val := by
  obtain rfl : c = 0 := Subsingleton.elim _ _
  show V m 0 main_arg0 _ = V m 0 main_arg0 _
  refine congrArg _ (funext fun x => ?_)
  match x with
  | ⟨0, _⟩ => exact Fin.ext (Nat.mod_eq_of_lt t.isLt).symm
theorem word_u (c : Dev nD) : (V m c main_arg1 : IVec S1 32) (ix1 0) = tU m := by
  obtain rfl : c = 0 := Subsingleton.elim _ _
  show V m 0 main_arg1 _ = V m 0 main_arg1 _
  refine congrArg _ (funext fun x => ?_)
  match x with
  | ⟨0, _⟩ => rfl

theorem outV_at (L : Lawful m) (hO : Ok m) (c : Dev nD) (t : Fin (cfgM m hO).N) (a : Fin 2048) (l : Fin 128) :
    outV m hO c t (ix2 a l) = refV m c (ix2 (⟨t.val * 2048 + a.val, by have := lt_t m hO t; omega⟩ : Fin 589824) l) := by
  have h288 := lt_t m hO t
  have he : ((V m c main_arg0 : IVec S288 32) (ix1 (⟨t.val, h288⟩ : Fin 288))).toNat < 32 := by rw [word_e]; exact L.hE _ h288
  have hu : ((V m c main_arg1 : IVec S1 32) (ix1 0)).toNat ≤ 288 := by rw [word_u]; exact L.hU.2
  unfold refV
  rw [Cert.ReferenceIdeal.Exp.cast_at]
  have i0 : (⟨(t.val * 2048 + a.val) / 2048, by omega⟩ : Fin 288) = ⟨t.val, h288⟩ := Fin.ext (by show (t.val * 2048 + a.val) / 2048 = t.val; omega)
  have i1 : (⟨(t.val * 2048 + a.val) / 8 % 256, by omega⟩ : Fin 256) = ⟨a.val / 8, by omega⟩ := Fin.ext (by show (t.val * 2048 + a.val) / 8 % 256 = a.val / 8; omega)
  have i2 : (⟨(t.val * 2048 + a.val) % 8 * 128 + l.val, by omega⟩ : Fin 1024) = ⟨128 * (a.val % 8) + l.val, by omega⟩ :=
    Fin.ext (by show (t.val * 2048 + a.val) % 8 * 128 + l.val = 128 * (a.val % 8) + l.val; omega)
  refine Eq.trans ?_ (congrArg _ (congr (congr (congrArg ix3 i0) i1) i2)).symm
  rw [Cert.ReferenceIdeal.Exp.res_at _ _ _ _ _ _ _ _ he hu, word_u]
  unfold outV
  by_cases q : t.val < (tU m).toNat
  · rw [if_pos q, if_pos q]
    have s : spreadIx (ix2 a l) = ix2 (⟨a.val / 8, by omega⟩ : Fin 256) (⟨128 * (a.val % 8) + l.val, by omega⟩ : Fin 1024) := by
      funext x
      match x with
      | ⟨0, _⟩ => rfl
      | ⟨1, _⟩ => rfl
    refine (congrArg (resV _ _ _ _ _) s).trans ((resV_at _ _ _ _ _ _ _).trans ?_)
    have we : (⟨((V m c main_arg0 : IVec S288 32) (ix1 (⟨t.val, h288⟩ : Fin 288))).toNat, he⟩ : Fin 32) = ⟨(tE m t.val).toNat, L.hE _ h288⟩ :=
      Fin.ext (congrArg BitVec.toNat (word_e m c ⟨t.val, h288⟩))
    rw [we]
    congr 1
    · funext k
      refine (iblk0_at m L hO c t q _ _).trans ?_
      refine congrArg (V m c main_arg4) (congrArg (fun z => ix2 z _) (Fin.ext ?_))
      show t.val * 2048 + (8 * (a.val / 8) + k.val / 128) = t.val * 2048 + a.val / 8 * 8 + k.val / 128
      omega
    · funext k o; exact panU_at c _ _ (L.hE _ h288) k o
    · funext o; exact iblk1_at m L hO c t o
    · funext o; exact panD_at c _ _ (L.hE _ h288) o _
    · exact iblk2_at m L hO c t _
  · rw [if_neg q, if_neg q]
    exact Ideal.ofBits_zero_f32

theorem flush3 (hO : Ok m) (t : Fin (cfgM m hO).N) : ((cfgM m hO).win 3).flush t = true :=
  (Pipeline.Window.flushOf_reads cc0_transform_5 reads0_3 hreads0_3 0 (by decide) (by decide) (Pipeline.Window.sep_of_coord cc0_transform_5 0 0 (fun _ => rfl) (by decide)) (P := 1) (m := 0) (by decide) rfl t).mpr (Nat.mod_one _)

theorem emb3 (hO : Ok m) (t : Fin (cfgM m hO).N) (a : Fin 2048) (l : Fin 128) :
    (((cfgM m hO).win 3).blk t).view.emb (ix2 a l) = (ix2 (⟨t.val * 2048 + a.val, by have := lt_t m hO t; omega⟩ : Fin 589824) l : S589824x128.Idx) := by
  refine funext fun x => Fin.ext ?_
  refine (Window.rect_emb_val ((cfgM m hO).win 3) t (ix2 a l) x).trans ?_
  have q : ((cfgM m hO).win 3).index t = ![((grid0.coords t) 0).val, 0] := by
    show ![(BitVec.ofNat 32 ((grid0.coords t) 0).val).toNat, 0] = _
    have := lt_i (grid0.coords t)
    rw [toNat_small _ (by omega)]
  rw [q, coord0 t]
  match x with
  | ⟨0, _⟩ => rfl
  | ⟨1, _⟩ => exact Nat.zero_add _

end Cert.KernelIdeal.Exp
end
-- ==== Proof.Exp.Value.Equal.lean ====
/-
  The kernel's whole array is the reference's, and both programs end with it.
-/
module

public import proofs.«01_k».proof.Proof.Exp.Value.Final
import Idealize.ShloMosaic.Lib.Pipeline.Value

@[expose] public section

set_option maxRecDepth 16384
set_option maxHeartbeats 1600000

noncomputable section

namespace Cert.KernelIdeal.Exp

open Idealize.ShloMosaic Idealize.ShloMosaic.TcCoe Idealize.SL.Sem Cert.Exp
open Idealize.ShloMosaic.Pipeline (Dat Cfg Window)
open Cert.KernelIdeal Cert.KernelIdeal.Gen

variable (m : (ℓ : Loc nD τ sig) → Buf (Elt Ideal) ℓ)

theorem cover3 (hO : Ok m) (i : S589824x128.Idx) : ∃ t : Fin (cfgM m hO).N, ((cfgM m hO).win 3).flush t = true ∧ i ∈ (((cfgM m hO).win 3).blk t).view.set := by
  have h0 : (i 0).val < 589824 := (i 0).isLt
  have hN : (i 0).val / 2048 < (cfgM m hO).N := lt_of_lt_of_eq (show (i 0).val / 2048 < 288 by omega) N_0.symm
  have e := emb3 m hO ⟨(i 0).val / 2048, hN⟩ ⟨(i 0).val % 2048, Nat.mod_lt _ (by decide)⟩ ⟨(i 1).val, (i 1).isLt⟩
  have hi : i = ix2 (⟨(i 0).val / 2048 * 2048 + (i 0).val % 2048, by omega⟩ : Fin 589824) (⟨(i 1).val, (i 1).isLt⟩ : Fin 128) := by
    funext x
    match x with
    | ⟨0, _⟩ => exact Fin.ext (show (i 0).val = (i 0).val / 2048 * 2048 + (i 0).val % 2048 by omega)
    | ⟨1, _⟩ => rfl
  refine ⟨⟨(i 0).val / 2048, hN⟩, flush3 m hO _, ?_⟩
  have q := (((cfgM m hO).win 3).blk ⟨(i 0).val / 2048, hN⟩).view.emb_mem_set (ix2 (⟨(i 0).val % 2048, Nat.mod_lt _ (by decide)⟩ : Fin 2048) (⟨(i 1).val, (i 1).isLt⟩ : Fin 128))
  exact (congrArg (· ∈ (((cfgM m hO).win 3).blk ⟨(i 0).val / 2048, hN⟩).view.set) (e.trans hi.symm)).mp q

theorem flushed3 (L : Lawful m) (hO : Ok m) (c : Dev nD) (t : Fin (cfgM m hO).N) :
    (dats m hO 0 c).flushed 3 t = (((cfgM m hO).win 3).blk t).view.read (Elt Ideal) (refV m c) := by
  refine funext fun (y : S2048x128.Idx) => ?_
  have hy : y = ix2 (⟨(y 0).val, (y 0).isLt⟩ : Fin 2048) (⟨(y 1).val, (y 1).isLt⟩ : Fin 128) := by
    funext x
    match x with
    | ⟨0, _⟩ => rfl
    | ⟨1, _⟩ => rfl
  rw [hy]
  refine (congrFun (after3 m hO c t) (ix2 _ _)).trans ?_
  exact (outV_at m L hO c t _ _).trans (congrArg (refV m c) (emb3 m hO t _ _).symm)

theorem arr_eq (L : Lawful m) (hO : Ok m) (c : Dev nD) : (dats m hO 0 c).arrAt 3 (cfgM m hO).N = refV m c :=
  (dats m hO 0 c).arrAt_eq_of_cover 3 (refV m c) (fun t _ => flushed3 m L hO c t) (fun i => cover3 m hO i)

/-- Kernel and reference at `Ideal` end with equal results. -/
theorem algebraic : Cert.algebraic_KernelIdeal_ReferenceIdeal := fun m g m' g' h ha => by
  have L := lawful_of_pre m h
  refine ⟨refV m, ?_, ?_⟩
  · refine (θ_run _ _ _).mono (fun r q c => ?_) (value m g L (ok_of_law m L))
    exact ⟨(q.1 c).1.trans (arr_eq m L (ok_of_law m L) c), (q.1 c).2⟩
  · refine (θ_run _ _ _).mono (fun r q c => ⟨(q c).1.trans ?_, (q c).2⟩) (Cert.ReferenceIdeal.Value.run m' g')
    obtain ⟨e0, e1, -, -, e4, e5, e6, e7, e8⟩ := ha c
    refine (Cert.ReferenceIdeal.Exp.out_eq m' c).trans ?_
    rw [e0, e1, e4, e5, e6, e7, e8]
    rfl

end Cert.KernelIdeal.Exp

end
-- ==== Proof.Inp.Spec.lean ====
/-
  The input projection's rows, element by element: the normed row, its products, the rotation of a head's
  first sixteen lanes.
-/
module

public import proofs.«01_k».proof.Proof.Gen.Kernel2Ideal.Skeleton
public import Idealize.ShloMosaic.Lib.Pointwise

@[expose] public section

set_option maxRecDepth 16384

noncomputable section

namespace Cert.Inp

open Idealize.ShloMosaic

/-- One element of the normed row. -/
def nrm (x g : Fin 1024 → EReal) (k : Fin 1024) : EReal :=
  x k * Ideal.rsqrt (Ideal.div (∑ i, x i * x i) (Ideal.ofBits FTy.f32 1149239296#32) + Ideal.ofBits FTy.f32 897988541#32) * g k

/-- The normed row's product with one column. -/
def prj (x g w : Fin 1024 → EReal) : EReal := ∑ k, nrm x g k * w k

/-- A lane of a head after the rotation, `P` the products' row. -/
def rope (P : Fin 2632 → EReal) (co si : Fin 8 → EReal) (j : Fin 2112) : EReal :=
  if h : j.val % 64 < 8 then P ⟨j.val, by omega⟩ * co ⟨j.val % 64, h⟩ - P ⟨j.val + 8, by omega⟩ * si ⟨j.val % 64, h⟩
  else if h' : j.val % 64 < 16 then P ⟨j.val, by omega⟩ * co ⟨j.val % 64 - 8, by omega⟩ + P ⟨j.val - 8, by omega⟩ * si ⟨j.val % 64 - 8, by omega⟩
  else P ⟨j.val, by omega⟩

/-- The three lane tables. -/
def tabC (co : Fin 8 → EReal) (l : Fin 128) : EReal :=
  if h : l.val % 64 < 8 then co ⟨l.val % 64, h⟩ else if h' : l.val % 64 < 16 then co ⟨l.val % 64 - 8, by omega⟩ else 1
def tabA (si : Fin 8 → EReal) (l : Fin 128) : EReal := if h : l.val % 64 < 8 then -si ⟨l.val % 64, h⟩ else 0
def tabB (si : Fin 8 → EReal) (l : Fin 128) : EReal :=
  if h : l.val % 64 < 8 then 0 else if h' : l.val % 64 < 16 then si ⟨l.val % 64 - 8, by omega⟩ else 0

/-- Rotated lanes through the tables are the rotation. -/
theorem rope_tab (P : Fin 2632 → EReal) (co si : Fin 8 → EReal) (j : Fin 2112) (l : Fin 128) (y y8 y120 : EReal)
    (hl : j.val % 64 = l.val % 64) (h0 : y = P ⟨j.val, by omega⟩) (h8 : ∀ h : j.val % 64 < 8, y8 = P ⟨j.val + 8, by omega⟩)
    (h120 : ∀ h : 8 ≤ j.val % 64, y120 = P ⟨j.val - 8, by omega⟩) :
    y * tabC co l + y8 * tabA si l + y120 * tabB si l = rope P co si j := by
  unfold tabC tabA tabB rope
  simp only [hl]
  by_cases h : l.val % 64 < 8
  · simp only [dif_pos h]
    rw [h0, h8 (by omega), mul_zero, add_zero, mul_neg, sub_eq_add_neg]
  · simp only [dif_neg h]
    by_cases h' : l.val % 64 < 16
    · simp only [dif_pos h']
      rw [h0, h120 (by omega), mul_zero, add_zero]
    · simp only [dif_neg h']
      rw [h0, mul_zero, mul_zero, add_zero, add_zero, mul_one]

/-- A head's rotation as the reference concatenates it, in rows of 512. -/
def ropeY512 (Y : Fin 512 → EReal) (co si : Fin 8 → EReal) (j : Fin 512) : EReal :=
  if h : j.val % 64 < 8 then Y j * co ⟨j.val % 64, h⟩ - Y ⟨j.val / 64 * 64 + (8 + j.val % 64), by omega⟩ * si ⟨j.val % 64, h⟩
  else if h' : j.val % 64 - 8 < 8 then
    Y ⟨j.val / 64 * 64 + (8 + (j.val % 64 - 8)), by omega⟩ * co ⟨j.val % 64 - 8, h'⟩ + Y ⟨j.val / 64 * 64 + (j.val % 64 - 8), by omega⟩ * si ⟨j.val % 64 - 8, h'⟩
  else Y ⟨j.val / 64 * 64 + (16 + (j.val % 64 - 8 - 8)), by omega⟩

theorem ropeY512_eq (P : Fin 2632 → EReal) (co si : Fin 8 → EReal) (o : ℕ) (ho : o + 512 ≤ 2112) (hm : o % 64 = 0) (j : Fin 512) :
    ropeY512 (fun j => P ⟨o + j.val, by omega⟩) co si j = rope P co si ⟨o + j.val, by omega⟩ := by
  have hj : (o + j.val) % 64 = j.val % 64 := by omega
  unfold ropeY512 rope
  simp only [hj]
  by_cases h : j.val % 64 < 8
  · rw [dif_pos h, dif_pos h]
    have e : (⟨o + (j.val / 64 * 64 + (8 + j.val % 64)), by omega⟩ : Fin 2632) = ⟨o + j.val + 8, by omega⟩ := Fin.ext (by show o + (j.val / 64 * 64 + (8 + j.val % 64)) = o + j.val + 8; omega)
    rw [e]
  · rw [dif_neg h, dif_neg h]
    by_cases h' : j.val % 64 < 16
    · rw [dif_pos (show j.val % 64 - 8 < 8 by omega), dif_pos h']
      have e : (⟨o + (j.val / 64 * 64 + (8 + (j.val % 64 - 8))), by omega⟩ : Fin 2632) = ⟨o + j.val, by omega⟩ := Fin.ext (by show o + (j.val / 64 * 64 + (8 + (j.val % 64 - 8))) = o + j.val; omega)
      have e' : (⟨o + (j.val / 64 * 64 + (j.val % 64 - 8)), by omega⟩ : Fin 2632) = ⟨o + j.val - 8, by omega⟩ := Fin.ext (by show o + (j.val / 64 * 64 + (j.val % 64 - 8)) = o + j.val - 8; omega)
      rw [e, e']
    · rw [dif_neg (show ¬ j.val % 64 - 8 < 8 by omega), dif_neg h']
      exact congrArg P (Fin.ext (by show o + (j.val / 64 * 64 + (16 + (j.val % 64 - 8 - 8))) = o + j.val; omega))

/-- A head's rotation as the reference concatenates it, in rows of 64. -/
def ropeY64 (Y : Fin 64 → EReal) (co si : Fin 8 → EReal) (j : Fin 64) : EReal :=
  if h : j.val < 8 then Y j * co ⟨j.val, h⟩ - Y ⟨(8 + j.val), by omega⟩ * si ⟨j.val, h⟩
  else if h' : j.val - 8 < 8 then
    Y ⟨(8 + (j.val - 8)), by omega⟩ * co ⟨j.val - 8, h'⟩ + Y ⟨(j.val - 8), by omega⟩ * si ⟨j.val - 8, h'⟩
  else Y ⟨(16 + (j.val - 8 - 8)), by omega⟩

theorem ropeY64_eq (P : Fin 2632 → EReal) (co si : Fin 8 → EReal) (o : ℕ) (ho : o + 64 ≤ 2112) (hm : o % 64 = 0) (j : Fin 64) :
    ropeY64 (fun j => P ⟨o + j.val, by omega⟩) co si j = rope P co si ⟨o + j.val, by omega⟩ := by
  have hj : (o + j.val) % 64 = j.val := by omega
  unfold ropeY64 rope
  simp only [hj]
  by_cases h : j.val < 8
  · rw [dif_pos h, dif_pos h]
    have e : (⟨o + ((8 + j.val)), by omega⟩ : Fin 2632) = ⟨o + j.val + 8, by omega⟩ := Fin.ext (by show o + ((8 + j.val)) = o + j.val + 8; omega)
    rw [e]
  · rw [dif_neg h, dif_neg h]
    by_cases h' : j.val < 16
    · rw [dif_pos (show j.val - 8 < 8 by omega), dif_pos h']
      have e : (⟨o + ((8 + (j.val - 8))), by omega⟩ : Fin 2632) = ⟨o + j.val, by omega⟩ := Fin.ext (by show o + ((8 + (j.val - 8))) = o + j.val; omega)
      have e' : (⟨o + ((j.val - 8)), by omega⟩ : Fin 2632) = ⟨o + j.val - 8, by omega⟩ := Fin.ext (by show o + ((j.val - 8)) = o + j.val - 8; omega)
      rw [e, e']
    · rw [dif_neg (show ¬ j.val - 8 < 8 by omega), dif_neg h']
      exact congrArg P (Fin.ext (by show o + ((16 + (j.val - 8 - 8))) = o + j.val; omega))

end Cert.Inp

end
-- ==== Proof.Inp.Tile.lean ====
/-
  The kernel's stored values at `Ideal`, element by element.
-/
module

public import proofs.«01_k».proof.Proof.Inp.Spec

@[expose] public section

set_option maxRecDepth 16384
set_option maxHeartbeats 1600000

noncomputable section

namespace Cert.Inp

open Idealize.ShloMosaic Idealize.ShloMosaic.TcCoe
open Cert.Kernel2Ideal Cert.Kernel2Ideal.Gen

/-- Rotated lanes of a group of 128, at lane `l` of the group at `o`. -/
def rotv (f : Fin 2048 → EReal) (c a b : Fin 128 → EReal) (o : Fin 1921) (l : Fin 128) : EReal :=
  f ⟨o.val + l.val, by omega⟩ * c l + f ⟨o.val + (l.val + 128 - 120) % 128, by omega⟩ * a l
    + f ⟨o.val + (l.val + 128 - 8) % 128, by omega⟩ * b l

theorem rotv_congr (f : Fin 2048 → EReal) (c a b : Fin 128 → EReal) {o o' : Fin 1921} {l l' : Fin 128} (ho : o.val = o'.val) (hl : l.val = l'.val) :
    rotv f c a b o l = rotv f c a b o' l' := by rw [Fin.ext ho, Fin.ext hl]

variable (x0 : Vec Ideal S512x1024 .f32) (x1 : Vec Ideal S1x1024 .f32) (x2 : Vec Ideal S1024x2048 .bf16)
  (x3 : Vec Ideal S1024x128 .bf16) (x4 : Vec Ideal S1024x512 .bf16) (c a b : Vec Ideal S512x128 .f32) (M : FVec Ideal S512x2048 .f32)

/-- A row of the block's products. -/
def mrow (r : Fin 512) (j : Fin 2048) : EReal := prj (fun k => x0 (ix2 r k)) (fun k => x1 (ix2 0 k)) (fun k => x2 (ix2 k j))

theorem pay4_at (r : Fin 512) (k : Fin 1024) :
    (k0_pay4 x0 x1 (ix2 r k) : EReal) = nrm (fun k => x0 (ix2 r k)) (fun k => x1 (ix2 0 k)) k := by
  pointwise [k0_pay4, nrm]

theorem pay8_at (r : Fin 512) (j : Fin 2048) : (k0_pay8 x0 x1 x2 (ix2 r j) : EReal) = mrow x0 x1 x2 r j := by
  pointwise [k0_pay8, k0_pay4, mrow, prj, nrm]

theorem pay5_eq : k0_pay5 (F := Ideal) c = c := by
  funext y; obtain ⟨r, l, rfl⟩ : ∃ (r : Fin 512) (l : Fin 128), y = ix2 r l := ⟨y 0, y 1, by funext a; match a with | ⟨0, _⟩ => rfl | ⟨1, _⟩ => rfl⟩
  pointwise [k0_pay5]
theorem pay6_eq : k0_pay6 (F := Ideal) c = c := pay5_eq c
theorem pay7_eq : k0_pay7 (F := Ideal) c = c := pay5_eq c

theorem pay10_at (r : Fin 512) (l : Fin 128) : (k0_pay10 (F := Ideal) c a b M (ix2 r l) : EReal) =
    rotv (fun j => M (ix2 r j)) (fun l => c (ix2 r l)) (fun l => a (ix2 r l)) (fun l => b (ix2 r l)) ⟨128, by decide⟩ l * Ideal.ofBits FTy.f32 1043900987#32 := by
  pointwise [k0_pay10, rotv]

theorem pay11_at (r : Fin 512) (l : Fin 128) : (k0_pay11 (F := Ideal) c a b M (ix2 r l) : EReal) =
    rotv (fun j => M (ix2 r j)) (fun l => c (ix2 r l)) (fun l => a (ix2 r l)) (fun l => b (ix2 r l)) ⟨256, by decide⟩ l * Ideal.ofBits FTy.f32 1043900987#32 := by
  pointwise [k0_pay11, rotv]

theorem pay12_at (r : Fin 512) (l : Fin 128) : (k0_pay12 (F := Ideal) c a b M (ix2 r l) : EReal) =
    rotv (fun j => M (ix2 r j)) (fun l => c (ix2 r l)) (fun l => a (ix2 r l)) (fun l => b (ix2 r l)) ⟨384, by decide⟩ l * Ideal.ofBits FTy.f32 1043900987#32 := by
  pointwise [k0_pay12, rotv]

theorem pay9_at (r : Fin 512) (l : Fin 128) : (k0_pay9 (F := Ideal) x0 x1 c a b x2 (ix2 r l) : EReal) =
    rotv (fun j => k0_pay8 (F := Ideal) x0 x1 x2 (ix2 r j)) (fun l => c (ix2 r l)) (fun l => a (ix2 r l)) (fun l => b (ix2 r l)) ⟨0, by decide⟩ l * Ideal.ofBits FTy.f32 1043900987#32 := by
  unfold k0_pay9
  rw [pay5_eq, pay6_eq, pay7_eq]
  generalize k0_pay8 (F := Ideal) x0 x1 x2 = M
  pointwise [rotv]
theorem pay16_at (r : Fin 512) (l : Fin 128) : (k0_pay16 (F := Ideal) c a b M (ix2 r l) : EReal) =
    rotv (fun j => M (ix2 r j)) (fun l => c (ix2 r l)) (fun l => a (ix2 r l)) (fun l => b (ix2 r l)) ⟨640, by decide⟩ l := by
  pointwise [k0_pay16, rotv]

theorem pay17_at (r : Fin 512) (l : Fin 128) : (k0_pay17 (F := Ideal) c a b M (ix2 r l) : EReal) =
    rotv (fun j => M (ix2 r j)) (fun l => c (ix2 r l)) (fun l => a (ix2 r l)) (fun l => b (ix2 r l)) ⟨768, by decide⟩ l := by
  pointwise [k0_pay17, rotv]

theorem pay18_at (r : Fin 512) (l : Fin 128) : (k0_pay18 (F := Ideal) c a b M (ix2 r l) : EReal) =
    rotv (fun j => M (ix2 r j)) (fun l => c (ix2 r l)) (fun l => a (ix2 r l)) (fun l => b (ix2 r l)) ⟨896, by decide⟩ l := by
  pointwise [k0_pay18, rotv]

theorem pay28_at (r : Fin 512) (l : Fin 128) : (k0_pay28 (F := Ideal) c a b M (ix2 r l) : EReal) =
    rotv (fun j => M (ix2 r j)) (fun l => c (ix2 r l)) (fun l => a (ix2 r l)) (fun l => b (ix2 r l)) ⟨1536, by decide⟩ l * Ideal.ofBits FTy.f32 1040187392#32 := by
  pointwise [k0_pay28, rotv]

theorem pay29_at (r : Fin 512) (l : Fin 128) : (k0_pay29 (F := Ideal) c a b M (ix2 r l) : EReal) =
    rotv (fun j => M (ix2 r j)) (fun l => c (ix2 r l)) (fun l => a (ix2 r l)) (fun l => b (ix2 r l)) ⟨1664, by decide⟩ l * Ideal.ofBits FTy.f32 1040187392#32 := by
  pointwise [k0_pay29, rotv]

theorem pay30_at (r : Fin 512) (l : Fin 128) : (k0_pay30 (F := Ideal) c a b M (ix2 r l) : EReal) =
    rotv (fun j => M (ix2 r j)) (fun l => c (ix2 r l)) (fun l => a (ix2 r l)) (fun l => b (ix2 r l)) ⟨1792, by decide⟩ l * Ideal.ofBits FTy.f32 1040187392#32 := by
  pointwise [k0_pay30, rotv]

theorem pay31_at (r : Fin 512) (l : Fin 128) : (k0_pay31 (F := Ideal) c a b M (ix2 r l) : EReal) =
    rotv (fun j => M (ix2 r j)) (fun l => c (ix2 r l)) (fun l => a (ix2 r l)) (fun l => b (ix2 r l)) ⟨1920, by decide⟩ l * Ideal.ofBits FTy.f32 1040187392#32 := by
  pointwise [k0_pay31, rotv]

theorem pay15_at (r : Fin 512) (l : Fin 128) : (k0_pay15 (F := Ideal) b (k0_pay13 M) (k0_pay14 c a M) (ix2 r l) : EReal) =
    rotv (fun j => M (ix2 r j)) (fun l => c (ix2 r l)) (fun l => a (ix2 r l)) (fun l => b (ix2 r l)) ⟨512, by decide⟩ l := by
  pointwise [k0_pay13, k0_pay14, k0_pay15, rotv]

theorem pay20_at (r : Fin 512) (l : Fin 128) : (k0_pay20 (F := Ideal) (k0_pay19 M) (ix3 0 l r) : EReal) = M (ix2 r ⟨1024 + l.val, by omega⟩) := by
  pointwise [k0_pay20, k0_pay19]

theorem pay22_at (r : Fin 512) (l : Fin 128) : (k0_pay22 (F := Ideal) M (ix3 0 l r) : EReal) = M (ix2 r ⟨1152 + l.val, by omega⟩) := by
  pointwise [k0_pay22]

theorem pay24_at (r : Fin 512) (l : Fin 128) : (k0_pay24 (F := Ideal) M (ix3 0 l r) : EReal) = M (ix2 r ⟨1280 + l.val, by omega⟩) := by
  pointwise [k0_pay24]

theorem pay26_at (r : Fin 512) (l : Fin 128) : (k0_pay26 (F := Ideal) M (ix3 0 l r) : EReal) = M (ix2 r ⟨1408 + l.val, by omega⟩) := by
  pointwise [k0_pay26]

theorem pay21_at (r : Fin 512) (l : Fin 16) : (k0_pay21 (F := Ideal) (ix3 0 l r) : EReal) = Ideal.ofBits FTy.bf16 16256#16 := by
  pointwise [k0_pay21]

theorem pay23_at (r : Fin 512) (l : Fin 16) : (k0_pay23 (F := Ideal) (ix3 0 l r) : EReal) = Ideal.ofBits FTy.bf16 16256#16 := by
  pointwise [k0_pay23]

theorem pay25_at (r : Fin 512) (l : Fin 16) : (k0_pay25 (F := Ideal) (ix3 0 l r) : EReal) = Ideal.ofBits FTy.bf16 16256#16 := by
  pointwise [k0_pay25]

theorem pay27_at (r : Fin 512) (l : Fin 16) : (k0_pay27 (F := Ideal) (ix3 0 l r) : EReal) = Ideal.ofBits FTy.bf16 16256#16 := by
  pointwise [k0_pay27]

variable (xn : FVec Ideal S512x1024 .bf16)

/-- The lanes of the shared key: products with the padded columns. -/
def irow (r : Fin 512) (l : Fin 128) : EReal := ∑ k, xn (ix2 r k) * x3 (ix2 k l)

/-- The same lanes rotated. -/
def irot (r : Fin 512) (l : Fin 128) : EReal :=
  irow x3 xn r l * c (ix2 r l) + irow x3 xn r ⟨(l.val + 128 - 120) % 128, by omega⟩ * a (ix2 r l)
    + irow x3 xn r ⟨(l.val + 128 - 8) % 128, by omega⟩ * b (ix2 r l)

theorem slt64 (l : ℕ) (h : l < 128) : IntOp.cmpi CmpIPredicate.slt (BitVec.ofNat 32 l) 64#32 = if l < 64 then 1#1 else 0#1 := by
  have : ∀ l : Fin 128, IntOp.cmpi CmpIPredicate.slt (BitVec.ofNat 32 l.val) 64#32 = if l.val < 64 then 1#1 else 0#1 := by decide
  exact this ⟨l, h⟩

theorem sel64 (l : ℕ) (h : l < 128) (x y : EReal) :
    Scalar.select (IntOp.cmpi CmpIPredicate.slt (BitVec.ofNat 32 l) 64#32) x y = if l < 64 then x else y := by
  rw [slt64 l h]
  by_cases q : l < 64
  · rw [if_pos q, if_pos q]; rfl
  · rw [if_neg q, if_neg q]; rfl

theorem pay34_at (r : Fin 512) (l : Fin 128) : (k0_pay34 (F := Ideal) xn c a b x3 (ix2 r l) : EReal) = if l.val < 64 then irot x3 c a b xn r l else 0 := by
  refine Eq.trans ?_ (sel64 l.val l.isLt _ _)
  pointwise [k0_pay34, k0_pay33, k0_pay32, irot, irow]

theorem pay35_at (r : Fin 512) (l : Fin 128) : (k0_pay35 (F := Ideal) xn c a b x3 (ix2 r l) : EReal) =
    if (l.val + 128 - 64) % 128 < 64 then irot x3 c a b xn r ⟨(l.val + 128 - 64) % 128, by omega⟩ else 0 := by
  refine Eq.trans ?_ (sel64 ((l.val + 128 - 64) % 128) (by omega) _ _)
  pointwise [k0_pay35, k0_pay33, k0_pay32, irot, irow]

theorem pay36_at (r : Fin 512) (l : Fin 128) : (k0_pay36 (F := Ideal) xn x3 (ix2 r l) : EReal) = irow x3 xn r l * Ideal.ofBits FTy.f32 1052050675#32 := by
  pointwise [k0_pay36, k0_pay32, irow]

theorem pay2_at (r : Fin 512) (l : Fin 256) : (k0_pay2 (F := Ideal) xn x4 (ix2 r l) : EReal) = ∑ k, xn (ix2 r k) * x4 (ix2 k ⟨l.val, by omega⟩) := by
  pointwise [k0_pay2, k0_pay1]

theorem pay3_at (r : Fin 512) (l : Fin 256) : (k0_pay3 (F := Ideal) xn x4 (ix2 r l) : EReal) =
    (∑ k, xn (ix2 r k) * x4 (ix2 k ⟨256 + l.val, by omega⟩)) * Ideal.ofBits FTy.f32 1040187392#32 := by
  pointwise [k0_pay3, k0_pay1]

end Cert.Inp

end
-- ==== Proof.Inp.Outs.lean ====
/-
  What a grid point leaves in each output's block, element by element.
-/
module

public import proofs.«01_k».proof.Proof.Gen.Kernel2Ideal.Frame
public import proofs.«01_k».proof.Proof.Inp.Tile
public import Idealize.ShloMosaic.Lib.VecWindow

@[expose] public section

set_option maxRecDepth 16384
set_option maxHeartbeats 1600000

noncomputable section

namespace Cert.Inp

open Idealize.ShloMosaic Idealize.ShloMosaic.TcCoe
open Cert.Kernel2Ideal Cert.Kernel2Ideal.Gen

theorem ix2_eta {A B : ℕ} (y : (⟨2, ![A, B]⟩ : Shape).Idx) : y = ix2 (⟨(y 0).val, (y 0).isLt⟩ : Fin A) (⟨(y 1).val, (y 1).isLt⟩ : Fin B) := by
  funext a
  match a with
  | ⟨0, _⟩ => rfl
  | ⟨1, _⟩ => rfl

theorem ix3_eta {A B C : ℕ} (y : (⟨3, ![A, B, C]⟩ : Shape).Idx) :
    y = ix3 (⟨(y 0).val, (y 0).isLt⟩ : Fin A) (⟨(y 1).val, (y 1).isLt⟩ : Fin B) (⟨(y 2).val, (y 2).isLt⟩ : Fin C) := by
  funext a
  match a with
  | ⟨0, _⟩ => rfl
  | ⟨1, _⟩ => rfl
  | ⟨2, _⟩ => rfl

/-- A load of a whole buffer's contents. -/
theorem ld_full {s : Shape} {e : EltTy} (mr : Memref sig .tc .vmem s e) (h : mr.IsWhole) (x : Vec Ideal s e) {off : Fin s.rank → ℕ}
    (inb : ∀ k, off k + s.size k ≤ s.size k) :
    View.readAt (Elt Ideal) mr.view (Rect.unit off s.size inb).toLoadRect (h.unread x) = x :=
  (View.readAt_full mr.view _ inb).trans (h.read_unread x)

/-- Four stores of 128 lanes, each agreeing with one function of the block. -/
theorem four_at {sp : Space} (v : View sig .tc sp S512x512 .bf16) (f : v.ty.Contents (Elt Ideal)) (w0 w1 w2 w3 : S512x128.Idx → EReal) (G : S512x512.Idx → EReal) (i0 i1 i2 i3)
    (h3 : ∀ (r : Fin 512) (l : Fin 128), w3 (ix2 r l) = G (ix2 r ⟨384 + l.val, by omega⟩))
    (h2 : ∀ (r : Fin 512) (l : Fin 128), w2 (ix2 r l) = G (ix2 r ⟨256 + l.val, by omega⟩))
    (h1 : ∀ (r : Fin 512) (l : Fin 128), w1 (ix2 r l) = G (ix2 r ⟨128 + l.val, by omega⟩))
    (h0 : ∀ (r : Fin 512) (l : Fin 128), w0 (ix2 r l) = G (ix2 r ⟨0 + l.val, by omega⟩))
    (y : S512x512.Idx) (hy : ∃ p ∈ ([⟨Rect.unit ![0, 384] ![512, 128] i3, w3⟩, ⟨Rect.unit ![0, 256] ![512, 128] i2, w2⟩, ⟨Rect.unit ![0, 128] ![512, 128] i1, w1⟩, ⟨Rect.unit ![0, 0] ![512, 128] i0, w0⟩] : List (View.Piece (Elt Ideal) S512x512 .bf16)), y ∈ p.1.set) :
    v.read (Elt Ideal) (v.writes (Elt Ideal) f [⟨Rect.unit ![0, 384] ![512, 128] i3, w3⟩, ⟨Rect.unit ![0, 256] ![512, 128] i2, w2⟩, ⟨Rect.unit ![0, 128] ![512, 128] i1, w1⟩, ⟨Rect.unit ![0, 0] ![512, 128] i0, w0⟩]) y = G y := by
  refine View.read_writes_apply_of_pieces (Val := Elt Ideal) v f G _ ?_ y hy
  have e : ∀ (o : ℕ) (ho : o + 128 ≤ 512) (i : ∀ k, (![0, o] : Fin 2 → ℕ) k + (![512, 128] : Fin 2 → ℕ) k ≤ S512x512.size k) (r : Fin 512) (l : Fin 128),
      (Rect.unit (s := S512x512) ![0, o] ![512, 128] i).emb (ix2 r l) = ix2 r ⟨o + l.val, by omega⟩ := fun o ho i r l => by
    refine funext fun k => Fin.ext ?_
    match k with
    | ⟨0, _⟩ => exact (show 0 + 1 * r.val = r.val by omega)
    | ⟨1, _⟩ => exact (show o + 1 * l.val = o + l.val by omega)
  intro p hp
  rcases List.mem_cons.mp hp with rfl | hp
  · intro (x : S512x128.Idx)
    obtain ⟨r, l, rfl⟩ : ∃ (r : Fin 512) (l : Fin 128), x = ix2 r l := ⟨_, _, ix2_eta x⟩
    exact (h3 r l).trans (congrArg G (e 384 (by decide) i3 r l).symm)
  rcases List.mem_cons.mp hp with rfl | hp
  · intro (x : S512x128.Idx)
    obtain ⟨r, l, rfl⟩ : ∃ (r : Fin 512) (l : Fin 128), x = ix2 r l := ⟨_, _, ix2_eta x⟩
    exact (h2 r l).trans (congrArg G (e 256 (by decide) i2 r l).symm)
  rcases List.mem_cons.mp hp with rfl | hp
  · intro (x : S512x128.Idx)
    obtain ⟨r, l, rfl⟩ : ∃ (r : Fin 512) (l : Fin 128), x = ix2 r l := ⟨_, _, ix2_eta x⟩
    exact (h1 r l).trans (congrArg G (e 128 (by decide) i1 r l).symm)
  rcases List.mem_cons.mp hp with rfl | hp
  · intro (x : S512x128.Idx)
    obtain ⟨r, l, rfl⟩ : ∃ (r : Fin 512) (l : Fin 128), x = ix2 r l := ⟨_, _, ix2_eta x⟩
    exact (h0 r l).trans (congrArg G (e 0 (by decide) i0 r l).symm)
  exact absurd hp List.not_mem_nil

/-- Eight stores of rows, each agreeing with one function of the block. -/
theorem eight_at {sp : Space} (v : View sig .tc sp S1x576x512 .bf16) (f : v.ty.Contents (Elt Ideal)) (w0 w2 w4 w6 : S1x128x512.Idx → EReal) (w1 w3 w5 w7 : S1x16x512.Idx → EReal)
    (G : S1x576x512.Idx → EReal) (i0 i1 i2 i3 i4 i5 i6 i7)
    (h7 : ∀ (r : Fin 512) (l : Fin 16), w7 (ix3 0 l r) = G (ix3 0 ⟨560 + l.val, by omega⟩ r))
    (h6 : ∀ (r : Fin 512) (l : Fin 128), w6 (ix3 0 l r) = G (ix3 0 ⟨432 + l.val, by omega⟩ r))
    (h5 : ∀ (r : Fin 512) (l : Fin 16), w5 (ix3 0 l r) = G (ix3 0 ⟨416 + l.val, by omega⟩ r))
    (h4 : ∀ (r : Fin 512) (l : Fin 128), w4 (ix3 0 l r) = G (ix3 0 ⟨288 + l.val, by omega⟩ r))
    (h3 : ∀ (r : Fin 512) (l : Fin 16), w3 (ix3 0 l r) = G (ix3 0 ⟨272 + l.val, by omega⟩ r))
    (h2 : ∀ (r : Fin 512) (l : Fin 128), w2 (ix3 0 l r) = G (ix3 0 ⟨144 + l.val, by omega⟩ r))
    (h1 : ∀ (r : Fin 512) (l : Fin 16), w1 (ix3 0 l r) = G (ix3 0 ⟨128 + l.val, by omega⟩ r))
    (h0 : ∀ (r : Fin 512) (l : Fin 128), w0 (ix3 0 l r) = G (ix3 0 ⟨0 + l.val, by omega⟩ r))
    (y : S1x576x512.Idx) (hy : ∃ p ∈ ([⟨Rect.unit ![0, 560, 0] ![1, 16, 512] i7, w7⟩, ⟨Rect.unit ![0, 432, 0] ![1, 128, 512] i6, w6⟩, ⟨Rect.unit ![0, 416, 0] ![1, 16, 512] i5, w5⟩, ⟨Rect.unit ![0, 288, 0] ![1, 128, 512] i4, w4⟩, ⟨Rect.unit ![0, 272, 0] ![1, 16, 512] i3, w3⟩, ⟨Rect.unit ![0, 144, 0] ![1, 128, 512] i2, w2⟩, ⟨Rect.unit ![0, 128, 0] ![1, 16, 512] i1, w1⟩, ⟨Rect.unit ![0, 0, 0] ![1, 128, 512] i0, w0⟩] : List (View.Piece (Elt Ideal) S1x576x512 .bf16)), y ∈ p.1.set) :
    v.read (Elt Ideal) (v.writes (Elt Ideal) f [⟨Rect.unit ![0, 560, 0] ![1, 16, 512] i7, w7⟩, ⟨Rect.unit ![0, 432, 0] ![1, 128, 512] i6, w6⟩, ⟨Rect.unit ![0, 416, 0] ![1, 16, 512] i5, w5⟩, ⟨Rect.unit ![0, 288, 0] ![1, 128, 512] i4, w4⟩, ⟨Rect.unit ![0, 272, 0] ![1, 16, 512] i3, w3⟩, ⟨Rect.unit ![0, 144, 0] ![1, 128, 512] i2, w2⟩, ⟨Rect.unit ![0, 128, 0] ![1, 16, 512] i1, w1⟩, ⟨Rect.unit ![0, 0, 0] ![1, 128, 512] i0, w0⟩]) y = G y := by
  refine View.read_writes_apply_of_pieces (Val := Elt Ideal) v f G _ ?_ y hy
  have e : ∀ (o z : ℕ) (ho : o + z ≤ 576) (i : ∀ k, (![0, o, 0] : Fin 3 → ℕ) k + (![1, z, 512] : Fin 3 → ℕ) k ≤ S1x576x512.size k) (q : Fin 1) (l : Fin z) (r : Fin 512),
      (Rect.unit (s := S1x576x512) ![0, o, 0] ![1, z, 512] i).emb (ix3 q l r) = ix3 0 ⟨o + l.val, by omega⟩ r := fun o z ho i q l r => by
    refine funext fun k => Fin.ext ?_
    match k with
    | ⟨0, _⟩ => exact (show 0 + 1 * q.val = 0 by omega)
    | ⟨1, _⟩ => exact (show o + 1 * l.val = o + l.val by omega)
    | ⟨2, _⟩ => exact (show 0 + 1 * r.val = r.val by omega)
  intro p hp
  rcases List.mem_cons.mp hp with rfl | hp
  · intro (x : S1x16x512.Idx)
    obtain ⟨l, r, rfl⟩ : ∃ (l : Fin 16) (r : Fin 512), x = ix3 0 l r := ⟨_, _, (ix3_eta x).trans (congrArg (fun q : Fin 1 => ix3 q _ _) (Subsingleton.elim _ _))⟩
    exact (h7 r l).trans (congrArg G (e 560 16 (by decide) i7 0 l r).symm)
  rcases List.mem_cons.mp hp with rfl | hp
  · intro (x : S1x128x512.Idx)
    obtain ⟨l, r, rfl⟩ : ∃ (l : Fin 128) (r : Fin 512), x = ix3 0 l r := ⟨_, _, (ix3_eta x).trans (congrArg (fun q : Fin 1 => ix3 q _ _) (Subsingleton.elim _ _))⟩
    exact (h6 r l).trans (congrArg G (e 432 128 (by decide) i6 0 l r).symm)
  rcases List.mem_cons.mp hp with rfl | hp
  · intro (x : S1x16x512.Idx)
    obtain ⟨l, r, rfl⟩ : ∃ (l : Fin 16) (r : Fin 512), x = ix3 0 l r := ⟨_, _, (ix3_eta x).trans (congrArg (fun q : Fin 1 => ix3 q _ _) (Subsingleton.elim _ _))⟩
    exact (h5 r l).trans (congrArg G (e 416 16 (by decide) i5 0 l r).symm)
  rcases List.mem_cons.mp hp with rfl | hp
  · intro (x : S1x128x512.Idx)
    obtain ⟨l, r, rfl⟩ : ∃ (l : Fin 128) (r : Fin 512), x = ix3 0 l r := ⟨_, _, (ix3_eta x).trans (congrArg (fun q : Fin 1 => ix3 q _ _) (Subsingleton.elim _ _))⟩
    exact (h4 r l).trans (congrArg G (e 288 128 (by decide) i4 0 l r).symm)
  rcases List.mem_cons.mp hp with rfl | hp
  · intro (x : S1x16x512.Idx)
    obtain ⟨l, r, rfl⟩ : ∃ (l : Fin 16) (r : Fin 512), x = ix3 0 l r := ⟨_, _, (ix3_eta x).trans (congrArg (fun q : Fin 1 => ix3 q _ _) (Subsingleton.elim _ _))⟩
    exact (h3 r l).trans (congrArg G (e 272 16 (by decide) i3 0 l r).symm)
  rcases List.mem_cons.mp hp with rfl | hp
  · intro (x : S1x128x512.Idx)
    obtain ⟨l, r, rfl⟩ : ∃ (l : Fin 128) (r : Fin 512), x = ix3 0 l r := ⟨_, _, (ix3_eta x).trans (congrArg (fun q : Fin 1 => ix3 q _ _) (Subsingleton.elim _ _))⟩
    exact (h2 r l).trans (congrArg G (e 144 128 (by decide) i2 0 l r).symm)
  rcases List.mem_cons.mp hp with rfl | hp
  · intro (x : S1x16x512.Idx)
    obtain ⟨l, r, rfl⟩ : ∃ (l : Fin 16) (r : Fin 512), x = ix3 0 l r := ⟨_, _, (ix3_eta x).trans (congrArg (fun q : Fin 1 => ix3 q _ _) (Subsingleton.elim _ _))⟩
    exact (h1 r l).trans (congrArg G (e 128 16 (by decide) i1 0 l r).symm)
  rcases List.mem_cons.mp hp with rfl | hp
  · intro (x : S1x128x512.Idx)
    obtain ⟨l, r, rfl⟩ : ∃ (l : Fin 128) (r : Fin 512), x = ix3 0 l r := ⟨_, _, (ix3_eta x).trans (congrArg (fun q : Fin 1 => ix3 q _ _) (Subsingleton.elim _ _))⟩
    exact (h0 r l).trans (congrArg G (e 0 128 (by decide) i0 0 l r).symm)
  exact absurd hp List.not_mem_nil

/-- One whole store. -/
theorem one_at {sp : Space} {A B : ℕ} {e : EltTy} (v : View sig .tc sp ⟨2, ![A, B]⟩ e) (f : v.ty.Contents (Elt Ideal)) (w : (⟨2, ![A, B]⟩ : Shape).Idx → Elt Ideal e) (i) :
    v.read (Elt Ideal) (v.writes (Elt Ideal) f [⟨Rect.unit ![0, 0] ![A, B] i, w⟩]) = w := by
  refine funext fun y => ?_
  have q : (Rect.unit (s := ⟨2, ![A, B]⟩) ![0, 0] ![A, B] i).emb y = y := by
    refine funext fun k => Fin.ext ?_
    match k with
    | ⟨0, _⟩ => exact (show 0 + 1 * (y 0).val = (y 0).val by omega)
    | ⟨1, _⟩ => exact (show 0 + 1 * (y 1).val = (y 1).val by omega)
  refine (congrArg (v.read (Elt Ideal) _) q.symm).trans ?_
  exact View.read_writes_cons_emb v f (Rect.unit (s := ⟨2, ![A, B]⟩) ![0, 0] ![A, B] i) w [] y

variable (x0 : Vec Ideal S512x1024 .f32) (x1 : Vec Ideal S1x1024 .f32) (x2 : Vec Ideal S1024x2048 .bf16)
  (x3 : Vec Ideal S1024x128 .bf16) (x4 : Vec Ideal S1024x512 .bf16) (c a b : Vec Ideal S512x128 .f32)

/-- The lane groups at `o`, rotated. -/
def gRot (o : Fin 1537) (r : Fin 512) (j : Fin 512) : EReal :=
  rotv (fun j => k0_pay8 (F := Ideal) x0 x1 x2 (ix2 r j)) (fun l => c (ix2 r l)) (fun l => a (ix2 r l)) (fun l => b (ix2 r l))
    ⟨o.val + j.val / 128 * 128, by omega⟩ ⟨j.val % 128, by omega⟩

/-- The transposed values with their rows of ones. -/
def gVt (h : Fin 576) (r : Fin 512) : EReal :=
  if q : h.val % 144 < 128 then k0_pay8 (F := Ideal) x0 x1 x2 (ix2 r ⟨1024 + h.val / 144 * 128 + h.val % 144, by omega⟩)
  else Ideal.ofBits FTy.bf16 16256#16

theorem gVt_hi (q : Fin 4) (l : Fin 16) (r : Fin 512) : gVt x0 x1 x2 ⟨144 * q.val + 128 + l.val, by omega⟩ r = Ideal.ofBits FTy.bf16 16256#16 :=
  dif_neg (show ¬ (144 * q.val + 128 + l.val) % 144 < 128 by omega)
theorem gVt_lo (q : Fin 4) (l : Fin 128) (r : Fin 512) : gVt x0 x1 x2 ⟨144 * q.val + l.val, by omega⟩ r = k0_pay8 (F := Ideal) x0 x1 x2 (ix2 r ⟨1024 + 128 * q.val + l.val, by omega⟩) :=
  (dif_pos (show (144 * q.val + l.val) % 144 < 128 by omega)).trans
    (congrArg (fun j => k0_pay8 (F := Ideal) x0 x1 x2 (ix2 r j)) (Fin.ext (show 1024 + (144 * q.val + l.val) / 144 * 128 + (144 * q.val + l.val) % 144 = 1024 + 128 * q.val + l.val by omega)))

variable (d : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S1024x128 .bf16) (harg4 : arg4.IsWhole) (arg5 : Memref sig .tc .vmem S1024x512 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x576x512 .bf16) (harg11 : arg11.IsWhole) (arg12 : Memref sig .tc .vmem S512x512 .bf16) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S512x256 .f32) (harg16 : arg16.IsWhole) (arg17 : Memref sig .tc .vmem S512x256 .bf16) (harg17 : arg17.IsWhole)

theorem r_eq : kernelRun0_A.sl.r (F := Ideal) d arg1 harg1 arg2 harg2 x0 x1 = k0_pay4 x0 x1 :=
  congrArg₂ (k0_pay4 (F := Ideal)) (ld_full arg1 harg1 x0 _) (ld_full arg2 harg2 x1 _)
theorem r1_eq : kernelRun0_A.sl.r_1 (F := Ideal) d arg6 harg6 c = c :=
  (congrArg (k0_pay5 (F := Ideal)) (ld_full arg6 harg6 c _)).trans (pay5_eq c)
theorem r2_eq : kernelRun0_A.sl.r_2 (F := Ideal) d arg7 harg7 a = a :=
  (congrArg (k0_pay6 (F := Ideal)) (ld_full arg7 harg7 a _)).trans (pay6_eq a)
theorem r3_eq : kernelRun0_A.sl.r_3 (F := Ideal) d arg8 harg8 b = b :=
  (congrArg (k0_pay7 (F := Ideal)) (ld_full arg8 harg8 b _)).trans (pay7_eq b)
theorem r4_eq : kernelRun0_A.sl.r_4 (F := Ideal) d arg1 harg1 arg2 harg2 arg3 harg3 x0 x1 x2 = k0_pay8 x0 x1 x2 := by
  unfold kernelRun0_A.sl.r_4
  rw [ld_full, ld_full, ld_full]

theorem out8_at (r j : Fin 512) : (out0_A_8 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r j) : EReal) = gRot x0 x1 x2 c a b ⟨0, by decide⟩ r j * Ideal.ofBits FTy.f32 1043900987#32 := by
  have hc := cover0_A_8 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r j)
  unfold out0_A_8
  unfold kernelRun0_A at hc ⊢
  dsimp only at hc ⊢
  refine four_at _ _ _ _ _ _ (fun y => gRot x0 x1 x2 c a b ⟨0, by decide⟩ (y 0) (y 1) * Ideal.ofBits FTy.f32 1043900987#32) _ _ _ _ ?_ ?_ ?_ ?_ _ hc
  · intro r l
    try unfold kernelRun0_A.sl.r_5
    try unfold kernelRun0_A.sl.r_6
    try unfold kernelRun0_A.sl.r_9
    simp only [r1_eq, r2_eq, r3_eq, r4_eq]
    exact (pay12_at c a b (k0_pay8 (F := Ideal) x0 x1 x2) r l).trans (congrArg (·  * Ideal.ofBits FTy.f32 1043900987#32) (rotv_congr _ _ _ _ (show 384 = 0 + (384 + l.val) / 128 * 128 by omega) (show l.val = (384 + l.val) % 128 by omega)))
  · intro r l
    try unfold kernelRun0_A.sl.r_5
    try unfold kernelRun0_A.sl.r_6
    try unfold kernelRun0_A.sl.r_9
    simp only [r1_eq, r2_eq, r3_eq, r4_eq]
    exact (pay11_at c a b (k0_pay8 (F := Ideal) x0 x1 x2) r l).trans (congrArg (·  * Ideal.ofBits FTy.f32 1043900987#32) (rotv_congr _ _ _ _ (show 256 = 0 + (256 + l.val) / 128 * 128 by omega) (show l.val = (256 + l.val) % 128 by omega)))
  · intro r l
    try unfold kernelRun0_A.sl.r_5
    try unfold kernelRun0_A.sl.r_6
    try unfold kernelRun0_A.sl.r_9
    simp only [r1_eq, r2_eq, r3_eq, r4_eq]
    exact (pay10_at c a b (k0_pay8 (F := Ideal) x0 x1 x2) r l).trans (congrArg (·  * Ideal.ofBits FTy.f32 1043900987#32) (rotv_congr _ _ _ _ (show 128 = 0 + (128 + l.val) / 128 * 128 by omega) (show l.val = (128 + l.val) % 128 by omega)))
  · intro r l
    rw [ld_full, ld_full, ld_full, ld_full, ld_full, ld_full]
    exact (pay9_at x0 x1 x2 c a b r l).trans (congrArg (·  * Ideal.ofBits FTy.f32 1043900987#32) (rotv_congr _ _ _ _ (show 0 = 0 + (0 + l.val) / 128 * 128 by omega) (show l.val = (0 + l.val) % 128 by omega)))

theorem out9_at (r j : Fin 512) : (out0_A_9 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r j) : EReal) = gRot x0 x1 x2 c a b ⟨512, by decide⟩ r j := by
  have hc := cover0_A_9 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r j)
  unfold out0_A_9
  unfold kernelRun0_A at hc ⊢
  dsimp only at hc ⊢
  refine four_at _ _ _ _ _ _ (fun y => gRot x0 x1 x2 c a b ⟨512, by decide⟩ (y 0) (y 1)) _ _ _ _ ?_ ?_ ?_ ?_ _ hc
  · intro r l
    try unfold kernelRun0_A.sl.r_5
    try unfold kernelRun0_A.sl.r_6
    try unfold kernelRun0_A.sl.r_9
    simp only [r1_eq, r2_eq, r3_eq, r4_eq]
    exact (pay18_at c a b (k0_pay8 (F := Ideal) x0 x1 x2) r l).trans (rotv_congr _ _ _ _ (show 896 = 512 + (384 + l.val) / 128 * 128 by omega) (show l.val = (384 + l.val) % 128 by omega))
  · intro r l
    try unfold kernelRun0_A.sl.r_5
    try unfold kernelRun0_A.sl.r_6
    try unfold kernelRun0_A.sl.r_9
    simp only [r1_eq, r2_eq, r3_eq, r4_eq]
    exact (pay17_at c a b (k0_pay8 (F := Ideal) x0 x1 x2) r l).trans (rotv_congr _ _ _ _ (show 768 = 512 + (256 + l.val) / 128 * 128 by omega) (show l.val = (256 + l.val) % 128 by omega))
  · intro r l
    try unfold kernelRun0_A.sl.r_5
    try unfold kernelRun0_A.sl.r_6
    try unfold kernelRun0_A.sl.r_9
    simp only [r1_eq, r2_eq, r3_eq, r4_eq]
    exact (pay16_at c a b (k0_pay8 (F := Ideal) x0 x1 x2) r l).trans (rotv_congr _ _ _ _ (show 640 = 512 + (128 + l.val) / 128 * 128 by omega) (show l.val = (128 + l.val) % 128 by omega))
  · intro r l
    try unfold kernelRun0_A.sl.r_5
    try unfold kernelRun0_A.sl.r_6
    try unfold kernelRun0_A.sl.r_9
    simp only [r1_eq, r2_eq, r3_eq, r4_eq]
    exact (pay15_at c a b (k0_pay8 (F := Ideal) x0 x1 x2) r l).trans (rotv_congr _ _ _ _ (show 512 = 512 + (0 + l.val) / 128 * 128 by omega) (show l.val = (0 + l.val) % 128 by omega))

theorem out11_at (r j : Fin 512) : (out0_A_11 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r j) : EReal) = gRot x0 x1 x2 c a b ⟨1536, by decide⟩ r j * Ideal.ofBits FTy.f32 1040187392#32 := by
  have hc := cover0_A_11 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r j)
  unfold out0_A_11
  unfold kernelRun0_A at hc ⊢
  dsimp only at hc ⊢
  refine four_at _ _ _ _ _ _ (fun y => gRot x0 x1 x2 c a b ⟨1536, by decide⟩ (y 0) (y 1) * Ideal.ofBits FTy.f32 1040187392#32) _ _ _ _ ?_ ?_ ?_ ?_ _ hc
  · intro r l
    try unfold kernelRun0_A.sl.r_5
    try unfold kernelRun0_A.sl.r_6
    try unfold kernelRun0_A.sl.r_9
    simp only [r1_eq, r2_eq, r3_eq, r4_eq]
    exact (pay31_at c a b (k0_pay8 (F := Ideal) x0 x1 x2) r l).trans (congrArg (·  * Ideal.ofBits FTy.f32 1040187392#32) (rotv_congr _ _ _ _ (show 1920 = 1536 + (384 + l.val) / 128 * 128 by omega) (show l.val = (384 + l.val) % 128 by omega)))
  · intro r l
    try unfold kernelRun0_A.sl.r_5
    try unfold kernelRun0_A.sl.r_6
    try unfold kernelRun0_A.sl.r_9
    simp only [r1_eq, r2_eq, r3_eq, r4_eq]
    exact (pay30_at c a b (k0_pay8 (F := Ideal) x0 x1 x2) r l).trans (congrArg (·  * Ideal.ofBits FTy.f32 1040187392#32) (rotv_congr _ _ _ _ (show 1792 = 1536 + (256 + l.val) / 128 * 128 by omega) (show l.val = (256 + l.val) % 128 by omega)))
  · intro r l
    try unfold kernelRun0_A.sl.r_5
    try unfold kernelRun0_A.sl.r_6
    try unfold kernelRun0_A.sl.r_9
    simp only [r1_eq, r2_eq, r3_eq, r4_eq]
    exact (pay29_at c a b (k0_pay8 (F := Ideal) x0 x1 x2) r l).trans (congrArg (·  * Ideal.ofBits FTy.f32 1040187392#32) (rotv_congr _ _ _ _ (show 1664 = 1536 + (128 + l.val) / 128 * 128 by omega) (show l.val = (128 + l.val) % 128 by omega)))
  · intro r l
    try unfold kernelRun0_A.sl.r_5
    try unfold kernelRun0_A.sl.r_6
    try unfold kernelRun0_A.sl.r_9
    simp only [r1_eq, r2_eq, r3_eq, r4_eq]
    exact (pay28_at c a b (k0_pay8 (F := Ideal) x0 x1 x2) r l).trans (congrArg (·  * Ideal.ofBits FTy.f32 1040187392#32) (rotv_congr _ _ _ _ (show 1536 = 1536 + (0 + l.val) / 128 * 128 by omega) (show l.val = (0 + l.val) % 128 by omega)))

theorem out10_at (h : Fin 576) (r : Fin 512) : (out0_A_10 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix3 0 h r) : EReal) = gVt x0 x1 x2 h r := by
  have hc := cover0_A_10 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix3 0 h r)
  unfold out0_A_10
  unfold kernelRun0_A at hc ⊢
  dsimp only at hc ⊢
  refine eight_at _ _ _ _ _ _ _ _ _ _ (fun y => gVt x0 x1 x2 (y 1) (y 2)) _ _ _ _ _ _ _ _ ?_ ?_ ?_ ?_ ?_ ?_ ?_ ?_ _ hc
  · intro r l
    exact (pay27_at r l).trans (gVt_hi x0 x1 x2 3 l r).symm
  · intro r l
    try unfold kernelRun0_A.sl.r_7
    try unfold kernelRun0_A.sl.r_8
    rw [r4_eq]
    refine (pay26_at (k0_pay8 (F := Ideal) x0 x1 x2) r l).trans (Eq.trans ?_ (gVt_lo x0 x1 x2 3 l r).symm)
    rfl
  · intro r l
    exact (pay25_at r l).trans (gVt_hi x0 x1 x2 2 l r).symm
  · intro r l
    try unfold kernelRun0_A.sl.r_7
    try unfold kernelRun0_A.sl.r_8
    rw [r4_eq]
    refine (pay24_at (k0_pay8 (F := Ideal) x0 x1 x2) r l).trans (Eq.trans ?_ (gVt_lo x0 x1 x2 2 l r).symm)
    rfl
  · intro r l
    exact (pay23_at r l).trans (gVt_hi x0 x1 x2 1 l r).symm
  · intro r l
    try unfold kernelRun0_A.sl.r_7
    try unfold kernelRun0_A.sl.r_8
    rw [r4_eq]
    refine (pay22_at (k0_pay8 (F := Ideal) x0 x1 x2) r l).trans (Eq.trans ?_ (gVt_lo x0 x1 x2 1 l r).symm)
    rfl
  · intro r l
    exact (pay21_at r l).trans (gVt_hi x0 x1 x2 0 l r).symm
  · intro r l
    try unfold kernelRun0_A.sl.r_7
    try unfold kernelRun0_A.sl.r_8
    rw [r4_eq]
    refine (pay20_at (k0_pay8 (F := Ideal) x0 x1 x2) r l).trans (Eq.trans ?_ (gVt_lo x0 x1 x2 0 l r).symm)
    rfl

theorem out12_at (r : Fin 512) (l : Fin 128) : (out0_A_12 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r l) : EReal) = if l.val < 64 then irot x3 c a b (k0_pay4 x0 x1) r l else 0 := by
  unfold out0_A_12 kernelRun0_A
  dsimp only
  refine (congrFun (one_at _ _ _ _) (ix2 r l)).trans ?_
  try unfold kernelRun0_A.sl.r_10
  try unfold kernelRun0_A.sl.r_9
  simp only [r_eq, r1_eq, r2_eq, r3_eq]
  rw [ld_full]
  exact pay34_at x3 c a b (k0_pay4 x0 x1) r l

theorem out13_at (r : Fin 512) (l : Fin 128) : (out0_A_13 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r l) : EReal) = if (l.val + 128 - 64) % 128 < 64 then irot x3 c a b (k0_pay4 x0 x1) r ⟨(l.val + 128 - 64) % 128, by omega⟩ else 0 := by
  unfold out0_A_13 kernelRun0_A
  dsimp only
  refine (congrFun (one_at _ _ _ _) (ix2 r l)).trans ?_
  try unfold kernelRun0_A.sl.r_10
  try unfold kernelRun0_A.sl.r_9
  simp only [r_eq, r1_eq, r2_eq, r3_eq]
  rw [ld_full]
  exact pay35_at x3 c a b (k0_pay4 x0 x1) r l

theorem out14_at (r : Fin 512) (l : Fin 128) : (out0_A_14 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r l) : EReal) = irow x3 (k0_pay4 x0 x1) r l * Ideal.ofBits FTy.f32 1052050675#32 := by
  unfold out0_A_14 kernelRun0_A
  dsimp only
  refine (congrFun (one_at _ _ _ _) (ix2 r l)).trans ?_
  try unfold kernelRun0_A.sl.r_10
  try unfold kernelRun0_A.sl.r_9
  simp only [r_eq, r1_eq, r2_eq, r3_eq]
  rw [ld_full]
  exact pay36_at x3 (k0_pay4 x0 x1) r l

theorem out15_at (r : Fin 512) (l : Fin 256) : (out0_A_15 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r l) : EReal) = ∑ k, (k0_pay4 x0 x1) (ix2 r k) * x4 (ix2 k ⟨l.val, by omega⟩) := by
  unfold out0_A_15 kernelRun0_A
  dsimp only
  refine (congrFun (one_at _ _ _ _) (ix2 r l)).trans ?_
  try unfold kernelRun0_A.sl.r_10
  try unfold kernelRun0_A.sl.r_9
  simp only [r_eq, r1_eq, r2_eq, r3_eq]
  rw [ld_full]
  exact pay2_at x4 (k0_pay4 x0 x1) r l

theorem out16_at (r : Fin 512) (l : Fin 256) : (out0_A_16 (F := Ideal) d i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 c a b (ix2 r l) : EReal) = (∑ k, (k0_pay4 x0 x1) (ix2 r k) * x4 (ix2 k ⟨256 + l.val, by omega⟩)) * Ideal.ofBits FTy.f32 1040187392#32 := by
  unfold out0_A_16 kernelRun0_A
  dsimp only
  refine (congrFun (one_at _ _ _ _) (ix2 r l)).trans ?_
  try unfold kernelRun0_A.sl.r_10
  try unfold kernelRun0_A.sl.r_9
  simp only [r_eq, r1_eq, r2_eq, r3_eq]
  rw [ld_full]
  exact pay3_at x4 (k0_pay4 x0 x1) r l

end Cert.Inp

end
-- ==== Proof.Inp.Host.lean ====
/-
  The arrays the kernel's call is given, as terms of the arguments.
-/
module

public import proofs.«01_k».proof.Proof.Gen.Kernel2Ideal.Frame
public import proofs.«01_k».proof.Proof.Inp.Spec
public import Idealize.ShloMosaic.Lib.StableHlo.Run

@[expose] public section

set_option maxRecDepth 16384
set_option maxHeartbeats 1600000

noncomputable section

namespace Cert.Inp

open Idealize.ShloMosaic Idealize.ShloMosaic.TcCoe Idealize.ShloMosaic.StableHlo
open Cert.Kernel2Ideal Cert.Kernel2Ideal.Gen

/-! ## The terms -/

def wA (W : FVec Ideal S1024x2632 .f32) : FVec Ideal S1024x2048 .bf16 :=
  truncf .bf16 (extractStridedSlice S1024x2048 ![0, 0] W slices_S1024x2632_S1024x2048_0_0) bitsLt_bf16_f32
def wB (W : FVec Ideal S1024x2632 .f32) : FVec Ideal S1024x128 .bf16 :=
  truncf .bf16 (pad S1024x128 ![0, 0] ![0, 56] ![0, 0] (extractStridedSlice S1024x72 ![0, 2048] W slices_S1024x2632_S1024x72_0_2048)
    (sitofp (F := Ideal) .f32 (constantI S_ 32 0#32)) pads_S1024x72_S1024x128_000_0560 h_S_) bitsLt_bf16_f32
def wC (W : FVec Ideal S1024x2632 .f32) : FVec Ideal S1024x512 .bf16 :=
  truncf .bf16 (extractStridedSlice S1024x512 ![0, 2120] W slices_S1024x2632_S1024x512_0_2120) bitsLt_bf16_f32
def g1 (g : FVec Ideal S1024 .f32) : FVec Ideal S1x1024 .f32 := broadcastInDim S1x1024 ![1] bcast_S1024_S1x1024_1 g
def twice (x : FVec Ideal S4096x64 .f32) : FVec Ideal S4096x128 .f32 :=
  shapeCast S4096x128 (broadcastInDim S1x4096x2x64 ![0, 1, 2, 3] bcast_S1x4096x1x64_S1x4096x2x64_0_1_2_3 (shapeCast S1x4096x1x64 x shapeCasts_S4096x64_S1x4096x1x64))
    shapeCasts_S1x4096x2x64_S4096x128
def cat3 (x y : FVec Ideal S4096x8 .f32) (z : FVec Ideal S4096x48 .f32) : FVec Ideal S4096x64 .f32 :=
  concatenate S4096x64 1 [⟨S4096x8, x⟩, ⟨S4096x8, y⟩, ⟨S4096x48, z⟩] concatenates_S4096x8_S4096x8_S4096x48_S4096x64_d1
def z48 : FVec Ideal S4096x48 .f32 := broadcastInDim S4096x48 ![] bcast_S_S4096x48 (constant (F := Ideal) S_ .f32 0x00000000#32)
def z8 : FVec Ideal S4096x8 .f32 := broadcastInDim S4096x8 ![] bcast_S_S4096x8 (constant (F := Ideal) S_ .f32 0x00000000#32)
def i48 : FVec Ideal S4096x48 .f32 := broadcastInDim S4096x48 ![] bcast_S_S4096x48 (constant (F := Ideal) S_ .f32 0x3F800000#32)
def tC (co : FVec Ideal S4096x8 .f32) : FVec Ideal S4096x128 .f32 := twice (cat3 co co i48)
def tA (si : FVec Ideal S4096x8 .f32) : FVec Ideal S4096x128 .f32 := twice (cat3 (Host.negf si) z8 z48)
def tB (si : FVec Ideal S4096x8 .f32) : FVec Ideal S4096x128 .f32 := twice (cat3 z8 si z48)

variable (W : FVec Ideal S1024x2632 .f32) (co si : FVec Ideal S4096x8 .f32)

theorem wA_at (k : Fin 1024) (j : Fin 2048) : (wA W (ix2 k j) : EReal) = W (ix2 k ⟨j.val, by omega⟩) := by pointwise [wA]
theorem wC_at (k : Fin 1024) (j : Fin 512) : (wC W (ix2 k j) : EReal) = W (ix2 k ⟨2120 + j.val, by omega⟩) := by pointwise [wC]
theorem wB_at (k : Fin 1024) (j : Fin 128) : (wB W (ix2 k j) : EReal) = if h : j.val < 72 then W (ix2 k ⟨2048 + j.val, by omega⟩) else 0 := by
  have e : (FloatOps.sitofp (F := Ideal) FTy.f32 (0#32) : EReal) = 0 := by
    show (((0#32 : BitVec 32).toInt : ℝ) : EReal) = 0
    norm_num
  rw [← e]
  pointwise [wB]
theorem g1_at (g : FVec Ideal S1024 .f32) (k : Fin 1024) : (g1 g (ix2 0 k) : EReal) = g (ix1 k) := by pointwise [g1]

theorem twice_at (x : FVec Ideal S4096x64 .f32) (p : Fin 4096) (l : Fin 128) : (twice x (ix2 p l) : EReal) = x (ix2 p ⟨l.val % 64, by omega⟩) := by
  pointwise [twice]
theorem tC_at (p : Fin 4096) (l : Fin 128) : (tC co (ix2 p l) : EReal) = tabC (fun i => co (ix2 p i)) l := by
  refine (twice_at _ p l).trans ?_
  pointwise [cat3, i48, tabC]
  by_cases h : l.val % 64 < 8
  · rw [dif_pos h, dif_pos h]
  · rw [dif_neg h, dif_neg h]
    by_cases h' : l.val % 64 < 16
    · rw [dif_pos (show l.val % 64 - 8 < 8 by omega), dif_pos h']
    · rw [dif_neg (show ¬ l.val % 64 - 8 < 8 by omega), dif_neg h']
theorem tA_at (p : Fin 4096) (l : Fin 128) : (tA si (ix2 p l) : EReal) = tabA (fun i => si (ix2 p i)) l := by
  refine (twice_at _ p l).trans ?_
  pointwise [cat3, z48, z8, tabA]
  by_cases h : l.val % 64 < 8
  · rw [dif_pos h, dif_pos h]
  · rw [dif_neg h, dif_neg h]
    exact ite_self 0
theorem tB_at (p : Fin 4096) (l : Fin 128) : (tB si (ix2 p l) : EReal) = tabB (fun i => si (ix2 p i)) l := by
  refine (twice_at _ p l).trans ?_
  pointwise [cat3, z48, z8, tabB]
  by_cases h : l.val % 64 < 8
  · rw [dif_pos h, dif_pos h]
  · rw [dif_neg h, dif_neg h]
    by_cases h' : l.val % 64 < 16
    · rw [dif_pos (show l.val % 64 - 8 < 8 by omega), dif_pos h']
    · rw [dif_neg (show ¬ l.val % 64 - 8 < 8 by omega), dif_neg h']

/-! ## The arrays -/

variable (m : (ℓ : Loc nD τ sig) → Buf (Elt Ideal) ℓ) (c : Dev nD)

theorem V_v17 : V m c main_v17 = wA (m ((c : Thread nD τ).loc main_arg2)) := by
  dsimp only [V, hostOps0, hostOps0_1, hostOps0_2, List.flatten_cons, List.flatten_nil, List.append_nil, List.cons_append, List.nil_append]
  after_results_simp <;> (try dsimp only [Matrix.cons_val]) <;> (try after_results_simp) <;> rfl
theorem V_v20 : V m c main_v20 = wB (m ((c : Thread nD τ).loc main_arg2)) := by
  dsimp only [V, hostOps0, hostOps0_1, hostOps0_2, List.flatten_cons, List.flatten_nil, List.append_nil, List.cons_append, List.nil_append]
  after_results_simp <;> (try dsimp only [Matrix.cons_val]) <;> (try after_results_simp) <;> rfl
theorem V_v22 : V m c main_v22 = wC (m ((c : Thread nD τ).loc main_arg2)) := by
  dsimp only [V, hostOps0, hostOps0_1, hostOps0_2, List.flatten_cons, List.flatten_nil, List.append_nil, List.cons_append, List.nil_append]
  after_results_simp <;> (try dsimp only [Matrix.cons_val]) <;> (try after_results_simp) <;> rfl
theorem V_v23 : V m c main_v23 = g1 (m ((c : Thread nD τ).loc main_arg1)) := by
  dsimp only [V, hostOps0, hostOps0_1, hostOps0_2, List.flatten_cons, List.flatten_nil, List.append_nil, List.cons_append, List.nil_append]
  after_results_simp <;> (try dsimp only [Matrix.cons_val]) <;> (try after_results_simp) <;> rfl
theorem V_v7 : V m c main_v6 = tC (m ((c : Thread nD τ).loc main_arg3)) := by
  dsimp only [V, hostOps0, hostOps0_1, hostOps0_2, List.flatten_cons, List.flatten_nil, List.append_nil, List.cons_append, List.nil_append]
  after_results_simp <;> (try dsimp only [Matrix.cons_val]) <;> (try after_results_simp) <;> rfl
theorem V_v11 : V m c main_v11 = tA (m ((c : Thread nD τ).loc main_arg4)) := by
  dsimp only [V, hostOps0, hostOps0_1, hostOps0_2, List.flatten_cons, List.flatten_nil, List.append_nil, List.cons_append, List.nil_append]
  after_results_simp <;> (try dsimp only [Matrix.cons_val]) <;> (try after_results_simp) <;> rfl
theorem V_v15 : V m c main_v15 = tB (m ((c : Thread nD τ).loc main_arg4)) := by
  dsimp only [V, hostOps0, hostOps0_1, hostOps0_2, List.flatten_cons, List.flatten_nil, List.append_nil, List.cons_append, List.nil_append]
  after_results_simp <;> (try dsimp only [Matrix.cons_val]) <;> (try after_results_simp) <;> rfl

end Cert.Inp

end
-- ==== Proof.Inp.RefDef.lean ====
/-
  The reference's nine results, by parts.
-/
module

public import proofs.«01_k».proof.Proof.Gen.Reference2Ideal.Run
public import proofs.«01_k».proof.Proof.Inp.Spec

@[expose] public section

set_option maxRecDepth 16384
set_option maxHeartbeats 1600000

noncomputable section

namespace Cert.Inp.Ref

open Idealize.ShloMosaic Idealize.ShloMosaic.TcCoe Cert.Inp
open Cert.Reference2Ideal Cert.Reference2Ideal.Gen

/-- Every product of the normed rows. -/
def proj (A0 : FVec Ideal S16384x1024 .f32) (A1 : FVec Ideal S1024 .f32) (A2 : FVec Ideal S1024x2632 .f32) : FVec Ideal S16384x2632 .f32 :=
  (Host.dotGeneral dot_S16384x1024_S1024x2632_S16384x2632_1_0_0_1_n_n none (mulf (mulf A0 (broadcastInDim S16384x1024 ![0, 1] bcast_S16384x1_S16384x1024_0_1 (Host.rsqrt (addf (Host.divf (broadcastInDim S16384x1 ![0] bcast_S16384_S16384x1_0 (Host.reduceAdd (mulf A0 A0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 A1))) A2)

/-- Eight heads rotated. -/
def rope8 (y : FVec Ideal S16384x512 .f32) (A3 A4 : FVec Ideal S4096x8 .f32) : FVec Ideal S16384x512 .f32 :=
  (shapeCast _ ((concatenate S4x4096x8x64 3 [⟨S4x4096x8x8, ((subf (mulf (extractStridedSlice S4x4096x8x8 ![0, 0, 0, 0] (shapeCast _ y shapeCasts_S16384x512_S4x4096x8x64) slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 A3))) (mulf (extractStridedSlice S4x4096x8x8 ![0, 0, 0, 8] (shapeCast _ y shapeCasts_S16384x512_S4x4096x8x64) slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 A4)))) : FVec Ideal S4x4096x8x8 .f32)⟩, ⟨S4x4096x8x8, ((addf (mulf (extractStridedSlice S4x4096x8x8 ![0, 0, 0, 8] (shapeCast _ y shapeCasts_S16384x512_S4x4096x8x64) slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 A3))) (mulf (extractStridedSlice S4x4096x8x8 ![0, 0, 0, 0] (shapeCast _ y shapeCasts_S16384x512_S4x4096x8x64) slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 A4)))) : FVec Ideal S4x4096x8x8 .f32)⟩, ⟨S4x4096x8x48, ((extractStridedSlice S4x4096x8x48 ![0, 0, 0, 16] (shapeCast _ y shapeCasts_S16384x512_S4x4096x8x64) slices_S4x4096x8x64_S4x4096x8x48_0_0_0_16) : FVec Ideal S4x4096x8x48 .f32)⟩] concatenates_S4x4096x8x8_S4x4096x8x8_S4x4096x8x48_S4x4096x8x64_d3 : FVec Ideal S4x4096x8x64 .f32)) shapeCasts_S4x4096x8x64_S16384x512)

/-- One head rotated. -/
def rope1 (y : FVec Ideal S16384x64 .f32) (A3 A4 : FVec Ideal S4096x8 .f32) : FVec Ideal S16384x64 .f32 :=
  (shapeCast _ ((concatenate S4x4096x1x64 3 [⟨S4x4096x1x8, ((subf (mulf (extractStridedSlice S4x4096x1x8 ![0, 0, 0, 0] (shapeCast _ y shapeCasts_S16384x64_S4x4096x1x64) slices_S4x4096x1x64_S4x4096x1x8_0_0_0_0) (broadcastInDim S4x4096x1x8 ![0, 1, 2, 3] bcast_S1x4096x1x8_S4x4096x1x8_0_1_2_3 (broadcastInDim S1x4096x1x8 ![1, 3] bcast_S4096x8_S1x4096x1x8_1_3 A3))) (mulf (extractStridedSlice S4x4096x1x8 ![0, 0, 0, 8] (shapeCast _ y shapeCasts_S16384x64_S4x4096x1x64) slices_S4x4096x1x64_S4x4096x1x8_0_0_0_8) (broadcastInDim S4x4096x1x8 ![0, 1, 2, 3] bcast_S1x4096x1x8_S4x4096x1x8_0_1_2_3 (broadcastInDim S1x4096x1x8 ![1, 3] bcast_S4096x8_S1x4096x1x8_1_3 A4)))) : FVec Ideal S4x4096x1x8 .f32)⟩, ⟨S4x4096x1x8, ((addf (mulf (extractStridedSlice S4x4096x1x8 ![0, 0, 0, 8] (shapeCast _ y shapeCasts_S16384x64_S4x4096x1x64) slices_S4x4096x1x64_S4x4096x1x8_0_0_0_8) (broadcastInDim S4x4096x1x8 ![0, 1, 2, 3] bcast_S1x4096x1x8_S4x4096x1x8_0_1_2_3 (broadcastInDim S1x4096x1x8 ![1, 3] bcast_S4096x8_S1x4096x1x8_1_3 A3))) (mulf (extractStridedSlice S4x4096x1x8 ![0, 0, 0, 0] (shapeCast _ y shapeCasts_S16384x64_S4x4096x1x64) slices_S4x4096x1x64_S4x4096x1x8_0_0_0_0) (broadcastInDim S4x4096x1x8 ![0, 1, 2, 3] bcast_S1x4096x1x8_S4x4096x1x8_0_1_2_3 (broadcastInDim S1x4096x1x8 ![1, 3] bcast_S4096x8_S1x4096x1x8_1_3 A4)))) : FVec Ideal S4x4096x1x8 .f32)⟩, ⟨S4x4096x1x48, ((extractStridedSlice S4x4096x1x48 ![0, 0, 0, 16] (shapeCast _ y shapeCasts_S16384x64_S4x4096x1x64) slices_S4x4096x1x64_S4x4096x1x48_0_0_0_16) : FVec Ideal S4x4096x1x48 .f32)⟩] concatenates_S4x4096x1x8_S4x4096x1x8_S4x4096x1x48_S4x4096x1x64_d3 : FVec Ideal S4x4096x1x64 .f32)) shapeCasts_S4x4096x1x64_S16384x64)

def o0 (P : FVec Ideal S16384x2632 .f32) (A3 A4 : FVec Ideal S4096x8 .f32) : FVec Ideal S16384x512 .bf16 :=
  truncf .bf16 (mulf (rope8 (extractStridedSlice S16384x512 ![0, 0] P slices_S16384x2632_S16384x512_0_0) A3 A4) (broadcastInDim S16384x512 ![] bcast_S_S16384x512 (constant S_ .f32 0x3E38AA3B#32))) bitsLt_bf16_f32

def o1 (P : FVec Ideal S16384x2632 .f32) (A3 A4 : FVec Ideal S4096x8 .f32) : FVec Ideal S16384x512 .bf16 :=
  truncf .bf16 (rope8 (extractStridedSlice S16384x512 ![0, 512] P slices_S16384x2632_S16384x512_0_512) A3 A4) bitsLt_bf16_f32

def o2 (P : FVec Ideal S16384x2632 .f32) : FVec Ideal S4x576x4096 .bf16 :=
  truncf .bf16 (shapeCast _ (concatenate S4x4x144x4096 2 [⟨S4x4x128x4096, (transpose S4x4x128x4096 [0, 2, 3, 1] (shapeCast _ (extractStridedSlice S16384x512 ![0, 1024] P slices_S16384x2632_S16384x512_0_1024) shapeCasts_S16384x512_S4x4096x4x128) transposes_S4x4096x4x128_S4x4x128x4096_0_2_3_1)⟩, ⟨S4x4x16x4096, (broadcastInDim S4x4x16x4096 ![] bcast_S_S4x4x16x4096 (constant S_ .f32 0x3F800000#32))⟩] concatenates_S4x4x128x4096_S4x4x16x4096_S4x4x144x4096_d2) shapeCasts_S4x4x144x4096_S4x576x4096) bitsLt_bf16_f32

def o3 (P : FVec Ideal S16384x2632 .f32) (A3 A4 : FVec Ideal S4096x8 .f32) : FVec Ideal S16384x512 .bf16 :=
  truncf .bf16 (mulf (rope8 (extractStridedSlice S16384x512 ![0, 1536] P slices_S16384x2632_S16384x512_0_1536) A3 A4) (broadcastInDim S16384x512 ![] bcast_S_S16384x512 (constant S_ .f32 0x3E000000#32))) bitsLt_bf16_f32

def o4 (P : FVec Ideal S16384x2632 .f32) (A3 A4 : FVec Ideal S4096x8 .f32) : FVec Ideal S16384x128 .bf16 :=
  truncf .bf16 (concatenate S16384x128 1 [⟨S16384x64, (rope1 (extractStridedSlice S16384x64 ![0, 2048] P slices_S16384x2632_S16384x64_0_2048) A3 A4)⟩, ⟨S16384x64, (broadcastInDim S16384x64 ![] bcast_S_S16384x64 (constant S_ .f32 0x00000000#32))⟩] concatenates_S16384x64_S16384x64_S16384x128_d1) bitsLt_bf16_f32

def o5 (P : FVec Ideal S16384x2632 .f32) (A3 A4 : FVec Ideal S4096x8 .f32) : FVec Ideal S16384x128 .bf16 :=
  truncf .bf16 (concatenate S16384x128 1 [⟨S16384x64, (broadcastInDim S16384x64 ![] bcast_S_S16384x64 (constant S_ .f32 0x00000000#32))⟩, ⟨S16384x64, (rope1 (extractStridedSlice S16384x64 ![0, 2048] P slices_S16384x2632_S16384x64_0_2048) A3 A4)⟩] concatenates_S16384x64_S16384x64_S16384x128_d1) bitsLt_bf16_f32

def o6 (P : FVec Ideal S16384x2632 .f32) : FVec Ideal S16384x128 .f32 :=
  mulf ((concatenate S16384x128 1 [⟨S16384x64, ((extractStridedSlice S16384x64 ![0, 2048] P slices_S16384x2632_S16384x64_0_2048) : FVec Ideal S16384x64 .f32)⟩, ⟨S16384x8, ((extractStridedSlice S16384x8 ![0, 2112] P slices_S16384x2632_S16384x8_0_2112) : FVec Ideal S16384x8 .f32)⟩, ⟨S16384x56, ((broadcastInDim S16384x56 ![] bcast_S_S16384x56 (constant S_ .f32 0x00000000#32)) : FVec Ideal S16384x56 .f32)⟩] concatenates_S16384x64_S16384x8_S16384x56_S16384x128_d1 : FVec Ideal S16384x128 .f32)) (broadcastInDim S16384x128 ![] bcast_S_S16384x128 (constant S_ .f32 0x3EB504F3#32))

def o7 (P : FVec Ideal S16384x2632 .f32) : FVec Ideal S16384x256 .f32 :=
  extractStridedSlice S16384x256 ![0, 2120] P slices_S16384x2632_S16384x256_0_2120

def o8 (P : FVec Ideal S16384x2632 .f32) : FVec Ideal S16384x256 .bf16 :=
  truncf .bf16 (mulf (extractStridedSlice S16384x256 ![0, 2376] P slices_S16384x2632_S16384x256_0_2376) (broadcastInDim S16384x256 ![] bcast_S_S16384x256 (constant S_ .f32 0x3E000000#32))) bitsLt_bf16_f32

end Cert.Inp.Ref

end
-- ==== Proof.Inp.RefRope.lean ====
/-
  The reference's rotations, element by element.
-/
module

public import proofs.«01_k».proof.Proof.Inp.RefDef

@[expose] public section

set_option maxRecDepth 16384
set_option maxHeartbeats 1600000

noncomputable section

namespace Cert.Inp.Ref

open Idealize.ShloMosaic Idealize.ShloMosaic.TcCoe Cert.Inp
open Cert.Reference2Ideal Cert.Reference2Ideal.Gen

variable (A0 : FVec Ideal S16384x1024 .f32) (A1 : FVec Ideal S1024 .f32) (A2 : FVec Ideal S1024x2632 .f32) (A3 A4 : FVec Ideal S4096x8 .f32) (P : FVec Ideal S16384x2632 .f32)

theorem rope8_at (y : FVec Ideal S16384x512 .f32) (n : Fin 16384) (j : Fin 512) : (rope8 y A3 A4 (ix2 n j) : EReal) =
    ropeY512 (fun j => y (ix2 n j)) (fun i => A3 (ix2 (⟨n.val % 4096, by omega⟩ : Fin 4096) i)) (fun i => A4 (ix2 (⟨n.val % 4096, by omega⟩ : Fin 4096) i)) j := by
  pointwise [rope8, ropeY512]

theorem rope1_at (y : FVec Ideal S16384x64 .f32) (n : Fin 16384) (j : Fin 64) : (rope1 y A3 A4 (ix2 n j) : EReal) =
    ropeY64 (fun j => y (ix2 n j)) (fun i => A3 (ix2 (⟨n.val % 4096, by omega⟩ : Fin 4096) i)) (fun i => A4 (ix2 (⟨n.val % 4096, by omega⟩ : Fin 4096) i)) j := by
  pointwise [rope1, ropeY64]

end Cert.Inp.Ref

end
-- ==== Proof.Inp.Ref.lean ====
/-
  The reference's nine results, element by element.
-/
module

public import proofs.«01_k».proof.Proof.Inp.RefRope

@[expose] public section

set_option maxRecDepth 16384
set_option maxHeartbeats 1600000

noncomputable section

namespace Cert.Inp.Ref

open Idealize.ShloMosaic Idealize.ShloMosaic.TcCoe Cert.Inp
open Cert.Reference2Ideal Cert.Reference2Ideal.Gen

variable (A0 : FVec Ideal S16384x1024 .f32) (A1 : FVec Ideal S1024 .f32) (A2 : FVec Ideal S1024x2632 .f32) (A3 A4 : FVec Ideal S4096x8 .f32) (P : FVec Ideal S16384x2632 .f32)

theorem proj_at (n : Fin 16384) (j : Fin 2632) : (proj A0 A1 A2 (ix2 n j) : EReal) = prj (fun k => A0 (ix2 n k)) (fun k => A1 (ix1 k)) (fun k => A2 (ix2 k j)) := by
  pointwise [proj, prj, nrm]

/-- The position's row of a table. -/
def tab (A : FVec Ideal S4096x8 .f32) (n : Fin 16384) (i : Fin 8) : EReal := A (ix2 (⟨n.val % 4096, by omega⟩ : Fin 4096) i)

theorem o0_at (n : Fin 16384) (j : Fin 512) : (o0 P A3 A4 (ix2 n j) : EReal) =
    rope (fun j => P (ix2 n j)) (tab A3 n) (tab A4 n) ⟨0 + j.val, by omega⟩ * Ideal.ofBits FTy.f32 1043900987#32 := by
  have e : ∀ z : FVec Ideal S16384x512 .f32, z = rope8 (extractStridedSlice S16384x512 ![0, 0] P slices_S16384x2632_S16384x512_0_0) A3 A4 → (o0 P A3 A4 (ix2 n j) : EReal) = z (ix2 n j) * Ideal.ofBits FTy.f32 1043900987#32 := fun z hz => by
    unfold o0
    rw [← hz]
    pointwise []
  have f : (rope8 (extractStridedSlice S16384x512 ![0, 0] P slices_S16384x2632_S16384x512_0_0) A3 A4 (ix2 n j) : EReal) = rope (fun j => P (ix2 n j)) (tab A3 n) (tab A4 n) ⟨0 + j.val, by omega⟩ := by
    refine (rope8_at A3 A4 _ n j).trans ?_
    refine Eq.trans ?_ (ropeY512_eq (fun j => P (ix2 n j)) (tab A3 n) (tab A4 n) 0 (by decide) (by decide) j)
    refine congrArg (fun Y => ropeY512 Y (tab A3 n) (tab A4 n) j) (funext fun j => ?_)
    pointwise []
  exact (e _ rfl).trans (congrArg (· * Ideal.ofBits FTy.f32 1043900987#32) f)

theorem o1_at (n : Fin 16384) (j : Fin 512) : (o1 P A3 A4 (ix2 n j) : EReal) =
    rope (fun j => P (ix2 n j)) (tab A3 n) (tab A4 n) ⟨512 + j.val, by omega⟩ := by
  have e : ∀ z : FVec Ideal S16384x512 .f32, z = rope8 (extractStridedSlice S16384x512 ![0, 512] P slices_S16384x2632_S16384x512_0_512) A3 A4 → (o1 P A3 A4 (ix2 n j) : EReal) = z (ix2 n j) := fun z hz => by
    unfold o1
    rw [← hz]
    pointwise []
  have f : (rope8 (extractStridedSlice S16384x512 ![0, 512] P slices_S16384x2632_S16384x512_0_512) A3 A4 (ix2 n j) : EReal) = rope (fun j => P (ix2 n j)) (tab A3 n) (tab A4 n) ⟨512 + j.val, by omega⟩ := by
    refine (rope8_at A3 A4 _ n j).trans ?_
    refine Eq.trans ?_ (ropeY512_eq (fun j => P (ix2 n j)) (tab A3 n) (tab A4 n) 512 (by decide) (by decide) j)
    refine congrArg (fun Y => ropeY512 Y (tab A3 n) (tab A4 n) j) (funext fun j => ?_)
    pointwise []
  exact (e _ rfl).trans (f)

theorem o3_at (n : Fin 16384) (j : Fin 512) : (o3 P A3 A4 (ix2 n j) : EReal) =
    rope (fun j => P (ix2 n j)) (tab A3 n) (tab A4 n) ⟨1536 + j.val, by omega⟩ * Ideal.ofBits FTy.f32 1040187392#32 := by
  have e : ∀ z : FVec Ideal S16384x512 .f32, z = rope8 (extractStridedSlice S16384x512 ![0, 1536] P slices_S16384x2632_S16384x512_0_1536) A3 A4 → (o3 P A3 A4 (ix2 n j) : EReal) = z (ix2 n j) * Ideal.ofBits FTy.f32 1040187392#32 := fun z hz => by
    unfold o3
    rw [← hz]
    pointwise []
  have f : (rope8 (extractStridedSlice S16384x512 ![0, 1536] P slices_S16384x2632_S16384x512_0_1536) A3 A4 (ix2 n j) : EReal) = rope (fun j => P (ix2 n j)) (tab A3 n) (tab A4 n) ⟨1536 + j.val, by omega⟩ := by
    refine (rope8_at A3 A4 _ n j).trans ?_
    refine Eq.trans ?_ (ropeY512_eq (fun j => P (ix2 n j)) (tab A3 n) (tab A4 n) 1536 (by decide) (by decide) j)
    refine congrArg (fun Y => ropeY512 Y (tab A3 n) (tab A4 n) j) (funext fun j => ?_)
    pointwise []
  exact (e _ rfl).trans (congrArg (· * Ideal.ofBits FTy.f32 1040187392#32) f)

theorem ik_at (n : Fin 16384) (j : Fin 64) : (rope1 (extractStridedSlice S16384x64 ![0, 2048] P slices_S16384x2632_S16384x64_0_2048) A3 A4 (ix2 n j) : EReal) = rope (fun j => P (ix2 n j)) (tab A3 n) (tab A4 n) ⟨2048 + j.val, by omega⟩ := by
  refine (rope1_at A3 A4 _ n j).trans ?_
  refine Eq.trans ?_ (ropeY64_eq (fun j => P (ix2 n j)) (tab A3 n) (tab A4 n) 2048 (by decide) (by decide) j)
  refine congrArg (fun Y => ropeY64 Y (tab A3 n) (tab A4 n) j) (funext fun j => ?_)
  pointwise []

theorem o4_at (n : Fin 16384) (j : Fin 128) : (o4 P A3 A4 (ix2 n j) : EReal) =
    if h : j.val < 64 then rope (fun j => P (ix2 n j)) (tab A3 n) (tab A4 n) ⟨2048 + j.val, by omega⟩ else 0 := by
  have e : ∀ z : FVec Ideal S16384x64 .f32, z = rope1 (extractStridedSlice S16384x64 ![0, 2048] P slices_S16384x2632_S16384x64_0_2048) A3 A4 → (o4 P A3 A4 (ix2 n j) : EReal) = if h : j.val < 64 then z (ix2 n ⟨j.val, h⟩) else 0 := fun z hz => by
    unfold o4
    rw [← hz]
    pointwise []
  refine (e _ rfl).trans ?_
  by_cases h : j.val < 64
  · rw [dif_pos h, dif_pos h]; exact ik_at A3 A4 P n ⟨j.val, h⟩
  · rw [dif_neg h, dif_neg h]

theorem o5_at (n : Fin 16384) (j : Fin 128) : (o5 P A3 A4 (ix2 n j) : EReal) =
    if h : j.val < 64 then 0 else rope (fun j => P (ix2 n j)) (tab A3 n) (tab A4 n) ⟨2048 + (j.val - 64), by omega⟩ := by
  have e : ∀ z : FVec Ideal S16384x64 .f32, z = rope1 (extractStridedSlice S16384x64 ![0, 2048] P slices_S16384x2632_S16384x64_0_2048) A3 A4 → (o5 P A3 A4 (ix2 n j) : EReal) = if h : j.val < 64 then 0 else z (ix2 n ⟨j.val - 64, by omega⟩) := fun z hz => by
    unfold o5
    rw [← hz]
    pointwise []
  refine (e _ rfl).trans ?_
  by_cases h : j.val < 64
  · rw [dif_pos h, dif_pos h]
  · rw [dif_neg h, dif_neg h]; exact ik_at A3 A4 P n ⟨j.val - 64, by omega⟩

theorem o2_at (b : Fin 4) (h : Fin 576) (n : Fin 4096) : (o2 P (ix3 b h n) : EReal) =
    if q : h.val % 144 < 128 then P (ix2 (⟨b.val * 4096 + n.val, by omega⟩ : Fin 16384) ⟨1024 + (h.val / 144 * 128 + h.val % 144), by omega⟩) else 1 := by
  pointwise [o2]

theorem o6_at (n : Fin 16384) (j : Fin 128) : (o6 P (ix2 n j) : EReal) =
    (if h : j.val < 64 then P (ix2 n ⟨2048 + j.val, by omega⟩) else if h' : j.val - 64 < 8 then P (ix2 n ⟨2112 + (j.val - 64), by omega⟩) else 0) * Ideal.ofBits FTy.f32 1052050675#32 := by
  pointwise [o6]

theorem o7_at (n : Fin 16384) (j : Fin 256) : (o7 P (ix2 n j) : EReal) = P (ix2 n ⟨2120 + j.val, by omega⟩) := by
  pointwise [o7]

theorem o8_at (n : Fin 16384) (j : Fin 256) : (o8 P (ix2 n j) : EReal) = P (ix2 n ⟨2376 + j.val, by omega⟩) * Ideal.ofBits FTy.f32 1040187392#32 := by
  pointwise [o8]

end Cert.Inp.Ref

end
-- ==== Proof.Inp.Final.lean ====
/-
  What each grid point leaves in its blocks, as elements of the reference's results.
-/
module

public import proofs.«01_k».proof.Proof.Inp.Outs
public import proofs.«01_k».proof.Proof.Inp.Host
public import proofs.«01_k».proof.Proof.Inp.Ref
public import Idealize.ShloMosaic.Lib.Pipeline.Value

@[expose] public section

set_option maxRecDepth 16384
set_option maxHeartbeats 1600000

noncomputable section

namespace Cert.Inp

open Idealize.ShloMosaic Idealize.ShloMosaic.TcCoe
open Idealize.ShloMosaic.Pipeline (Dat Cfg Window)
open Cert.Kernel2Ideal Cert.Kernel2Ideal.Gen

variable (m : (ℓ : Loc nD τ sig) → Buf (Elt Ideal) ℓ) (c : Dev nD) (t : Fin cfg0.N)

theorem lt_t (t : Fin cfg0.N) : t.val < 32 := lt_of_lt_of_eq t.isLt N_0

abbrev A0 : FVec Ideal S16384x1024 .f32 := m ((c : Thread nD τ).loc main_arg0)
abbrev A1 : FVec Ideal S1024 .f32 := m ((c : Thread nD τ).loc main_arg1)
abbrev A2 : FVec Ideal S1024x2632 .f32 := m ((c : Thread nD τ).loc main_arg2)
abbrev A3 : FVec Ideal S4096x8 .f32 := m ((c : Thread nD τ).loc main_arg3)
abbrev A4 : FVec Ideal S4096x8 .f32 := m ((c : Thread nD τ).loc main_arg4)

/-- The products' row `n`. -/
def P (n : Fin 16384) (j : Fin 2632) : EReal := prj (fun k => A0 m c (ix2 n k)) (fun k => A1 m c (ix1 k)) (fun k => A2 m c (ix2 k j))

theorem proj_row (n : Fin 16384) : (fun j => Ref.proj (A0 m c) (A1 m c) (A2 m c) (ix2 n j)) = P m c n := funext fun j => Ref.proj_at _ _ _ n j

/-! ## The blocks read -/

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![t.val % 8, 0] :=
  (by decide +kernel : ∀ t : Fin grid0.N, win0_5.index t = ![t.val % 8, 0])
theorem index6 : ∀ t : Fin cfg0.N, win0_6.index t = ![t.val % 8, 0] :=
  (by decide +kernel : ∀ t : Fin grid0.N, win0_6.index t = ![t.val % 8, 0])
theorem index7 : ∀ t : Fin cfg0.N, win0_7.index t = ![t.val % 8, 0] :=
  (by decide +kernel : ∀ t : Fin grid0.N, win0_7.index t = ![t.val % 8, 0])
theorem index8 : ∀ t : Fin cfg0.N, win0_8.index t = ![t.val, 0] :=
  (by decide +kernel : ∀ t : Fin grid0.N, win0_8.index t = ![t.val, 0])
theorem index9 : ∀ t : Fin cfg0.N, win0_9.index t = ![t.val, 0] :=
  (by decide +kernel : ∀ t : Fin grid0.N, win0_9.index t = ![t.val, 0])
theorem index10 : ∀ t : Fin cfg0.N, win0_10.index t = ![t.val / 8, 0, t.val % 8] :=
  (by decide +kernel : ∀ t : Fin grid0.N, win0_10.index t = ![t.val / 8, 0, t.val % 8])
theorem index11 : ∀ t : Fin cfg0.N, win0_11.index t = ![t.val, 0] :=
  (by decide +kernel : ∀ t : Fin grid0.N, win0_11.index t = ![t.val, 0])
theorem index12 : ∀ t : Fin cfg0.N, win0_12.index t = ![t.val, 0] :=
  (by decide +kernel : ∀ t : Fin grid0.N, win0_12.index t = ![t.val, 0])
theorem index13 : ∀ t : Fin cfg0.N, win0_13.index t = ![t.val, 0] :=
  (by decide +kernel : ∀ t : Fin grid0.N, win0_13.index t = ![t.val, 0])
theorem index14 : ∀ t : Fin cfg0.N, win0_14.index t = ![t.val, 0] :=
  (by decide +kernel : ∀ t : Fin grid0.N, win0_14.index t = ![t.val, 0])
theorem index15 : ∀ t : Fin cfg0.N, win0_15.index t = ![t.val, 0] :=
  (by decide +kernel : ∀ t : Fin grid0.N, win0_15.index t = ![t.val, 0])
theorem index16 : ∀ t : Fin cfg0.N, win0_16.index t = ![t.val, 0] :=
  (by decide +kernel : ∀ t : Fin grid0.N, win0_16.index t = ![t.val, 0])
theorem flush8 : ∀ t : Fin cfg0.N, (cfg0.win 8).flush t = true :=
  (by decide +kernel : ∀ t : Fin grid0.N, win0_8.flush t = true)
theorem flush9 : ∀ t : Fin cfg0.N, (cfg0.win 9).flush t = true :=
  (by decide +kernel : ∀ t : Fin grid0.N, win0_9.flush t = true)
theorem flush10 : ∀ t : Fin cfg0.N, (cfg0.win 10).flush t = true :=
  (by decide +kernel : ∀ t : Fin grid0.N, win0_10.flush t = true)
theorem flush11 : ∀ t : Fin cfg0.N, (cfg0.win 11).flush t = true :=
  (by decide +kernel : ∀ t : Fin grid0.N, win0_11.flush t = true)
theorem flush12 : ∀ t : Fin cfg0.N, (cfg0.win 12).flush t = true :=
  (by decide +kernel : ∀ t : Fin grid0.N, win0_12.flush t = true)
theorem flush13 : ∀ t : Fin cfg0.N, (cfg0.win 13).flush t = true :=
  (by decide +kernel : ∀ t : Fin grid0.N, win0_13.flush t = true)
theorem flush14 : ∀ t : Fin cfg0.N, (cfg0.win 14).flush t = true :=
  (by decide +kernel : ∀ t : Fin grid0.N, win0_14.flush t = true)
theorem flush15 : ∀ t : Fin cfg0.N, (cfg0.win 15).flush t = true :=
  (by decide +kernel : ∀ t : Fin grid0.N, win0_15.flush t = true)
theorem flush16 : ∀ t : Fin cfg0.N, (cfg0.win 16).flush t = true :=
  (by decide +kernel : ∀ t : Fin grid0.N, win0_16.flush t = true)

theorem blk0_at (r : Fin 512) (k : Fin 1024) : (iblk m c 0 t (ix2 r k) : EReal) = A0 m c (ix2 (⟨t.val * 512 + r.val, by have := lt_t t; omega⟩ : Fin 16384) k) := by
  have e : ((cfg0.win 0).blk t).view.emb (ix2 r k) = (ix2 (⟨t.val * 512 + r.val, by have := lt_t t; omega⟩ : Fin 16384) k) := by
    refine funext fun x => Fin.ext ?_
    refine (Window.rect_emb_val (cfg0.win 0) t (ix2 r k) x).trans ?_
    have q : (cfg0.win 0).index t = ![t.val, 0] := index0 t
    rw [q]
    match x with
    | ⟨0, _⟩ => first | rfl | exact Nat.zero_add _
    | ⟨1, _⟩ => exact Nat.zero_add _
  refine (congrArg (V m c main_arg0) e).trans ?_
  exact congrFun (V_main_arg0 m c) _

theorem blk1_at (k : Fin 1024) : (iblk m c 1 t (ix2 0 k) : EReal) = A1 m c (ix1 k) := by
  have e : ((cfg0.win 1).blk t).view.emb (ix2 0 k) = (ix2 0 k) := by
    refine funext fun x => Fin.ext ?_
    refine (Window.rect_emb_val (cfg0.win 1) t (ix2 0 k) x).trans ?_
    have q : (cfg0.win 1).index t = ![0, 0] := index1 t
    rw [q]
    match x with
    | ⟨0, _⟩ => first | rfl | exact Nat.zero_add _
    | ⟨1, _⟩ => exact Nat.zero_add _
  refine (congrArg (V m c main_v23) e).trans ?_
  refine (congrFun (V_v23 m c) _).trans ?_
  exact g1_at _ k

theorem blk2_at (k : Fin 1024) (j : Fin 2048) : (iblk m c 2 t (ix2 k j) : EReal) = A2 m c (ix2 k ⟨j.val, by omega⟩) := by
  have e : ((cfg0.win 2).blk t).view.emb (ix2 k j) = (ix2 k j) := by
    refine funext fun x => Fin.ext ?_
    refine (Window.rect_emb_val (cfg0.win 2) t (ix2 k j) x).trans ?_
    have q : (cfg0.win 2).index t = ![0, 0] := index2 t
    rw [q]
    match x with
    | ⟨0, _⟩ => first | rfl | exact Nat.zero_add _
    | ⟨1, _⟩ => exact Nat.zero_add _
  refine (congrArg (V m c main_v17) e).trans ?_
  refine (congrFun (V_v17 m c) _).trans ?_
  exact wA_at _ _ _

theorem blk3_at (k : Fin 1024) (j : Fin 128) : (iblk m c 3 t (ix2 k j) : EReal) = if h : j.val < 72 then A2 m c (ix2 k ⟨2048 + j.val, by omega⟩) else 0 := by
  have e : ((cfg0.win 3).blk t).view.emb (ix2 k j) = (ix2 k j) := by
    refine funext fun x => Fin.ext ?_
    refine (Window.rect_emb_val (cfg0.win 3) t (ix2 k j) x).trans ?_
    have q : (cfg0.win 3).index t = ![0, 0] := index3 t
    rw [q]
    match x with
    | ⟨0, _⟩ => first | rfl | exact Nat.zero_add _
    | ⟨1, _⟩ => exact Nat.zero_add _
  refine (congrArg (V m c main_v20) e).trans ?_
  refine (congrFun (V_v20 m c) _).trans ?_
  exact wB_at _ _ _

theorem blk4_at (k : Fin 1024) (j : Fin 512) : (iblk m c 4 t (ix2 k j) : EReal) = A2 m c (ix2 k ⟨2120 + j.val, by omega⟩) := by
  have e : ((cfg0.win 4).blk t).view.emb (ix2 k j) = (ix2 k j) := by
    refine funext fun x => Fin.ext ?_
    refine (Window.rect_emb_val (cfg0.win 4) t (ix2 k j) x).trans ?_
    have q : (cfg0.win 4).index t = ![0, 0] := index4 t
    rw [q]
    match x with
    | ⟨0, _⟩ => first | rfl | exact Nat.zero_add _
    | ⟨1, _⟩ => exact Nat.zero_add _
  refine (congrArg (V m c main_v22) e).trans ?_
  refine (congrFun (V_v22 m c) _).trans ?_
  exact wC_at _ _ _

theorem blk5_at (r : Fin 512) (l : Fin 128) : (iblk m c 5 t (ix2 r l) : EReal) = tabC (fun i => A3 m c (ix2 (⟨t.val % 8 * 512 + r.val, by omega⟩ : Fin 4096) i)) l := by
  have e : ((cfg0.win 5).blk t).view.emb (ix2 r l) = (ix2 (⟨t.val % 8 * 512 + r.val, by omega⟩ : Fin 4096) l) := by
    refine funext fun x => Fin.ext ?_
    refine (Window.rect_emb_val (cfg0.win 5) t (ix2 r l) x).trans ?_
    have q : (cfg0.win 5).index t = ![t.val % 8, 0] := index5 t
    rw [q]
    match x with
    | ⟨0, _⟩ => first | rfl | exact Nat.zero_add _
    | ⟨1, _⟩ => exact Nat.zero_add _
  refine (congrArg (V m c main_v6) e).trans ?_
  refine (congrFun (V_v7 m c) _).trans ?_
  exact tC_at _ _ _

theorem blk6_at (r : Fin 512) (l : Fin 128) : (iblk m c 6 t (ix2 r l) : EReal) = tabA (fun i => A4 m c (ix2 (⟨t.val % 8 * 512 + r.val, by omega⟩ : Fin 4096) i)) l := by
  have e : ((cfg0.win 6).blk t).view.emb (ix2 r l) = (ix2 (⟨t.val % 8 * 512 + r.val, by omega⟩ : Fin 4096) l) := by
    refine funext fun x => Fin.ext ?_
    refine (Window.rect_emb_val (cfg0.win 6) t (ix2 r l) x).trans ?_
    have q : (cfg0.win 6).index t = ![t.val % 8, 0] := index6 t
    rw [q]
    match x with
    | ⟨0, _⟩ => first | rfl | exact Nat.zero_add _
    | ⟨1, _⟩ => exact Nat.zero_add _
  refine (congrArg (V m c main_v11) e).trans ?_
  refine (congrFun (V_v11 m c) _).trans ?_
  exact tA_at _ _ _

theorem blk7_at (r : Fin 512) (l : Fin 128) : (iblk m c 7 t (ix2 r l) : EReal) = tabB (fun i => A4 m c (ix2 (⟨t.val % 8 * 512 + r.val, by omega⟩ : Fin 4096) i)) l := by
  have e : ((cfg0.win 7).blk t).view.emb (ix2 r l) = (ix2 (⟨t.val % 8 * 512 + r.val, by omega⟩ : Fin 4096) l) := by
    refine funext fun x => Fin.ext ?_
    refine (Window.rect_emb_val (cfg0.win 7) t (ix2 r l) x).trans ?_
    have q : (cfg0.win 7).index t = ![t.val % 8, 0] := index7 t
    rw [q]
    match x with
    | ⟨0, _⟩ => first | rfl | exact Nat.zero_add _
    | ⟨1, _⟩ => exact Nat.zero_add _
  refine (congrArg (V m c main_v15) e).trans ?_
  refine (congrFun (V_v15 m c) _).trans ?_
  exact tB_at _ _ _

/-! ## The values stored -/

theorem tabpos (A : FVec Ideal S4096x8 .f32) (r : Fin 512) : (fun i => A (ix2 (⟨t.val % 8 * 512 + r.val, by omega⟩ : Fin 4096) i)) = Ref.tab A (⟨t.val * 512 + r.val, by have := lt_t t; omega⟩ : Fin 16384) :=
  funext fun i => congrArg (fun p => A (ix2 p i)) (Fin.ext (show t.val % 8 * 512 + r.val = (t.val * 512 + r.val) % 4096 by omega))

theorem row8_at (r : Fin 512) (j : Fin 2048) : (k0_pay8 (F := Ideal) (iblk m c 0 t) (iblk m c 1 t) (iblk m c 2 t) (ix2 r j) : EReal) = P m c (⟨t.val * 512 + r.val, by have := lt_t t; omega⟩ : Fin 16384) ⟨j.val, by omega⟩ := by
  refine (pay8_at _ _ _ r j).trans ?_
  unfold mrow P
  congr 1
  · exact funext fun k => blk0_at m c t r k
  · exact funext fun k => blk1_at m c t k
  · exact funext fun k => blk2_at m c t k j

theorem row4_at (r : Fin 512) (k : Fin 1024) : (k0_pay4 (F := Ideal) (iblk m c 0 t) (iblk m c 1 t) (ix2 r k) : EReal) =
    nrm (fun k => A0 m c (ix2 (⟨t.val * 512 + r.val, by have := lt_t t; omega⟩ : Fin 16384) k)) (fun k => A1 m c (ix1 k)) k := by
  refine (pay4_at _ _ r k).trans ?_
  congr 1
  · exact funext fun k => blk0_at m c t r k
  · exact funext fun k => blk1_at m c t k

theorem irow_lo (r : Fin 512) (l : Fin 128) (h : l.val < 72) :
    irow (iblk m c 3 t) (k0_pay4 (F := Ideal) (iblk m c 0 t) (iblk m c 1 t)) r l = P m c (⟨t.val * 512 + r.val, by have := lt_t t; omega⟩ : Fin 16384) ⟨2048 + l.val, by omega⟩ := by
  unfold irow P prj
  refine Finset.sum_congr rfl fun k _ => ?_
  refine congrArg₂ (· * ·) (row4_at m c t r k) ?_
  exact (blk3_at m c t k l).trans (dif_pos h)

theorem irow_hi (r : Fin 512) (l : Fin 128) (h : ¬ l.val < 72) :
    irow (iblk m c 3 t) (k0_pay4 (F := Ideal) (iblk m c 0 t) (iblk m c 1 t)) r l = 0 := by
  unfold irow
  refine Finset.sum_eq_zero fun k _ => ?_
  refine (congrArg₂ (· * ·) rfl ((blk3_at m c t k l).trans (dif_neg h))).trans (mul_zero _)

theorem gRot_at (o : Fin 1537) (ho : o.val % 128 = 0) (r j : Fin 512) :
    gRot (iblk m c 0 t) (iblk m c 1 t) (iblk m c 2 t) (iblk m c 5 t) (iblk m c 6 t) (iblk m c 7 t) o r j =
      rope (P m c (⟨t.val * 512 + r.val, by have := lt_t t; omega⟩ : Fin 16384)) (Ref.tab (A3 m c) (⟨t.val * 512 + r.val, by have := lt_t t; omega⟩ : Fin 16384)) (Ref.tab (A4 m c) (⟨t.val * 512 + r.val, by have := lt_t t; omega⟩ : Fin 16384)) ⟨o.val + j.val, by omega⟩ := by
  unfold gRot rotv
  beta_reduce
  rw [row8_at, row8_at, row8_at, blk5_at, blk6_at, blk7_at, tabpos, tabpos]
  refine rope_tab _ _ _ _ _ _ _ _ (show (o.val + j.val) % 64 = j.val % 128 % 64 by omega) ?_ (fun h => ?_) (fun h => ?_)
  · exact congrArg (P m c _) (Fin.ext (show o.val + j.val / 128 * 128 + j.val % 128 = o.val + j.val by omega))
  · have h' : (o.val + j.val) % 64 < 8 := h
    exact congrArg (P m c _) (Fin.ext (show o.val + j.val / 128 * 128 + (j.val % 128 + 128 - 120) % 128 = o.val + j.val + 8 by omega))
  · have h' : 8 ≤ (o.val + j.val) % 64 := h
    exact congrArg (P m c _) (Fin.ext (show o.val + j.val / 128 * 128 + (j.val % 128 + 128 - 8) % 128 = o.val + j.val - 8 by omega))

theorem irot_at (r : Fin 512) (l : Fin 128) (hl : l.val < 64) :
    irot (iblk m c 3 t) (iblk m c 5 t) (iblk m c 6 t) (iblk m c 7 t) (k0_pay4 (F := Ideal) (iblk m c 0 t) (iblk m c 1 t)) r l =
      rope (P m c (⟨t.val * 512 + r.val, by have := lt_t t; omega⟩ : Fin 16384)) (Ref.tab (A3 m c) (⟨t.val * 512 + r.val, by have := lt_t t; omega⟩ : Fin 16384)) (Ref.tab (A4 m c) (⟨t.val * 512 + r.val, by have := lt_t t; omega⟩ : Fin 16384)) ⟨2048 + l.val, by omega⟩ := by
  unfold irot
  rw [blk5_at, blk6_at, blk7_at, tabpos, tabpos]
  refine rope_tab _ _ _ _ _ _ _ _ (show (2048 + l.val) % 64 = l.val % 64 by omega) ?_ (fun h => ?_) (fun h => ?_)
  · exact irow_lo m c t r l (by omega)
  · have h' : (2048 + l.val) % 64 < 8 := h
    refine (irow_lo m c t r _ (show (l.val + 128 - 120) % 128 < 72 by omega)).trans ?_
    exact congrArg (P m c _) (Fin.ext (show 2048 + (l.val + 128 - 120) % 128 = 2048 + l.val + 8 by omega))
  · have h' : 8 ≤ (2048 + l.val) % 64 := h
    refine (irow_lo m c t r _ (show (l.val + 128 - 8) % 128 < 72 by omega)).trans ?_
    exact congrArg (P m c _) (Fin.ext (show 2048 + (l.val + 128 - 8) % 128 = 2048 + l.val - 8 by omega))

/-! ## The nine results -/

def res0 : FVec Ideal S16384x512 .bf16 := Ref.o0 (Ref.proj (A0 m c) (A1 m c) (A2 m c)) (A3 m c) (A4 m c)
def res1 : FVec Ideal S16384x512 .bf16 := Ref.o1 (Ref.proj (A0 m c) (A1 m c) (A2 m c)) (A3 m c) (A4 m c)
def res2 : FVec Ideal S4x576x4096 .bf16 := Ref.o2 (Ref.proj (A0 m c) (A1 m c) (A2 m c))
def res3 : FVec Ideal S16384x512 .bf16 := Ref.o3 (Ref.proj (A0 m c) (A1 m c) (A2 m c)) (A3 m c) (A4 m c)
def res4 : FVec Ideal S16384x128 .bf16 := Ref.o4 (Ref.proj (A0 m c) (A1 m c) (A2 m c)) (A3 m c) (A4 m c)
def res5 : FVec Ideal S16384x128 .bf16 := Ref.o5 (Ref.proj (A0 m c) (A1 m c) (A2 m c)) (A3 m c) (A4 m c)
def res6 : FVec Ideal S16384x128 .f32 := Ref.o6 (Ref.proj (A0 m c) (A1 m c) (A2 m c))
def res7 : FVec Ideal S16384x256 .f32 := Ref.o7 (Ref.proj (A0 m c) (A1 m c) (A2 m c))
def res8 : FVec Ideal S16384x256 .bf16 := Ref.o8 (Ref.proj (A0 m c) (A1 m c) (A2 m c))

theorem val8 (r : Fin 512) (j : Fin 512) : (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res0 m c (ix2 (⟨t.val * 512 + r.val, by have := lt_t t; omega⟩ : Fin 16384) j) := by
  refine (out8_at _ _ _ _ _ _ _ _ _ _ _ _ _ _ _ _ _ _ _ _ _ _ _ _ _ _ _ _ _ _ _ _ _ _ _ _ _ _ _ _ _ _ _ _ r j).trans (Eq.trans ?_ (Ref.o0_at _ _ _ _ _).symm)
  rw [proj_row]
  exact congrArg (· * Ideal.ofBits FTy.f32 1043900987#32) (gRot_at m c t ⟨0, by decide⟩ (by decide) r j)

theorem val9 (r : Fin 512) (j : Fin 512) : (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res1 m c (ix2 (⟨t.val * 512 + r.val, by have := lt_t t; omega⟩ : Fin 16384) j) := by
  refine (out9_at _ _ _ _ _ _ _ _ _ _ _ _ _ _ _ _ _ _ _ _ _ _ _ _ _ _ _ _ _ _ _ _ _ _ _ _ _ _ _ _ _ _ _ _ r j).trans (Eq.trans ?_ (Ref.o1_at _ _ _ _ _).symm)
  rw [proj_row]
  exact gRot_at m c t ⟨512, by decide⟩ (by decide) r j

theorem val10 (h : Fin 576) (r : Fin 512) : (out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix3 0 h r) : EReal) =
    res2 m c (ix3 (⟨t.val / 8, by have := lt_t t; omega⟩ : Fin 4) h (⟨t.val % 8 * 512 + r.val, by omega⟩ : Fin 4096)) := by
  refine (out10_at _ _ _ _ _ _ _ _ _ _ _ _ _ _ _ _ _ _ _ _ _ _ _ _ _ _ _ _ _ _ _ _ _ _ _ _ _ _ _ _ _ _ _ _ h r).trans (Eq.trans ?_ (Ref.o2_at _ _ _ _).symm)
  unfold gVt
  by_cases q : h.val % 144 < 128
  · rw [dif_pos q, dif_pos q]
    refine (row8_at m c t r _).trans ?_
    refine Eq.trans ?_ (Ref.proj_at _ _ _ _ _).symm
    refine congrArg₂ (P m c) (Fin.ext ?_) (Fin.ext ?_)
    · show t.val * 512 + r.val = t.val / 8 * 4096 + (t.val % 8 * 512 + r.val)
      omega
    · show 1024 + h.val / 144 * 128 + h.val % 144 = 1024 + (h.val / 144 * 128 + h.val % 144)
      omega
  · rw [dif_neg q, dif_neg q]
    exact Ideal.ofBits_one_bf16

theorem val11 (r : Fin 512) (j : Fin 512) : (out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res3 m c (ix2 (⟨t.val * 512 + r.val, by have := lt_t t; omega⟩ : Fin 16384) j) := by
  refine (out11_at _ _ _ _ _ _ _ _ _ _ _ _ _ _ _ _ _ _ _ _ _ _ _ _ _ _ _ _ _ _ _ _ _ _ _ _ _ _ _ _ _ _ _ _ r j).trans (Eq.trans ?_ (Ref.o3_at _ _ _ _ _).symm)
  rw [proj_row]
  exact congrArg (· * Ideal.ofBits FTy.f32 1040187392#32) (gRot_at m c t ⟨1536, by decide⟩ (by decide) r j)

theorem val12 (r : Fin 512) (j : Fin 128) : (out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res4 m c (ix2 (⟨t.val * 512 + r.val, by have := lt_t t; omega⟩ : Fin 16384) j) := by
  refine (out12_at _ _ _ _ _ _ _ _ _ _ _ _ _ _ _ _ _ _ _ _ _ _ _ _ _ _ _ _ _ _ _ _ _ _ _ _ _ _ _ _ _ _ _ _ r j).trans (Eq.trans ?_ (Ref.o4_at _ _ _ _ _).symm)
  rw [proj_row]
  by_cases h : j.val < 64
  · rw [if_pos h, dif_pos h]; exact irot_at m c t r j h
  · rw [if_neg h, dif_neg h]

theorem val13 (r : Fin 512) (j : Fin 128) : (out0_A_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res5 m c (ix2 (⟨t.val * 512 + r.val, by have := lt_t t; omega⟩ : Fin 16384) j) := by
  refine (out13_at _ _ _ _ _ _ _ _ _ _ _ _ _ _ _ _ _ _ _ _ _ _ _ _ _ _ _ _ _ _ _ _ _ _ _ _ _ _ _ _ _ _ _ _ r j).trans (Eq.trans ?_ (Ref.o5_at _ _ _ _ _).symm)
  rw [proj_row]
  by_cases h : j.val < 64
  · rw [dif_pos h, if_neg (by omega)]
  · rw [dif_neg h, if_pos (by omega)]
    refine (irot_at m c t r _ (show (j.val + 128 - 64) % 128 < 64 by omega)).trans ?_
    exact congrArg (rope _ _ _) (Fin.ext (show 2048 + (j.val + 128 - 64) % 128 = 2048 + (j.val - 64) by omega))

theorem val14 (r : Fin 512) (j : Fin 128) : (out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res6 m c (ix2 (⟨t.val * 512 + r.val, by have := lt_t t; omega⟩ : Fin 16384) j) := by
  refine (out14_at _ _ _ _ _ _ _ _ _ _ _ _ _ _ _ _ _ _ _ _ _ _ _ _ _ _ _ _ _ _ _ _ _ _ _ _ _ _ _ _ _ _ _ _ r j).trans (Eq.trans ?_ (Ref.o6_at _ _ _).symm)
  refine congrArg (· * Ideal.ofBits FTy.f32 1052050675#32) ?_
  by_cases h : j.val < 64
  · rw [dif_pos h]
    exact (irow_lo m c t r j (by omega)).trans (Ref.proj_at _ _ _ _ _).symm
  · rw [dif_neg h]
    by_cases h' : j.val < 72
    · rw [dif_pos (by omega)]
      refine (irow_lo m c t r j h').trans (Eq.trans ?_ (Ref.proj_at _ _ _ _ _).symm)
      exact congrArg (P m c _) (Fin.ext (show 2048 + j.val = 2112 + (j.val - 64) by omega))
    · rw [dif_neg (by omega)]
      exact irow_hi m c t r j h'

theorem val15 (r : Fin 512) (j : Fin 256) : (out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res7 m c (ix2 (⟨t.val * 512 + r.val, by have := lt_t t; omega⟩ : Fin 16384) j) := by
  refine (out15_at _ _ _ _ _ _ _ _ _ _ _ _ _ _ _ _ _ _ _ _ _ _ _ _ _ _ _ _ _ _ _ _ _ _ _ _ _ _ _ _ _ _ _ _ r j).trans (Eq.trans ?_ (Ref.o7_at _ _ _).symm)
  refine Eq.trans ?_ (Ref.proj_at _ _ _ _ _).symm
  refine Finset.sum_congr rfl fun k _ => ?_
  refine congrArg₂ (· * ·) (row4_at m c t r k) ((blk4_at m c t k ⟨j.val, by omega⟩).trans ?_)
  exact congrArg (fun j => A2 m c (ix2 k j)) (Fin.ext (show 2120 + (j.val) = 2120 + j.val by omega))

theorem val16 (r : Fin 512) (j : Fin 256) : (out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (iblk m c 0 t) (iblk m c 1 t) (iblk m c 2 t) (iblk m c 3 t) (iblk m c 4 t) (iblk m c 5 t) (iblk m c 6 t) (iblk m c 7 t) (ix2 r j) : EReal) = res8 m c (ix2 (⟨t.val * 512 + r.val, by have := lt_t t; omega⟩ : Fin 16384) j) := by
  refine (out16_at _ _ _ _ _ _ _ _ _ _ _ _ _ _ _ _ _ _ _ _ _ _ _ _ _ _ _ _ _ _ _ _ _ _ _ _ _ _ _ _ _ _ _ _ r j).trans (Eq.trans ?_ (Ref.o8_at _ _ _).symm)
  refine congrArg (· * Ideal.ofBits FTy.f32 1040187392#32) ?_
  refine Eq.trans ?_ (Ref.proj_at _ _ _ _ _).symm
  refine Finset.sum_congr rfl fun k _ => ?_
  refine congrArg₂ (· * ·) (row4_at m c t r k) ((blk4_at m c t k ⟨256 + j.val, by omega⟩).trans ?_)
  exact congrArg (fun j => A2 m c (ix2 k j)) (Fin.ext (show 2120 + (256 + j.val) = 2376 + j.val by omega))

end Cert.Inp

end
-- ==== Proof.Inp.Equal.lean ====
/-
  The nine arrays of the kernel are the reference's, and both programs end with them.
-/
module

public import proofs.«01_k».proof.Defs
public import proofs.«01_k».proof.Proof.Inp.Final
public import proofs.«01_k».proof.Proof.Gen.Kernel2Ideal.Value
public import proofs.«01_k».proof.Proof.Gen.Reference2Ideal.Run
import Idealize.ShloMosaic.Lib.Pipeline.Value

@[expose] public section

set_option maxRecDepth 16384
set_option maxHeartbeats 1600000

noncomputable section

namespace Cert.Inp

open Idealize.ShloMosaic Idealize.ShloMosaic.TcCoe Idealize.SL.Sem
open Idealize.ShloMosaic.Pipeline (Dat Cfg Window)
open Cert.Kernel2Ideal Cert.Kernel2Ideal.Gen

variable (m : (ℓ : Loc nD τ sig) → Buf (Elt Ideal) ℓ) (c : Dev nD)

theorem emb8 (t : Fin cfg0.N) (r : Fin 512) (j : Fin 512) : ((cfg0.win 8).blk t).view.emb (ix2 r j) = (ix2 (⟨t.val * 512 + r.val, by have := lt_t t; omega⟩ : Fin 16384) j) := by
  refine funext fun x => Fin.ext ?_
  refine (Window.rect_emb_val (cfg0.win 8) t (ix2 r j) x).trans ?_
  have q : (cfg0.win 8).index t = ![t.val, 0] := index8 t
  rw [q]
  match x with
  | ⟨0, _⟩ => rfl
  | ⟨1, _⟩ => exact Nat.zero_add _

theorem cover8 (i : S16384x512.Idx) : ∃ t : Fin cfg0.N, (cfg0.win 8).flush t = true ∧ i ∈ ((cfg0.win 8).blk t).view.set := by
  have h0 : (i 0).val < 16384 := (i 0).isLt
  have hN : (i 0).val / 512 < cfg0.N := lt_of_lt_of_eq (show (i 0).val / 512 < 32 by omega) N_0.symm
  have e := emb8 ⟨(i 0).val / 512, hN⟩ ⟨(i 0).val % 512, Nat.mod_lt _ (by decide)⟩ ⟨(i 1).val, (i 1).isLt⟩
  refine ⟨⟨(i 0).val / 512, hN⟩, flush8 _, ?_⟩
  have q := ((cfg0.win 8).blk ⟨(i 0).val / 512, hN⟩).view.emb_mem_set (ix2 (⟨(i 0).val % 512, Nat.mod_lt _ (by decide)⟩ : Fin 512) (⟨(i 1).val, (i 1).isLt⟩ : Fin 512))
  refine (congrArg (· ∈ ((cfg0.win 8).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block8 (t : Fin cfg0.N) : (dats m 0 c).flushed 8 t = ((cfg0.win 8).blk t).view.read (Elt Ideal) (res0 m c) := by
  refine (Cert.Kernel2Ideal.Value.flushed8_A m c t).trans ?_
  refine funext fun (y : S512x512.Idx) => ?_
  have hy : y = ix2 (⟨(y 0).val, (y 0).isLt⟩ : Fin 512) (⟨(y 1).val, (y 1).isLt⟩ : Fin 512) := by
    funext x
    match x with
    | ⟨0, _⟩ => rfl
    | ⟨1, _⟩ => rfl
  rw [hy]
  exact (val8 m c t _ _).trans (congrArg (res0 m c) (emb8 t _ _).symm)

theorem arr8 : (dats m 0 c).arrAt 8 cfg0.N = res0 m c :=
  (dats m 0 c).arrAt_eq_of_cover 8 (res0 m c) (fun t _ => block8 m c t) (fun i => cover8 i)

theorem emb9 (t : Fin cfg0.N) (r : Fin 512) (j : Fin 512) : ((cfg0.win 9).blk t).view.emb (ix2 r j) = (ix2 (⟨t.val * 512 + r.val, by have := lt_t t; omega⟩ : Fin 16384) j) := by
  refine funext fun x => Fin.ext ?_
  refine (Window.rect_emb_val (cfg0.win 9) t (ix2 r j) x).trans ?_
  have q : (cfg0.win 9).index t = ![t.val, 0] := index9 t
  rw [q]
  match x with
  | ⟨0, _⟩ => rfl
  | ⟨1, _⟩ => exact Nat.zero_add _

theorem cover9 (i : S16384x512.Idx) : ∃ t : Fin cfg0.N, (cfg0.win 9).flush t = true ∧ i ∈ ((cfg0.win 9).blk t).view.set := by
  have h0 : (i 0).val < 16384 := (i 0).isLt
  have hN : (i 0).val / 512 < cfg0.N := lt_of_lt_of_eq (show (i 0).val / 512 < 32 by omega) N_0.symm
  have e := emb9 ⟨(i 0).val / 512, hN⟩ ⟨(i 0).val % 512, Nat.mod_lt _ (by decide)⟩ ⟨(i 1).val, (i 1).isLt⟩
  refine ⟨⟨(i 0).val / 512, hN⟩, flush9 _, ?_⟩
  have q := ((cfg0.win 9).blk ⟨(i 0).val / 512, hN⟩).view.emb_mem_set (ix2 (⟨(i 0).val % 512, Nat.mod_lt _ (by decide)⟩ : Fin 512) (⟨(i 1).val, (i 1).isLt⟩ : Fin 512))
  refine (congrArg (· ∈ ((cfg0.win 9).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block9 (t : Fin cfg0.N) : (dats m 0 c).flushed 9 t = ((cfg0.win 9).blk t).view.read (Elt Ideal) (res1 m c) := by
  refine (Cert.Kernel2Ideal.Value.flushed9_A m c t).trans ?_
  refine funext fun (y : S512x512.Idx) => ?_
  have hy : y = ix2 (⟨(y 0).val, (y 0).isLt⟩ : Fin 512) (⟨(y 1).val, (y 1).isLt⟩ : Fin 512) := by
    funext x
    match x with
    | ⟨0, _⟩ => rfl
    | ⟨1, _⟩ => rfl
  rw [hy]
  exact (val9 m c t _ _).trans (congrArg (res1 m c) (emb9 t _ _).symm)

theorem arr9 : (dats m 0 c).arrAt 9 cfg0.N = res1 m c :=
  (dats m 0 c).arrAt_eq_of_cover 9 (res1 m c) (fun t _ => block9 m c t) (fun i => cover9 i)

theorem emb10 (t : Fin cfg0.N) (h : Fin 576) (r : Fin 512) : ((cfg0.win 10).blk t).view.emb (ix3 0 h r) = (ix3 (⟨t.val / 8, by have := lt_t t; omega⟩ : Fin 4) h (⟨t.val % 8 * 512 + r.val, by omega⟩ : Fin 4096)) := by
  refine funext fun x => Fin.ext ?_
  refine (Window.rect_emb_val (cfg0.win 10) t (ix3 0 h r) x).trans ?_
  have q : (cfg0.win 10).index t = ![t.val / 8, 0, t.val % 8] := index10 t
  rw [q]
  match x with
  | ⟨0, _⟩ => exact (Nat.add_zero _).trans (Nat.mul_one _)
  | ⟨1, _⟩ => exact Nat.zero_add _
  | ⟨2, _⟩ => rfl

theorem cover10 (i : S4x576x4096.Idx) : ∃ t : Fin cfg0.N, (cfg0.win 10).flush t = true ∧ i ∈ ((cfg0.win 10).blk t).view.set := by
  have h0 : (i 0).val < 4 := (i 0).isLt
  have h2 : (i 2).val < 4096 := (i 2).isLt
  have hN : (i 0).val * 8 + (i 2).val / 512 < cfg0.N := lt_of_lt_of_eq (show (i 0).val * 8 + (i 2).val / 512 < 32 by omega) N_0.symm
  have e := emb10 ⟨(i 0).val * 8 + (i 2).val / 512, hN⟩ ⟨(i 1).val, (i 1).isLt⟩ ⟨(i 2).val % 512, Nat.mod_lt _ (by decide)⟩
  refine ⟨⟨(i 0).val * 8 + (i 2).val / 512, hN⟩, flush10 _, ?_⟩
  have q := ((cfg0.win 10).blk ⟨(i 0).val * 8 + (i 2).val / 512, hN⟩).view.emb_mem_set (ix3 (0 : Fin 1) (⟨(i 1).val, (i 1).isLt⟩ : Fin 576) (⟨(i 2).val % 512, Nat.mod_lt _ (by decide)⟩ : Fin 512))
  refine (congrArg (· ∈ ((cfg0.win 10).blk ⟨(i 0).val * 8 + (i 2).val / 512, hN⟩).view.set) (e.trans ?_)).mp q
  funext x
  match x with
  | ⟨0, _⟩ => exact Fin.ext (show ((i 0).val * 8 + (i 2).val / 512) / 8 = (i 0).val by omega)
  | ⟨1, _⟩ => rfl
  | ⟨2, _⟩ => exact Fin.ext (show ((i 0).val * 8 + (i 2).val / 512) % 8 * 512 + (i 2).val % 512 = (i 2).val by omega)

theorem block10 (t : Fin cfg0.N) : (dats m 0 c).flushed 10 t = ((cfg0.win 10).blk t).view.read (Elt Ideal) (res2 m c) := by
  refine (Cert.Kernel2Ideal.Value.flushed10_A m c t).trans ?_
  refine funext fun (y : S1x576x512.Idx) => ?_
  have hy : y = ix3 (0 : Fin 1) (⟨(y 1).val, (y 1).isLt⟩ : Fin 576) (⟨(y 2).val, (y 2).isLt⟩ : Fin 512) := by
    funext x
    match x with
    | ⟨0, _⟩ => exact Subsingleton.elim (α := Fin 1) _ _
    | ⟨1, _⟩ => rfl
    | ⟨2, _⟩ => rfl
  rw [hy]
  exact (val10 m c t _ _).trans (congrArg (res2 m c) (emb10 t _ _).symm)

theorem arr10 : (dats m 0 c).arrAt 10 cfg0.N = res2 m c :=
  (dats m 0 c).arrAt_eq_of_cover 10 (res2 m c) (fun t _ => block10 m c t) (fun i => cover10 i)

theorem emb11 (t : Fin cfg0.N) (r : Fin 512) (j : Fin 512) : ((cfg0.win 11).blk t).view.emb (ix2 r j) = (ix2 (⟨t.val * 512 + r.val, by have := lt_t t; omega⟩ : Fin 16384) j) := by
  refine funext fun x => Fin.ext ?_
  refine (Window.rect_emb_val (cfg0.win 11) t (ix2 r j) x).trans ?_
  have q : (cfg0.win 11).index t = ![t.val, 0] := index11 t
  rw [q]
  match x with
  | ⟨0, _⟩ => rfl
  | ⟨1, _⟩ => exact Nat.zero_add _

theorem cover11 (i : S16384x512.Idx) : ∃ t : Fin cfg0.N, (cfg0.win 11).flush t = true ∧ i ∈ ((cfg0.win 11).blk t).view.set := by
  have h0 : (i 0).val < 16384 := (i 0).isLt
  have hN : (i 0).val / 512 < cfg0.N := lt_of_lt_of_eq (show (i 0).val / 512 < 32 by omega) N_0.symm
  have e := emb11 ⟨(i 0).val / 512, hN⟩ ⟨(i 0).val % 512, Nat.mod_lt _ (by decide)⟩ ⟨(i 1).val, (i 1).isLt⟩
  refine ⟨⟨(i 0).val / 512, hN⟩, flush11 _, ?_⟩
  have q := ((cfg0.win 11).blk ⟨(i 0).val / 512, hN⟩).view.emb_mem_set (ix2 (⟨(i 0).val % 512, Nat.mod_lt _ (by decide)⟩ : Fin 512) (⟨(i 1).val, (i 1).isLt⟩ : Fin 512))
  refine (congrArg (· ∈ ((cfg0.win 11).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block11 (t : Fin cfg0.N) : (dats m 0 c).flushed 11 t = ((cfg0.win 11).blk t).view.read (Elt Ideal) (res3 m c) := by
  refine (Cert.Kernel2Ideal.Value.flushed11_A m c t).trans ?_
  refine funext fun (y : S512x512.Idx) => ?_
  have hy : y = ix2 (⟨(y 0).val, (y 0).isLt⟩ : Fin 512) (⟨(y 1).val, (y 1).isLt⟩ : Fin 512) := by
    funext x
    match x with
    | ⟨0, _⟩ => rfl
    | ⟨1, _⟩ => rfl
  rw [hy]
  exact (val11 m c t _ _).trans (congrArg (res3 m c) (emb11 t _ _).symm)

theorem arr11 : (dats m 0 c).arrAt 11 cfg0.N = res3 m c :=
  (dats m 0 c).arrAt_eq_of_cover 11 (res3 m c) (fun t _ => block11 m c t) (fun i => cover11 i)

theorem emb12 (t : Fin cfg0.N) (r : Fin 512) (j : Fin 128) : ((cfg0.win 12).blk t).view.emb (ix2 r j) = (ix2 (⟨t.val * 512 + r.val, by have := lt_t t; omega⟩ : Fin 16384) j) := by
  refine funext fun x => Fin.ext ?_
  refine (Window.rect_emb_val (cfg0.win 12) t (ix2 r j) x).trans ?_
  have q : (cfg0.win 12).index t = ![t.val, 0] := index12 t
  rw [q]
  match x with
  | ⟨0, _⟩ => rfl
  | ⟨1, _⟩ => exact Nat.zero_add _

theorem cover12 (i : S16384x128.Idx) : ∃ t : Fin cfg0.N, (cfg0.win 12).flush t = true ∧ i ∈ ((cfg0.win 12).blk t).view.set := by
  have h0 : (i 0).val < 16384 := (i 0).isLt
  have hN : (i 0).val / 512 < cfg0.N := lt_of_lt_of_eq (show (i 0).val / 512 < 32 by omega) N_0.symm
  have e := emb12 ⟨(i 0).val / 512, hN⟩ ⟨(i 0).val % 512, Nat.mod_lt _ (by decide)⟩ ⟨(i 1).val, (i 1).isLt⟩
  refine ⟨⟨(i 0).val / 512, hN⟩, flush12 _, ?_⟩
  have q := ((cfg0.win 12).blk ⟨(i 0).val / 512, hN⟩).view.emb_mem_set (ix2 (⟨(i 0).val % 512, Nat.mod_lt _ (by decide)⟩ : Fin 512) (⟨(i 1).val, (i 1).isLt⟩ : Fin 128))
  refine (congrArg (· ∈ ((cfg0.win 12).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block12 (t : Fin cfg0.N) : (dats m 0 c).flushed 12 t = ((cfg0.win 12).blk t).view.read (Elt Ideal) (res4 m c) := by
  refine (Cert.Kernel2Ideal.Value.flushed12_A m c t).trans ?_
  refine funext fun (y : S512x128.Idx) => ?_
  have hy : y = ix2 (⟨(y 0).val, (y 0).isLt⟩ : Fin 512) (⟨(y 1).val, (y 1).isLt⟩ : Fin 128) := by
    funext x
    match x with
    | ⟨0, _⟩ => rfl
    | ⟨1, _⟩ => rfl
  rw [hy]
  exact (val12 m c t _ _).trans (congrArg (res4 m c) (emb12 t _ _).symm)

theorem arr12 : (dats m 0 c).arrAt 12 cfg0.N = res4 m c :=
  (dats m 0 c).arrAt_eq_of_cover 12 (res4 m c) (fun t _ => block12 m c t) (fun i => cover12 i)

theorem emb13 (t : Fin cfg0.N) (r : Fin 512) (j : Fin 128) : ((cfg0.win 13).blk t).view.emb (ix2 r j) = (ix2 (⟨t.val * 512 + r.val, by have := lt_t t; omega⟩ : Fin 16384) j) := by
  refine funext fun x => Fin.ext ?_
  refine (Window.rect_emb_val (cfg0.win 13) t (ix2 r j) x).trans ?_
  have q : (cfg0.win 13).index t = ![t.val, 0] := index13 t
  rw [q]
  match x with
  | ⟨0, _⟩ => rfl
  | ⟨1, _⟩ => exact Nat.zero_add _

theorem cover13 (i : S16384x128.Idx) : ∃ t : Fin cfg0.N, (cfg0.win 13).flush t = true ∧ i ∈ ((cfg0.win 13).blk t).view.set := by
  have h0 : (i 0).val < 16384 := (i 0).isLt
  have hN : (i 0).val / 512 < cfg0.N := lt_of_lt_of_eq (show (i 0).val / 512 < 32 by omega) N_0.symm
  have e := emb13 ⟨(i 0).val / 512, hN⟩ ⟨(i 0).val % 512, Nat.mod_lt _ (by decide)⟩ ⟨(i 1).val, (i 1).isLt⟩
  refine ⟨⟨(i 0).val / 512, hN⟩, flush13 _, ?_⟩
  have q := ((cfg0.win 13).blk ⟨(i 0).val / 512, hN⟩).view.emb_mem_set (ix2 (⟨(i 0).val % 512, Nat.mod_lt _ (by decide)⟩ : Fin 512) (⟨(i 1).val, (i 1).isLt⟩ : Fin 128))
  refine (congrArg (· ∈ ((cfg0.win 13).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block13 (t : Fin cfg0.N) : (dats m 0 c).flushed 13 t = ((cfg0.win 13).blk t).view.read (Elt Ideal) (res5 m c) := by
  refine (Cert.Kernel2Ideal.Value.flushed13_A m c t).trans ?_
  refine funext fun (y : S512x128.Idx) => ?_
  have hy : y = ix2 (⟨(y 0).val, (y 0).isLt⟩ : Fin 512) (⟨(y 1).val, (y 1).isLt⟩ : Fin 128) := by
    funext x
    match x with
    | ⟨0, _⟩ => rfl
    | ⟨1, _⟩ => rfl
  rw [hy]
  exact (val13 m c t _ _).trans (congrArg (res5 m c) (emb13 t _ _).symm)

theorem arr13 : (dats m 0 c).arrAt 13 cfg0.N = res5 m c :=
  (dats m 0 c).arrAt_eq_of_cover 13 (res5 m c) (fun t _ => block13 m c t) (fun i => cover13 i)

theorem emb14 (t : Fin cfg0.N) (r : Fin 512) (j : Fin 128) : ((cfg0.win 14).blk t).view.emb (ix2 r j) = (ix2 (⟨t.val * 512 + r.val, by have := lt_t t; omega⟩ : Fin 16384) j) := by
  refine funext fun x => Fin.ext ?_
  refine (Window.rect_emb_val (cfg0.win 14) t (ix2 r j) x).trans ?_
  have q : (cfg0.win 14).index t = ![t.val, 0] := index14 t
  rw [q]
  match x with
  | ⟨0, _⟩ => rfl
  | ⟨1, _⟩ => exact Nat.zero_add _

theorem cover14 (i : S16384x128.Idx) : ∃ t : Fin cfg0.N, (cfg0.win 14).flush t = true ∧ i ∈ ((cfg0.win 14).blk t).view.set := by
  have h0 : (i 0).val < 16384 := (i 0).isLt
  have hN : (i 0).val / 512 < cfg0.N := lt_of_lt_of_eq (show (i 0).val / 512 < 32 by omega) N_0.symm
  have e := emb14 ⟨(i 0).val / 512, hN⟩ ⟨(i 0).val % 512, Nat.mod_lt _ (by decide)⟩ ⟨(i 1).val, (i 1).isLt⟩
  refine ⟨⟨(i 0).val / 512, hN⟩, flush14 _, ?_⟩
  have q := ((cfg0.win 14).blk ⟨(i 0).val / 512, hN⟩).view.emb_mem_set (ix2 (⟨(i 0).val % 512, Nat.mod_lt _ (by decide)⟩ : Fin 512) (⟨(i 1).val, (i 1).isLt⟩ : Fin 128))
  refine (congrArg (· ∈ ((cfg0.win 14).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block14 (t : Fin cfg0.N) : (dats m 0 c).flushed 14 t = ((cfg0.win 14).blk t).view.read (Elt Ideal) (res6 m c) := by
  refine (Cert.Kernel2Ideal.Value.flushed14_A m c t).trans ?_
  refine funext fun (y : S512x128.Idx) => ?_
  have hy : y = ix2 (⟨(y 0).val, (y 0).isLt⟩ : Fin 512) (⟨(y 1).val, (y 1).isLt⟩ : Fin 128) := by
    funext x
    match x with
    | ⟨0, _⟩ => rfl
    | ⟨1, _⟩ => rfl
  rw [hy]
  exact (val14 m c t _ _).trans (congrArg (res6 m c) (emb14 t _ _).symm)

theorem arr14 : (dats m 0 c).arrAt 14 cfg0.N = res6 m c :=
  (dats m 0 c).arrAt_eq_of_cover 14 (res6 m c) (fun t _ => block14 m c t) (fun i => cover14 i)

theorem emb15 (t : Fin cfg0.N) (r : Fin 512) (j : Fin 256) : ((cfg0.win 15).blk t).view.emb (ix2 r j) = (ix2 (⟨t.val * 512 + r.val, by have := lt_t t; omega⟩ : Fin 16384) j) := by
  refine funext fun x => Fin.ext ?_
  refine (Window.rect_emb_val (cfg0.win 15) t (ix2 r j) x).trans ?_
  have q : (cfg0.win 15).index t = ![t.val, 0] := index15 t
  rw [q]
  match x with
  | ⟨0, _⟩ => rfl
  | ⟨1, _⟩ => exact Nat.zero_add _

theorem cover15 (i : S16384x256.Idx) : ∃ t : Fin cfg0.N, (cfg0.win 15).flush t = true ∧ i ∈ ((cfg0.win 15).blk t).view.set := by
  have h0 : (i 0).val < 16384 := (i 0).isLt
  have hN : (i 0).val / 512 < cfg0.N := lt_of_lt_of_eq (show (i 0).val / 512 < 32 by omega) N_0.symm
  have e := emb15 ⟨(i 0).val / 512, hN⟩ ⟨(i 0).val % 512, Nat.mod_lt _ (by decide)⟩ ⟨(i 1).val, (i 1).isLt⟩
  refine ⟨⟨(i 0).val / 512, hN⟩, flush15 _, ?_⟩
  have q := ((cfg0.win 15).blk ⟨(i 0).val / 512, hN⟩).view.emb_mem_set (ix2 (⟨(i 0).val % 512, Nat.mod_lt _ (by decide)⟩ : Fin 512) (⟨(i 1).val, (i 1).isLt⟩ : Fin 256))
  refine (congrArg (· ∈ ((cfg0.win 15).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block15 (t : Fin cfg0.N) : (dats m 0 c).flushed 15 t = ((cfg0.win 15).blk t).view.read (Elt Ideal) (res7 m c) := by
  refine (Cert.Kernel2Ideal.Value.flushed15_A m c t).trans ?_
  refine funext fun (y : S512x256.Idx) => ?_
  have hy : y = ix2 (⟨(y 0).val, (y 0).isLt⟩ : Fin 512) (⟨(y 1).val, (y 1).isLt⟩ : Fin 256) := by
    funext x
    match x with
    | ⟨0, _⟩ => rfl
    | ⟨1, _⟩ => rfl
  rw [hy]
  exact (val15 m c t _ _).trans (congrArg (res7 m c) (emb15 t _ _).symm)

theorem arr15 : (dats m 0 c).arrAt 15 cfg0.N = res7 m c :=
  (dats m 0 c).arrAt_eq_of_cover 15 (res7 m c) (fun t _ => block15 m c t) (fun i => cover15 i)

theorem emb16 (t : Fin cfg0.N) (r : Fin 512) (j : Fin 256) : ((cfg0.win 16).blk t).view.emb (ix2 r j) = (ix2 (⟨t.val * 512 + r.val, by have := lt_t t; omega⟩ : Fin 16384) j) := by
  refine funext fun x => Fin.ext ?_
  refine (Window.rect_emb_val (cfg0.win 16) t (ix2 r j) x).trans ?_
  have q : (cfg0.win 16).index t = ![t.val, 0] := index16 t
  rw [q]
  match x with
  | ⟨0, _⟩ => rfl
  | ⟨1, _⟩ => exact Nat.zero_add _

theorem cover16 (i : S16384x256.Idx) : ∃ t : Fin cfg0.N, (cfg0.win 16).flush t = true ∧ i ∈ ((cfg0.win 16).blk t).view.set := by
  have h0 : (i 0).val < 16384 := (i 0).isLt
  have hN : (i 0).val / 512 < cfg0.N := lt_of_lt_of_eq (show (i 0).val / 512 < 32 by omega) N_0.symm
  have e := emb16 ⟨(i 0).val / 512, hN⟩ ⟨(i 0).val % 512, Nat.mod_lt _ (by decide)⟩ ⟨(i 1).val, (i 1).isLt⟩
  refine ⟨⟨(i 0).val / 512, hN⟩, flush16 _, ?_⟩
  have q := ((cfg0.win 16).blk ⟨(i 0).val / 512, hN⟩).view.emb_mem_set (ix2 (⟨(i 0).val % 512, Nat.mod_lt _ (by decide)⟩ : Fin 512) (⟨(i 1).val, (i 1).isLt⟩ : Fin 256))
  refine (congrArg (· ∈ ((cfg0.win 16).blk ⟨(i 0).val / 512, hN⟩).view.set) (e.trans ?_)).mp q
  funext x
  match x with
  | ⟨0, _⟩ => exact Fin.ext (show (i 0).val / 512 * 512 + (i 0).val % 512 = (i 0).val by omega)
  | ⟨1, _⟩ => rfl

theorem block16 (t : Fin cfg0.N) : (dats m 0 c).flushed 16 t = ((cfg0.win 16).blk t).view.read (Elt Ideal) (res8 m c) := by
  refine (Cert.Kernel2Ideal.Value.flushed16_A m c t).trans ?_
  refine funext fun (y : S512x256.Idx) => ?_
  have hy : y = ix2 (⟨(y 0).val, (y 0).isLt⟩ : Fin 512) (⟨(y 1).val, (y 1).isLt⟩ : Fin 256) := by
    funext x
    match x with
    | ⟨0, _⟩ => rfl
    | ⟨1, _⟩ => rfl
  rw [hy]
  exact (val16 m c t _ _).trans (congrArg (res8 m c) (emb16 t _ _).symm)

theorem arr16 : (dats m 0 c).arrAt 16 cfg0.N = res8 m c :=
  (dats m 0 c).arrAt_eq_of_cover 16 (res8 m c) (fun t _ => block16 m c t) (fun i => cover16 i)

/-- Kernel and reference at `Ideal` end with equal results. -/
theorem algebraic : Cert.algebraic_Kernel2Ideal_Reference2Ideal := fun m g m' g' _ ha => by
  refine ⟨res0 m, res1 m, res2 m, res3 m, res4 m, res5 m, res6 m, res7 m, res8 m, ?_, ?_⟩
  · refine (θ_run _ _ _).mono (fun r q c => ?_) (Cert.Kernel2Ideal.Value.run_blocks m g)
    obtain ⟨q0, q1, q2, q3, q4, q5, q6, q7, q8, q⟩ := q c
    exact ⟨q0.trans (arr8 m c), q1.trans (arr9 m c), q2.trans (arr10 m c), q3.trans (arr11 m c), q4.trans (arr12 m c), q5.trans (arr13 m c), q6.trans (arr14 m c), q7.trans (arr15 m c), q8.trans (arr16 m c), q⟩
  · refine (θ_run _ _ _).mono (fun r q c => ?_) (Cert.Reference2Ideal.Value.run m' g')
    obtain ⟨q0, q1, q2, q3, q4, q5, q6, q7, q8, q⟩ := q c
    obtain ⟨e0, e1, e2, e3, e4⟩ := ha c
    refine ⟨q0.trans ?_, q1.trans ?_, q2.trans ?_, q3.trans ?_, q4.trans ?_, q5.trans ?_, q6.trans ?_, q7.trans ?_, q8.trans ?_, q⟩
    · refine (show _ = Ref.o0 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) from rfl).trans ?_
      rw [e0, e1, e2, e3, e4]
      rfl
    · refine (show _ = Ref.o1 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) from rfl).trans ?_
      rw [e0, e1, e2, e3, e4]
      rfl
    · refine (show _ = Ref.o2 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) from rfl).trans ?_
      rw [e0, e1, e2]
      rfl
    · refine (show _ = Ref.o3 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) from rfl).trans ?_
      rw [e0, e1, e2, e3, e4]
      rfl
    · refine (show _ = Ref.o4 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) from rfl).trans ?_
      rw [e0, e1, e2, e3, e4]
      rfl
    · refine (show _ = Ref.o5 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) from rfl).trans ?_
      rw [e0, e1, e2, e3, e4]
      rfl
    · refine (show _ = Ref.o6 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) from rfl).trans ?_
      rw [e0, e1, e2]
      rfl
    · refine (show _ = Ref.o7 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) from rfl).trans ?_
      rw [e0, e1, e2]
      rfl
    · refine (show _ = Ref.o8 (Ref.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) from rfl).trans ?_
      rw [e0, e1, e2]
      rfl

end Cert.Inp

end
-- ==== Proof.lean ====
/-
  The claims of this directory. Of the first pair of programs: the frames from `Exp/Kernel` and `Exp/KernelIdeal`, the equation
  from `Exp/Value`. Of the second: the frames as generated, the equation from `Inp`.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_tables
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Exp.Kernel.Law
public import proofs.«01_k».proof.Proof.Exp.KernelIdeal.Law
public import proofs.«01_k».proof.Proof.Exp.Value.Equal
public import proofs.«01_k».proof.Proof.Inp.Equal
public import Idealize.ShloMosaic.Adequacy
public import Idealize.ShloMosaic.Init
import Idealize.ShloMosaic.Lib.Quiescent

@[expose] public section

noncomputable section

namespace Cert.Proof

open Idealize.ShloMosaic Idealize.SL.Sem

/-- The reference runs on the host alone: its arguments stay, and it has no counters. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

theorem reference2_frame : Cert.quiescent_Reference2Ideal := fun m g _ =>
  (θ_run _ _ _).mono (fun r h => ⟨fun c => (h c).2.2.2.2.2.2.2.2.2, sem_eq_zero_of_no_sems (by decide) r.2⟩) (Cert.Reference2Ideal.Value.run m g)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Pre_tables.Gen.facts,
  Cert.Kernel.Exp.frame, Cert.KernelIdeal.Exp.frame, reference_frame, fun m g _ => reference_frame m g trivial,
  fun m g _ => Cert.Kernel2.Gen.frame m g, fun m g _ => Cert.Kernel2Ideal.Gen.frame m g, reference2_frame,
  trivial, Cert.KernelIdeal.Exp.algebraic, trivial, Cert.Inp.algebraic⟩

end Cert.Proof

end
